-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelMkv (m : (ℓ : Loc Cert.KernelMkv.nD Cert.KernelMkv.τ Cert.KernelMkv.sig) → Buf (Elt Bits) ℓ) : Prop :=
  True

def Pre_KernelMkvIdeal (m : (ℓ : Loc Cert.KernelMkvIdeal.nD Cert.KernelMkvIdeal.τ Cert.KernelMkvIdeal.sig) → Buf (Elt Ideal) ℓ) : Prop :=
  True

def Pre_ReferenceMkvIdeal (m : (ℓ : Loc Cert.ReferenceMkvIdeal.nD Cert.ReferenceMkvIdeal.τ Cert.ReferenceMkvIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelMq (m : (ℓ : Loc Cert.KernelMq.nD Cert.KernelMq.τ Cert.KernelMq.sig) → Buf (Elt Bits) ℓ) : Prop :=
  True

def Pre_KernelMqIdeal (m : (ℓ : Loc Cert.KernelMqIdeal.nD Cert.KernelMqIdeal.τ Cert.KernelMqIdeal.sig) → Buf (Elt Ideal) ℓ) : Prop :=
  True

def Pre_ReferenceMqIdeal (m : (ℓ : Loc Cert.ReferenceMqIdeal.nD Cert.ReferenceMqIdeal.τ Cert.ReferenceMqIdeal.sig) → Buf (Elt Ideal) ℓ) : Prop :=
  True

def Pre_KernelMo (m : (ℓ : Loc Cert.KernelMo.nD Cert.KernelMo.τ Cert.KernelMo.sig) → Buf (Elt Bits) ℓ) : Prop :=
  True

def Pre_KernelMoIdeal (m : (ℓ : Loc Cert.KernelMoIdeal.nD Cert.KernelMoIdeal.τ Cert.KernelMoIdeal.sig) → Buf (Elt Ideal) ℓ) : Prop :=
  True

def Pre_ReferenceMoIdeal (m : (ℓ : Loc Cert.ReferenceMoIdeal.nD Cert.ReferenceMoIdeal.τ Cert.ReferenceMoIdeal.sig) → Buf (Elt Ideal) ℓ) : Prop :=
  True

def Pre_KernelXattn (m : (ℓ : Loc Cert.KernelXattn.nD Cert.KernelXattn.τ Cert.KernelXattn.sig) → Buf (Elt Bits) ℓ) : Prop :=
  True

def Pre_KernelXattnIdeal (m : (ℓ : Loc Cert.KernelXattnIdeal.nD Cert.KernelXattnIdeal.τ Cert.KernelXattnIdeal.sig) → Buf (Elt Ideal) ℓ) : Prop :=
  True

def Pre_KernelXattnIdeal_finite_xattn [hPre_finite_xattn : Cert.Pre_finite_xattn.Facts] (m : (ℓ : Loc Cert.KernelXattnIdeal.nD Cert.KernelXattnIdeal.τ Cert.KernelXattnIdeal.sig) → Buf (Elt Ideal) ℓ) : Prop :=
  ∀ c : Dev Cert.KernelXattnIdeal.nD,
    (Cert.Pre_finite_xattn.fn (F := Ideal) (m ((c.tc : Thread Cert.KernelXattnIdeal.nD Cert.KernelXattnIdeal.τ).loc Cert.KernelXattnIdeal.main_arg0)) (m ((c.tc : Thread Cert.KernelXattnIdeal.nD Cert.KernelXattnIdeal.τ).loc Cert.KernelXattnIdeal.main_arg1))) = (fun _ => 1#1)

def Pre_ReferenceXattnIdeal (m : (ℓ : Loc Cert.ReferenceXattnIdeal.nD Cert.ReferenceXattnIdeal.τ Cert.ReferenceXattnIdeal.sig) → Buf (Elt Ideal) ℓ) : Prop :=
  True

def Pre_ReferenceXattnIdeal_finite_xattn [hPre_finite_xattn : Cert.Pre_finite_xattn.Facts] (m : (ℓ : Loc Cert.ReferenceXattnIdeal.nD Cert.ReferenceXattnIdeal.τ Cert.ReferenceXattnIdeal.sig) → Buf (Elt Ideal) ℓ) : Prop :=
  ∀ c : Dev Cert.ReferenceXattnIdeal.nD,
    (Cert.Pre_finite_xattn.fn (F := Ideal) (m ((c.tc : Thread Cert.ReferenceXattnIdeal.nD Cert.ReferenceXattnIdeal.τ).loc Cert.ReferenceXattnIdeal.main_arg0)) (m ((c.tc : Thread Cert.ReferenceXattnIdeal.nD Cert.ReferenceXattnIdeal.τ).loc Cert.ReferenceXattnIdeal.main_arg1))) = (fun _ => 1#1)

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelMkv [hKernelMkv : Cert.KernelMkv.Facts] : Prop :=
  ∀ (m : (ℓ : Loc Cert.KernelMkv.nD Cert.KernelMkv.τ Cert.KernelMkv.sig) → Buf (Elt Bits) ℓ) (g : Dev Cert.KernelMkv.nD → PrngReg), Pre_KernelMkv m →
    θ_run (Cert.KernelMkv.defs (F := Bits)) (onTc (τ := Cert.KernelMkv.τ) (Cert.KernelMkv.main (F := Bits))) ⟨m, fun _ => 0, g⟩ (fun r => (∀ c : Dev Cert.KernelMkv.nD,
      r.2.mem ((c.tc : Thread Cert.KernelMkv.nD Cert.KernelMkv.τ).loc Cert.KernelMkv.main_arg0) = m ((c.tc : Thread Cert.KernelMkv.nD Cert.KernelMkv.τ).loc Cert.KernelMkv.main_arg0)
      ∧ r.2.mem ((c.tc : Thread Cert.KernelMkv.nD Cert.KernelMkv.τ).loc Cert.KernelMkv.main_arg1) = m ((c.tc : Thread Cert.KernelMkv.nD Cert.KernelMkv.τ).loc Cert.KernelMkv.main_arg1)
      ∧ r.2.mem ((c.tc : Thread Cert.KernelMkv.nD Cert.KernelMkv.τ).loc Cert.KernelMkv.main_arg2) = m ((c.tc : Thread Cert.KernelMkv.nD Cert.KernelMkv.τ).loc Cert.KernelMkv.main_arg2))
      ∧ r.2.sem = fun _ => 0)

def quiescent_KernelMkvIdeal [hKernelMkvIdeal : Cert.KernelMkvIdeal.Facts] : Prop :=
  ∀ (m : (ℓ : Loc Cert.KernelMkvIdeal.nD Cert.KernelMkvIdeal.τ Cert.KernelMkvIdeal.sig) → Buf (Elt Ideal) ℓ) (g : Dev Cert.KernelMkvIdeal.nD → PrngReg), Pre_KernelMkvIdeal m →
    θ_run (Cert.KernelMkvIdeal.defs (F := Ideal)) (onTc (τ := Cert.KernelMkvIdeal.τ) (Cert.KernelMkvIdeal.main (F := Ideal))) ⟨m, fun _ => 0, g⟩ (fun r => (∀ c : Dev Cert.KernelMkvIdeal.nD,
      r.2.mem ((c.tc : Thread Cert.KernelMkvIdeal.nD Cert.KernelMkvIdeal.τ).loc Cert.KernelMkvIdeal.main_arg0) = m ((c.tc : Thread Cert.KernelMkvIdeal.nD Cert.KernelMkvIdeal.τ).loc Cert.KernelMkvIdeal.main_arg0)
      ∧ r.2.mem ((c.tc : Thread Cert.KernelMkvIdeal.nD Cert.KernelMkvIdeal.τ).loc Cert.KernelMkvIdeal.main_arg1) = m ((c.tc : Thread Cert.KernelMkvIdeal.nD Cert.KernelMkvIdeal.τ).loc Cert.KernelMkvIdeal.main_arg1)
      ∧ r.2.mem ((c.tc : Thread Cert.KernelMkvIdeal.nD Cert.KernelMkvIdeal.τ).loc Cert.KernelMkvIdeal.main_arg2) = m ((c.tc : Thread Cert.KernelMkvIdeal.nD Cert.KernelMkvIdeal.τ).loc Cert.KernelMkvIdeal.main_arg2))
      ∧ r.2.sem = fun _ => 0)

def quiescent_ReferenceMkvIdeal [hReferenceMkvIdeal : Cert.ReferenceMkvIdeal.Facts] : Prop :=
  ∀ (m : (ℓ : Loc Cert.ReferenceMkvIdeal.nD Cert.ReferenceMkvIdeal.τ Cert.ReferenceMkvIdeal.sig) → Buf (Elt Ideal) ℓ) (g : Dev Cert.ReferenceMkvIdeal.nD → PrngReg), Pre_ReferenceMkvIdeal m →
    θ_run (Cert.ReferenceMkvIdeal.defs (F := Ideal)) (onTc (τ := Cert.ReferenceMkvIdeal.τ) (Cert.ReferenceMkvIdeal.main (F := Ideal))) ⟨m, fun _ => 0, g⟩ (fun r => (∀ c : Dev Cert.ReferenceMkvIdeal.nD,
      r.2.mem ((c.tc : Thread Cert.ReferenceMkvIdeal.nD Cert.ReferenceMkvIdeal.τ).loc Cert.ReferenceMkvIdeal.main_arg0) = m ((c.tc : Thread Cert.ReferenceMkvIdeal.nD Cert.ReferenceMkvIdeal.τ).loc Cert.ReferenceMkvIdeal.main_arg0)
      ∧ r.2.mem ((c.tc : Thread Cert.ReferenceMkvIdeal.nD Cert.ReferenceMkvIdeal.τ).loc Cert.ReferenceMkvIdeal.main_arg1) = m ((c.tc : Thread Cert.ReferenceMkvIdeal.nD Cert.ReferenceMkvIdeal.τ).loc Cert.ReferenceMkvIdeal.main_arg1)
      ∧ r.2.mem ((c.tc : Thread Cert.ReferenceMkvIdeal.nD Cert.ReferenceMkvIdeal.τ).loc Cert.ReferenceMkvIdeal.main_arg2) = m ((c.tc : Thread Cert.ReferenceMkvIdeal.nD Cert.ReferenceMkvIdeal.τ).loc Cert.ReferenceMkvIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def quiescent_KernelMq [hKernelMq : Cert.KernelMq.Facts] : Prop :=
  ∀ (m : (ℓ : Loc Cert.KernelMq.nD Cert.KernelMq.τ Cert.KernelMq.sig) → Buf (Elt Bits) ℓ) (g : Dev Cert.KernelMq.nD → PrngReg), Pre_KernelMq m →
    θ_run (Cert.KernelMq.defs (F := Bits)) (onTc (τ := Cert.KernelMq.τ) (Cert.KernelMq.main (F := Bits))) ⟨m, fun _ => 0, g⟩ (fun r => (∀ c : Dev Cert.KernelMq.nD,
      r.2.mem ((c.tc : Thread Cert.KernelMq.nD Cert.KernelMq.τ).loc Cert.KernelMq.main_arg0) = m ((c.tc : Thread Cert.KernelMq.nD Cert.KernelMq.τ).loc Cert.KernelMq.main_arg0)
      ∧ r.2.mem ((c.tc : Thread Cert.KernelMq.nD Cert.KernelMq.τ).loc Cert.KernelMq.main_arg1) = m ((c.tc : Thread Cert.KernelMq.nD Cert.KernelMq.τ).loc Cert.KernelMq.main_arg1)
      ∧ r.2.mem ((c.tc : Thread Cert.KernelMq.nD Cert.KernelMq.τ).loc Cert.KernelMq.main_arg2) = m ((c.tc : Thread Cert.KernelMq.nD Cert.KernelMq.τ).loc Cert.KernelMq.main_arg2))
      ∧ r.2.sem = fun _ => 0)

def quiescent_KernelMqIdeal [hKernelMqIdeal : Cert.KernelMqIdeal.Facts] : Prop :=
  ∀ (m : (ℓ : Loc Cert.KernelMqIdeal.nD Cert.KernelMqIdeal.τ Cert.KernelMqIdeal.sig) → Buf (Elt Ideal) ℓ) (g : Dev Cert.KernelMqIdeal.nD → PrngReg), Pre_KernelMqIdeal m →
    θ_run (Cert.KernelMqIdeal.defs (F := Ideal)) (onTc (τ := Cert.KernelMqIdeal.τ) (Cert.KernelMqIdeal.main (F := Ideal))) ⟨m, fun _ => 0, g⟩ (fun r => (∀ c : Dev Cert.KernelMqIdeal.nD,
      r.2.mem ((c.tc : Thread Cert.KernelMqIdeal.nD Cert.KernelMqIdeal.τ).loc Cert.KernelMqIdeal.main_arg0) = m ((c.tc : Thread Cert.KernelMqIdeal.nD Cert.KernelMqIdeal.τ).loc Cert.KernelMqIdeal.main_arg0)
      ∧ r.2.mem ((c.tc : Thread Cert.KernelMqIdeal.nD Cert.KernelMqIdeal.τ).loc Cert.KernelMqIdeal.main_arg1) = m ((c.tc : Thread Cert.KernelMqIdeal.nD Cert.KernelMqIdeal.τ).loc Cert.KernelMqIdeal.main_arg1)
      ∧ r.2.mem ((c.tc : Thread Cert.KernelMqIdeal.nD Cert.KernelMqIdeal.τ).loc Cert.KernelMqIdeal.main_arg2) = m ((c.tc : Thread Cert.KernelMqIdeal.nD Cert.KernelMqIdeal.τ).loc Cert.KernelMqIdeal.main_arg2))
      ∧ r.2.sem = fun _ => 0)

def quiescent_ReferenceMqIdeal [hReferenceMqIdeal : Cert.ReferenceMqIdeal.Facts] : Prop :=
  ∀ (m : (ℓ : Loc Cert.ReferenceMqIdeal.nD Cert.ReferenceMqIdeal.τ Cert.ReferenceMqIdeal.sig) → Buf (Elt Ideal) ℓ) (g : Dev Cert.ReferenceMqIdeal.nD → PrngReg), Pre_ReferenceMqIdeal m →
    θ_run (Cert.ReferenceMqIdeal.defs (F := Ideal)) (onTc (τ := Cert.ReferenceMqIdeal.τ) (Cert.ReferenceMqIdeal.main (F := Ideal))) ⟨m, fun _ => 0, g⟩ (fun r => (∀ c : Dev Cert.ReferenceMqIdeal.nD,
      r.2.mem ((c.tc : Thread Cert.ReferenceMqIdeal.nD Cert.ReferenceMqIdeal.τ).loc Cert.ReferenceMqIdeal.main_arg0) = m ((c.tc : Thread Cert.ReferenceMqIdeal.nD Cert.ReferenceMqIdeal.τ).loc Cert.ReferenceMqIdeal.main_arg0)
      ∧ r.2.mem ((c.tc : Thread Cert.ReferenceMqIdeal.nD Cert.ReferenceMqIdeal.τ).loc Cert.ReferenceMqIdeal.main_arg1) = m ((c.tc : Thread Cert.ReferenceMqIdeal.nD Cert.ReferenceMqIdeal.τ).loc Cert.ReferenceMqIdeal.main_arg1)
      ∧ r.2.mem ((c.tc : Thread Cert.ReferenceMqIdeal.nD Cert.ReferenceMqIdeal.τ).loc Cert.ReferenceMqIdeal.main_arg2) = m ((c.tc : Thread Cert.ReferenceMqIdeal.nD Cert.ReferenceMqIdeal.τ).loc Cert.ReferenceMqIdeal.main_arg2))
      ∧ r.2.sem = fun _ => 0)

def quiescent_KernelMo [hKernelMo : Cert.KernelMo.Facts] : Prop :=
  ∀ (m : (ℓ : Loc Cert.KernelMo.nD Cert.KernelMo.τ Cert.KernelMo.sig) → Buf (Elt Bits) ℓ) (g : Dev Cert.KernelMo.nD → PrngReg), Pre_KernelMo m →
    θ_run (Cert.KernelMo.defs (F := Bits)) (onTc (τ := Cert.KernelMo.τ) (Cert.KernelMo.main (F := Bits))) ⟨m, fun _ => 0, g⟩ (fun r => (∀ c : Dev Cert.KernelMo.nD,
      r.2.mem ((c.tc : Thread Cert.KernelMo.nD Cert.KernelMo.τ).loc Cert.KernelMo.main_arg0) = m ((c.tc : Thread Cert.KernelMo.nD Cert.KernelMo.τ).loc Cert.KernelMo.main_arg0)
      ∧ r.2.mem ((c.tc : Thread Cert.KernelMo.nD Cert.KernelMo.τ).loc Cert.KernelMo.main_arg1) = m ((c.tc : Thread Cert.KernelMo.nD Cert.KernelMo.τ).loc Cert.KernelMo.main_arg1)
      ∧ r.2.mem ((c.tc : Thread Cert.KernelMo.nD Cert.KernelMo.τ).loc Cert.KernelMo.main_arg2) = m ((c.tc : Thread Cert.KernelMo.nD Cert.KernelMo.τ).loc Cert.KernelMo.main_arg2)
      ∧ r.2.mem ((c.tc : Thread Cert.KernelMo.nD Cert.KernelMo.τ).loc Cert.KernelMo.main_arg3) = m ((c.tc : Thread Cert.KernelMo.nD Cert.KernelMo.τ).loc Cert.KernelMo.main_arg3))
      ∧ r.2.sem = fun _ => 0)

def quiescent_KernelMoIdeal [hKernelMoIdeal : Cert.KernelMoIdeal.Facts] : Prop :=
  ∀ (m : (ℓ : Loc Cert.KernelMoIdeal.nD Cert.KernelMoIdeal.τ Cert.KernelMoIdeal.sig) → Buf (Elt Ideal) ℓ) (g : Dev Cert.KernelMoIdeal.nD → PrngReg), Pre_KernelMoIdeal m →
    θ_run (Cert.KernelMoIdeal.defs (F := Ideal)) (onTc (τ := Cert.KernelMoIdeal.τ) (Cert.KernelMoIdeal.main (F := Ideal))) ⟨m, fun _ => 0, g⟩ (fun r => (∀ c : Dev Cert.KernelMoIdeal.nD,
      r.2.mem ((c.tc : Thread Cert.KernelMoIdeal.nD Cert.KernelMoIdeal.τ).loc Cert.KernelMoIdeal.main_arg0) = m ((c.tc : Thread Cert.KernelMoIdeal.nD Cert.KernelMoIdeal.τ).loc Cert.KernelMoIdeal.main_arg0)
      ∧ r.2.mem ((c.tc : Thread Cert.KernelMoIdeal.nD Cert.KernelMoIdeal.τ).loc Cert.KernelMoIdeal.main_arg1) = m ((c.tc : Thread Cert.KernelMoIdeal.nD Cert.KernelMoIdeal.τ).loc Cert.KernelMoIdeal.main_arg1)
      ∧ r.2.mem ((c.tc : Thread Cert.KernelMoIdeal.nD Cert.KernelMoIdeal.τ).loc Cert.KernelMoIdeal.main_arg2) = m ((c.tc : Thread Cert.KernelMoIdeal.nD Cert.KernelMoIdeal.τ).loc Cert.KernelMoIdeal.main_arg2)
      ∧ r.2.mem ((c.tc : Thread Cert.KernelMoIdeal.nD Cert.KernelMoIdeal.τ).loc Cert.KernelMoIdeal.main_arg3) = m ((c.tc : Thread Cert.KernelMoIdeal.nD Cert.KernelMoIdeal.τ).loc Cert.KernelMoIdeal.main_arg3))
      ∧ r.2.sem = fun _ => 0)

def quiescent_ReferenceMoIdeal [hReferenceMoIdeal : Cert.ReferenceMoIdeal.Facts] : Prop :=
  ∀ (m : (ℓ : Loc Cert.ReferenceMoIdeal.nD Cert.ReferenceMoIdeal.τ Cert.ReferenceMoIdeal.sig) → Buf (Elt Ideal) ℓ) (g : Dev Cert.ReferenceMoIdeal.nD → PrngReg), Pre_ReferenceMoIdeal m →
    θ_run (Cert.ReferenceMoIdeal.defs (F := Ideal)) (onTc (τ := Cert.ReferenceMoIdeal.τ) (Cert.ReferenceMoIdeal.main (F := Ideal))) ⟨m, fun _ => 0, g⟩ (fun r => (∀ c : Dev Cert.ReferenceMoIdeal.nD,
      r.2.mem ((c.tc : Thread Cert.ReferenceMoIdeal.nD Cert.ReferenceMoIdeal.τ).loc Cert.ReferenceMoIdeal.main_arg0) = m ((c.tc : Thread Cert.ReferenceMoIdeal.nD Cert.ReferenceMoIdeal.τ).loc Cert.ReferenceMoIdeal.main_arg0)
      ∧ r.2.mem ((c.tc : Thread Cert.ReferenceMoIdeal.nD Cert.ReferenceMoIdeal.τ).loc Cert.ReferenceMoIdeal.main_arg1) = m ((c.tc : Thread Cert.ReferenceMoIdeal.nD Cert.ReferenceMoIdeal.τ).loc Cert.ReferenceMoIdeal.main_arg1)
      ∧ r.2.mem ((c.tc : Thread Cert.ReferenceMoIdeal.nD Cert.ReferenceMoIdeal.τ).loc Cert.ReferenceMoIdeal.main_arg2) = m ((c.tc : Thread Cert.ReferenceMoIdeal.nD Cert.ReferenceMoIdeal.τ).loc Cert.ReferenceMoIdeal.main_arg2)
      ∧ r.2.mem ((c.tc : Thread Cert.ReferenceMoIdeal.nD Cert.ReferenceMoIdeal.τ).loc Cert.ReferenceMoIdeal.main_arg3) = m ((c.tc : Thread Cert.ReferenceMoIdeal.nD Cert.ReferenceMoIdeal.τ).loc Cert.ReferenceMoIdeal.main_arg3))
      ∧ r.2.sem = fun _ => 0)

def quiescent_KernelXattn [hKernelXattn : Cert.KernelXattn.Facts] : Prop :=
  ∀ (m : (ℓ : Loc Cert.KernelXattn.nD Cert.KernelXattn.τ Cert.KernelXattn.sig) → Buf (Elt Bits) ℓ) (g : Dev Cert.KernelXattn.nD → PrngReg), Pre_KernelXattn m →
    θ_run (Cert.KernelXattn.defs (F := Bits)) (onTc (τ := Cert.KernelXattn.τ) (Cert.KernelXattn.main (F := Bits))) ⟨m, fun _ => 0, g⟩ (fun r => (∀ c : Dev Cert.KernelXattn.nD,
      r.2.mem ((c.tc : Thread Cert.KernelXattn.nD Cert.KernelXattn.τ).loc Cert.KernelXattn.main_arg0) = m ((c.tc : Thread Cert.KernelXattn.nD Cert.KernelXattn.τ).loc Cert.KernelXattn.main_arg0)
      ∧ r.2.mem ((c.tc : Thread Cert.KernelXattn.nD Cert.KernelXattn.τ).loc Cert.KernelXattn.main_arg1) = m ((c.tc : Thread Cert.KernelXattn.nD Cert.KernelXattn.τ).loc Cert.KernelXattn.main_arg1))
      ∧ r.2.sem = fun _ => 0)

def quiescent_KernelXattnIdeal [hKernelXattnIdeal : Cert.KernelXattnIdeal.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg), Pre_KernelXattnIdeal m →
    θ_run (Cert.KernelXattnIdeal.defs (F := Ideal)) (onTc (τ := Cert.KernelXattnIdeal.τ) (Cert.KernelXattnIdeal.main (F := Ideal))) ⟨m, fun _ => 0, g⟩ (fun r => (∀ c : Dev Cert.KernelXattnIdeal.nD,
      r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
      ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1))
      ∧ r.2.sem = fun _ => 0)

def quiescent_KernelXattnIdeal_pre_finite_xattn [hKernelXattnIdeal : Cert.KernelXattnIdeal.Facts] [hPre_finite_xattn : Cert.Pre_finite_xattn.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg), Pre_KernelXattnIdeal_finite_xattn m →
    θ_run (Cert.KernelXattnIdeal.defs (F := Ideal)) (onTc (τ := Cert.KernelXattnIdeal.τ) (Cert.KernelXattnIdeal.main (F := Ideal))) ⟨m, fun _ => 0, g⟩ (fun r => (∀ c : Dev Cert.KernelXattnIdeal.nD,
      r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
      ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1))
      ∧ r.2.sem = fun _ => 0)

def quiescent_ReferenceXattnIdeal [hReferenceXattnIdeal : Cert.ReferenceXattnIdeal.Facts] : Prop :=
  ∀ (m : (ℓ : Loc Cert.ReferenceXattnIdeal.nD Cert.ReferenceXattnIdeal.τ Cert.ReferenceXattnIdeal.sig) → Buf (Elt Ideal) ℓ) (g : Dev Cert.ReferenceXattnIdeal.nD → PrngReg), Pre_ReferenceXattnIdeal m →
    θ_run (Cert.ReferenceXattnIdeal.defs (F := Ideal)) (onTc (τ := Cert.ReferenceXattnIdeal.τ) (Cert.ReferenceXattnIdeal.main (F := Ideal))) ⟨m, fun _ => 0, g⟩ (fun r => (∀ c : Dev Cert.ReferenceXattnIdeal.nD,
      r.2.mem ((c.tc : Thread Cert.ReferenceXattnIdeal.nD Cert.ReferenceXattnIdeal.τ).loc Cert.ReferenceXattnIdeal.main_arg0) = m ((c.tc : Thread Cert.ReferenceXattnIdeal.nD Cert.ReferenceXattnIdeal.τ).loc Cert.ReferenceXattnIdeal.main_arg0)
      ∧ r.2.mem ((c.tc : Thread Cert.ReferenceXattnIdeal.nD Cert.ReferenceXattnIdeal.τ).loc Cert.ReferenceXattnIdeal.main_arg1) = m ((c.tc : Thread Cert.ReferenceXattnIdeal.nD Cert.ReferenceXattnIdeal.τ).loc Cert.ReferenceXattnIdeal.main_arg1))
      ∧ r.2.sem = fun _ => 0)

def quiescent_ReferenceXattnIdeal_pre_finite_xattn [hReferenceXattnIdeal : Cert.ReferenceXattnIdeal.Facts] [hPre_finite_xattn : Cert.Pre_finite_xattn.Facts] : Prop :=
  ∀ (m : (ℓ : Loc Cert.ReferenceXattnIdeal.nD Cert.ReferenceXattnIdeal.τ Cert.ReferenceXattnIdeal.sig) → Buf (Elt Ideal) ℓ) (g : Dev Cert.ReferenceXattnIdeal.nD → PrngReg), Pre_ReferenceXattnIdeal_finite_xattn m →
    θ_run (Cert.ReferenceXattnIdeal.defs (F := Ideal)) (onTc (τ := Cert.ReferenceXattnIdeal.τ) (Cert.ReferenceXattnIdeal.main (F := Ideal))) ⟨m, fun _ => 0, g⟩ (fun r => (∀ c : Dev Cert.ReferenceXattnIdeal.nD,
      r.2.mem ((c.tc : Thread Cert.ReferenceXattnIdeal.nD Cert.ReferenceXattnIdeal.τ).loc Cert.ReferenceXattnIdeal.main_arg0) = m ((c.tc : Thread Cert.ReferenceXattnIdeal.nD Cert.ReferenceXattnIdeal.τ).loc Cert.ReferenceXattnIdeal.main_arg0)
      ∧ r.2.mem ((c.tc : Thread Cert.ReferenceXattnIdeal.nD Cert.ReferenceXattnIdeal.τ).loc Cert.ReferenceXattnIdeal.main_arg1) = m ((c.tc : Thread Cert.ReferenceXattnIdeal.nD Cert.ReferenceXattnIdeal.τ).loc Cert.ReferenceXattnIdeal.main_arg1))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4)
      ∧ r.2.mem ((c.tc : Thread Cert.KernelProj.nD Cert.KernelProj.τ).loc Cert.KernelProj.main_arg5) = m ((c.tc : Thread Cert.KernelProj.nD Cert.KernelProj.τ).loc Cert.KernelProj.main_arg5))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4)
      ∧ r.2.mem ((c.tc : Thread Cert.ReferenceProjIdeal.nD Cert.ReferenceProjIdeal.τ).loc Cert.ReferenceProjIdeal.main_arg5) = m ((c.tc : Thread Cert.ReferenceProjIdeal.nD Cert.ReferenceProjIdeal.τ).loc Cert.ReferenceProjIdeal.main_arg5))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v2) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v16) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v15) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelMkv_KernelMkvIdeal : Prop :=
  True

def algebraic_KernelMkvIdeal_ReferenceMkvIdeal [hKernelMkvIdeal : Cert.KernelMkvIdeal.Facts] [hReferenceMkvIdeal : Cert.ReferenceMkvIdeal.Facts] : Prop :=
  ∀ (m : (ℓ : Loc Cert.KernelMkvIdeal.nD Cert.KernelMkvIdeal.τ Cert.KernelMkvIdeal.sig) → Buf (Elt Ideal) ℓ) (g : Dev Cert.KernelMkvIdeal.nD → PrngReg)
    (m' : (ℓ : Loc Cert.ReferenceMkvIdeal.nD Cert.ReferenceMkvIdeal.τ Cert.ReferenceMkvIdeal.sig) → Buf (Elt Ideal) ℓ) (g' : Dev Cert.ReferenceMkvIdeal.nD → PrngReg), Pre_KernelMkvIdeal m →
    (∀ c : Dev Cert.KernelMkvIdeal.nD,
      m' ((c.tc : Thread Cert.ReferenceMkvIdeal.nD Cert.ReferenceMkvIdeal.τ).loc Cert.ReferenceMkvIdeal.main_arg0) = m ((c.tc : Thread Cert.KernelMkvIdeal.nD Cert.KernelMkvIdeal.τ).loc Cert.KernelMkvIdeal.main_arg0)
      ∧ m' ((c.tc : Thread Cert.ReferenceMkvIdeal.nD Cert.ReferenceMkvIdeal.τ).loc Cert.ReferenceMkvIdeal.main_arg1) = m ((c.tc : Thread Cert.KernelMkvIdeal.nD Cert.KernelMkvIdeal.τ).loc Cert.KernelMkvIdeal.main_arg1)
      ∧ m' ((c.tc : Thread Cert.ReferenceMkvIdeal.nD Cert.ReferenceMkvIdeal.τ).loc Cert.ReferenceMkvIdeal.main_arg2) = m ((c.tc : Thread Cert.KernelMkvIdeal.nD Cert.KernelMkvIdeal.τ).loc Cert.KernelMkvIdeal.main_arg2)) →
    ∃ (v0 : (c : Dev Cert.KernelMkvIdeal.nD) → Buf (Elt Ideal) ((c.tc : Thread Cert.KernelMkvIdeal.nD Cert.KernelMkvIdeal.τ).loc Cert.KernelMkvIdeal.main_v3)),
      θ_run (Cert.KernelMkvIdeal.defs (F := Ideal)) (onTc (τ := Cert.KernelMkvIdeal.τ) (Cert.KernelMkvIdeal.main (F := Ideal))) ⟨m, fun _ => 0, g⟩ (fun r => ∀ c : Dev Cert.KernelMkvIdeal.nD,
          r.2.mem ((c.tc : Thread Cert.KernelMkvIdeal.nD Cert.KernelMkvIdeal.τ).loc Cert.KernelMkvIdeal.main_v3) = v0 c
          ∧ r.2.mem ((c.tc : Thread Cert.KernelMkvIdeal.nD Cert.KernelMkvIdeal.τ).loc Cert.KernelMkvIdeal.main_arg0) = m ((c.tc : Thread Cert.KernelMkvIdeal.nD Cert.KernelMkvIdeal.τ).loc Cert.KernelMkvIdeal.main_arg0)
          ∧ r.2.mem ((c.tc : Thread Cert.KernelMkvIdeal.nD Cert.KernelMkvIdeal.τ).loc Cert.KernelMkvIdeal.main_arg1) = m ((c.tc : Thread Cert.KernelMkvIdeal.nD Cert.KernelMkvIdeal.τ).loc Cert.KernelMkvIdeal.main_arg1)
          ∧ r.2.mem ((c.tc : Thread Cert.KernelMkvIdeal.nD Cert.KernelMkvIdeal.τ).loc Cert.KernelMkvIdeal.main_arg2) = m ((c.tc : Thread Cert.KernelMkvIdeal.nD Cert.KernelMkvIdeal.τ).loc Cert.KernelMkvIdeal.main_arg2))
      ∧ θ_run (Cert.ReferenceMkvIdeal.defs (F := Ideal)) (onTc (τ := Cert.ReferenceMkvIdeal.τ) (Cert.ReferenceMkvIdeal.main (F := Ideal))) ⟨m', fun _ => 0, g'⟩ (fun r => ∀ c : Dev Cert.ReferenceMkvIdeal.nD,
          r.2.mem ((c.tc : Thread Cert.ReferenceMkvIdeal.nD Cert.ReferenceMkvIdeal.τ).loc Cert.ReferenceMkvIdeal.main_v14) = v0 c
          ∧ r.2.mem ((c.tc : Thread Cert.ReferenceMkvIdeal.nD Cert.ReferenceMkvIdeal.τ).loc Cert.ReferenceMkvIdeal.main_arg0) = m' ((c.tc : Thread Cert.ReferenceMkvIdeal.nD Cert.ReferenceMkvIdeal.τ).loc Cert.ReferenceMkvIdeal.main_arg0)
          ∧ r.2.mem ((c.tc : Thread Cert.ReferenceMkvIdeal.nD Cert.ReferenceMkvIdeal.τ).loc Cert.ReferenceMkvIdeal.main_arg1) = m' ((c.tc : Thread Cert.ReferenceMkvIdeal.nD Cert.ReferenceMkvIdeal.τ).loc Cert.ReferenceMkvIdeal.main_arg1)
          ∧ r.2.mem ((c.tc : Thread Cert.ReferenceMkvIdeal.nD Cert.ReferenceMkvIdeal.τ).loc Cert.ReferenceMkvIdeal.main_arg2) = m' ((c.tc : Thread Cert.ReferenceMkvIdeal.nD Cert.ReferenceMkvIdeal.τ).loc Cert.ReferenceMkvIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)) →
    ∃ (v0 : (c : Dev Cert.KernelOutIdeal.nD) → Buf (Elt Ideal) ((c.tc : Thread Cert.KernelOutIdeal.nD Cert.KernelOutIdeal.τ).loc Cert.KernelOutIdeal.main_v5)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v5) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v18) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5))

def preserves_KernelMq_KernelMqIdeal : Prop :=
  True

def algebraic_KernelMqIdeal_ReferenceMqIdeal [hKernelMqIdeal : Cert.KernelMqIdeal.Facts] [hReferenceMqIdeal : Cert.ReferenceMqIdeal.Facts] : Prop :=
  ∀ (m : (ℓ : Loc Cert.KernelMqIdeal.nD Cert.KernelMqIdeal.τ Cert.KernelMqIdeal.sig) → Buf (Elt Ideal) ℓ) (g : Dev Cert.KernelMqIdeal.nD → PrngReg)
    (m' : (ℓ : Loc Cert.ReferenceMqIdeal.nD Cert.ReferenceMqIdeal.τ Cert.ReferenceMqIdeal.sig) → Buf (Elt Ideal) ℓ) (g' : Dev Cert.ReferenceMqIdeal.nD → PrngReg), Pre_KernelMqIdeal m →
    (∀ c : Dev Cert.KernelMqIdeal.nD,
      m' ((c.tc : Thread Cert.ReferenceMqIdeal.nD Cert.ReferenceMqIdeal.τ).loc Cert.ReferenceMqIdeal.main_arg0) = m ((c.tc : Thread Cert.KernelMqIdeal.nD Cert.KernelMqIdeal.τ).loc Cert.KernelMqIdeal.main_arg0)
      ∧ m' ((c.tc : Thread Cert.ReferenceMqIdeal.nD Cert.ReferenceMqIdeal.τ).loc Cert.ReferenceMqIdeal.main_arg1) = m ((c.tc : Thread Cert.KernelMqIdeal.nD Cert.KernelMqIdeal.τ).loc Cert.KernelMqIdeal.main_arg1)
      ∧ m' ((c.tc : Thread Cert.ReferenceMqIdeal.nD Cert.ReferenceMqIdeal.τ).loc Cert.ReferenceMqIdeal.main_arg2) = m ((c.tc : Thread Cert.KernelMqIdeal.nD Cert.KernelMqIdeal.τ).loc Cert.KernelMqIdeal.main_arg2)) →
    ∃ (v0 : (c : Dev Cert.KernelMqIdeal.nD) → Buf (Elt Ideal) ((c.tc : Thread Cert.KernelMqIdeal.nD Cert.KernelMqIdeal.τ).loc Cert.KernelMqIdeal.main_v2)),
      θ_run (Cert.KernelMqIdeal.defs (F := Ideal)) (onTc (τ := Cert.KernelMqIdeal.τ) (Cert.KernelMqIdeal.main (F := Ideal))) ⟨m, fun _ => 0, g⟩ (fun r => ∀ c : Dev Cert.KernelMqIdeal.nD,
          r.2.mem ((c.tc : Thread Cert.KernelMqIdeal.nD Cert.KernelMqIdeal.τ).loc Cert.KernelMqIdeal.main_v2) = v0 c
          ∧ r.2.mem ((c.tc : Thread Cert.KernelMqIdeal.nD Cert.KernelMqIdeal.τ).loc Cert.KernelMqIdeal.main_arg0) = m ((c.tc : Thread Cert.KernelMqIdeal.nD Cert.KernelMqIdeal.τ).loc Cert.KernelMqIdeal.main_arg0)
          ∧ r.2.mem ((c.tc : Thread Cert.KernelMqIdeal.nD Cert.KernelMqIdeal.τ).loc Cert.KernelMqIdeal.main_arg1) = m ((c.tc : Thread Cert.KernelMqIdeal.nD Cert.KernelMqIdeal.τ).loc Cert.KernelMqIdeal.main_arg1)
          ∧ r.2.mem ((c.tc : Thread Cert.KernelMqIdeal.nD Cert.KernelMqIdeal.τ).loc Cert.KernelMqIdeal.main_arg2) = m ((c.tc : Thread Cert.KernelMqIdeal.nD Cert.KernelMqIdeal.τ).loc Cert.KernelMqIdeal.main_arg2))
      ∧ θ_run (Cert.ReferenceMqIdeal.defs (F := Ideal)) (onTc (τ := Cert.ReferenceMqIdeal.τ) (Cert.ReferenceMqIdeal.main (F := Ideal))) ⟨m', fun _ => 0, g'⟩ (fun r => ∀ c : Dev Cert.ReferenceMqIdeal.nD,
          r.2.mem ((c.tc : Thread Cert.ReferenceMqIdeal.nD Cert.ReferenceMqIdeal.τ).loc Cert.ReferenceMqIdeal.main_v14) = v0 c
          ∧ r.2.mem ((c.tc : Thread Cert.ReferenceMqIdeal.nD Cert.ReferenceMqIdeal.τ).loc Cert.ReferenceMqIdeal.main_arg0) = m' ((c.tc : Thread Cert.ReferenceMqIdeal.nD Cert.ReferenceMqIdeal.τ).loc Cert.ReferenceMqIdeal.main_arg0)
          ∧ r.2.mem ((c.tc : Thread Cert.ReferenceMqIdeal.nD Cert.ReferenceMqIdeal.τ).loc Cert.ReferenceMqIdeal.main_arg1) = m' ((c.tc : Thread Cert.ReferenceMqIdeal.nD Cert.ReferenceMqIdeal.τ).loc Cert.ReferenceMqIdeal.main_arg1)
          ∧ r.2.mem ((c.tc : Thread Cert.ReferenceMqIdeal.nD Cert.ReferenceMqIdeal.τ).loc Cert.ReferenceMqIdeal.main_arg2) = m' ((c.tc : Thread Cert.ReferenceMqIdeal.nD Cert.ReferenceMqIdeal.τ).loc Cert.ReferenceMqIdeal.main_arg2))

def preserves_KernelMo_KernelMoIdeal : Prop :=
  True

def algebraic_KernelMoIdeal_ReferenceMoIdeal [hKernelMoIdeal : Cert.KernelMoIdeal.Facts] [hReferenceMoIdeal : Cert.ReferenceMoIdeal.Facts] : Prop :=
  ∀ (m : (ℓ : Loc Cert.KernelMoIdeal.nD Cert.KernelMoIdeal.τ Cert.KernelMoIdeal.sig) → Buf (Elt Ideal) ℓ) (g : Dev Cert.KernelMoIdeal.nD → PrngReg)
    (m' : (ℓ : Loc Cert.ReferenceMoIdeal.nD Cert.ReferenceMoIdeal.τ Cert.ReferenceMoIdeal.sig) → Buf (Elt Ideal) ℓ) (g' : Dev Cert.ReferenceMoIdeal.nD → PrngReg), Pre_KernelMoIdeal m →
    (∀ c : Dev Cert.KernelMoIdeal.nD,
      m' ((c.tc : Thread Cert.ReferenceMoIdeal.nD Cert.ReferenceMoIdeal.τ).loc Cert.ReferenceMoIdeal.main_arg0) = m ((c.tc : Thread Cert.KernelMoIdeal.nD Cert.KernelMoIdeal.τ).loc Cert.KernelMoIdeal.main_arg0)
      ∧ m' ((c.tc : Thread Cert.ReferenceMoIdeal.nD Cert.ReferenceMoIdeal.τ).loc Cert.ReferenceMoIdeal.main_arg1) = m ((c.tc : Thread Cert.KernelMoIdeal.nD Cert.KernelMoIdeal.τ).loc Cert.KernelMoIdeal.main_arg1)
      ∧ m' ((c.tc : Thread Cert.ReferenceMoIdeal.nD Cert.ReferenceMoIdeal.τ).loc Cert.ReferenceMoIdeal.main_arg2) = m ((c.tc : Thread Cert.KernelMoIdeal.nD Cert.KernelMoIdeal.τ).loc Cert.KernelMoIdeal.main_arg2)
      ∧ m' ((c.tc : Thread Cert.ReferenceMoIdeal.nD Cert.ReferenceMoIdeal.τ).loc Cert.ReferenceMoIdeal.main_arg3) = m ((c.tc : Thread Cert.KernelMoIdeal.nD Cert.KernelMoIdeal.τ).loc Cert.KernelMoIdeal.main_arg3)) →
    ∃ (v0 : (c : Dev Cert.KernelMoIdeal.nD) → Buf (Elt Ideal) ((c.tc : Thread Cert.KernelMoIdeal.nD Cert.KernelMoIdeal.τ).loc Cert.KernelMoIdeal.main_v2)),
      θ_run (Cert.KernelMoIdeal.defs (F := Ideal)) (onTc (τ := Cert.KernelMoIdeal.τ) (Cert.KernelMoIdeal.main (F := Ideal))) ⟨m, fun _ => 0, g⟩ (fun r => ∀ c : Dev Cert.KernelMoIdeal.nD,
          r.2.mem ((c.tc : Thread Cert.KernelMoIdeal.nD Cert.KernelMoIdeal.τ).loc Cert.KernelMoIdeal.main_v2) = v0 c
          ∧ r.2.mem ((c.tc : Thread Cert.KernelMoIdeal.nD Cert.KernelMoIdeal.τ).loc Cert.KernelMoIdeal.main_arg0) = m ((c.tc : Thread Cert.KernelMoIdeal.nD Cert.KernelMoIdeal.τ).loc Cert.KernelMoIdeal.main_arg0)
          ∧ r.2.mem ((c.tc : Thread Cert.KernelMoIdeal.nD Cert.KernelMoIdeal.τ).loc Cert.KernelMoIdeal.main_arg1) = m ((c.tc : Thread Cert.KernelMoIdeal.nD Cert.KernelMoIdeal.τ).loc Cert.KernelMoIdeal.main_arg1)
          ∧ r.2.mem ((c.tc : Thread Cert.KernelMoIdeal.nD Cert.KernelMoIdeal.τ).loc Cert.KernelMoIdeal.main_arg2) = m ((c.tc : Thread Cert.KernelMoIdeal.nD Cert.KernelMoIdeal.τ).loc Cert.KernelMoIdeal.main_arg2)
          ∧ r.2.mem ((c.tc : Thread Cert.KernelMoIdeal.nD Cert.KernelMoIdeal.τ).loc Cert.KernelMoIdeal.main_arg3) = m ((c.tc : Thread Cert.KernelMoIdeal.nD Cert.KernelMoIdeal.τ).loc Cert.KernelMoIdeal.main_arg3))
      ∧ θ_run (Cert.ReferenceMoIdeal.defs (F := Ideal)) (onTc (τ := Cert.ReferenceMoIdeal.τ) (Cert.ReferenceMoIdeal.main (F := Ideal))) ⟨m', fun _ => 0, g'⟩ (fun r => ∀ c : Dev Cert.ReferenceMoIdeal.nD,
          r.2.mem ((c.tc : Thread Cert.ReferenceMoIdeal.nD Cert.ReferenceMoIdeal.τ).loc Cert.ReferenceMoIdeal.main_v15) = v0 c
          ∧ r.2.mem ((c.tc : Thread Cert.ReferenceMoIdeal.nD Cert.ReferenceMoIdeal.τ).loc Cert.ReferenceMoIdeal.main_arg0) = m' ((c.tc : Thread Cert.ReferenceMoIdeal.nD Cert.ReferenceMoIdeal.τ).loc Cert.ReferenceMoIdeal.main_arg0)
          ∧ r.2.mem ((c.tc : Thread Cert.ReferenceMoIdeal.nD Cert.ReferenceMoIdeal.τ).loc Cert.ReferenceMoIdeal.main_arg1) = m' ((c.tc : Thread Cert.ReferenceMoIdeal.nD Cert.ReferenceMoIdeal.τ).loc Cert.ReferenceMoIdeal.main_arg1)
          ∧ r.2.mem ((c.tc : Thread Cert.ReferenceMoIdeal.nD Cert.ReferenceMoIdeal.τ).loc Cert.ReferenceMoIdeal.main_arg2) = m' ((c.tc : Thread Cert.ReferenceMoIdeal.nD Cert.ReferenceMoIdeal.τ).loc Cert.ReferenceMoIdeal.main_arg2)
          ∧ r.2.mem ((c.tc : Thread Cert.ReferenceMoIdeal.nD Cert.ReferenceMoIdeal.τ).loc Cert.ReferenceMoIdeal.main_arg3) = m' ((c.tc : Thread Cert.ReferenceMoIdeal.nD Cert.ReferenceMoIdeal.τ).loc Cert.ReferenceMoIdeal.main_arg3))

def preserves_KernelXattn_KernelXattnIdeal : Prop :=
  True

def algebraic_KernelXattnIdeal_ReferenceXattnIdeal_pre_finite_xattn [hKernelXattnIdeal : Cert.KernelXattnIdeal.Facts] [hReferenceXattnIdeal : Cert.ReferenceXattnIdeal.Facts] [hPre_finite_xattn : Cert.Pre_finite_xattn.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg)
    (m' : (ℓ : Loc Cert.ReferenceXattnIdeal.nD Cert.ReferenceXattnIdeal.τ Cert.ReferenceXattnIdeal.sig) → Buf (Elt Ideal) ℓ) (g' : Dev Cert.ReferenceXattnIdeal.nD → PrngReg), Pre_KernelXattnIdeal_finite_xattn m →
    (∀ c : Dev Cert.KernelXattnIdeal.nD,
      m' ((c.tc : Thread Cert.ReferenceXattnIdeal.nD Cert.ReferenceXattnIdeal.τ).loc Cert.ReferenceXattnIdeal.main_arg0) = m ((c.tc : Thread Cert.KernelXattnIdeal.nD Cert.KernelXattnIdeal.τ).loc Cert.KernelXattnIdeal.main_arg0)
      ∧ m' ((c.tc : Thread Cert.ReferenceXattnIdeal.nD Cert.ReferenceXattnIdeal.τ).loc Cert.ReferenceXattnIdeal.main_arg1) = m ((c.tc : Thread Cert.KernelXattnIdeal.nD Cert.KernelXattnIdeal.τ).loc Cert.KernelXattnIdeal.main_arg1)) →
    ∃ (v0 : (c : Dev Cert.KernelXattnIdeal.nD) → Buf (Elt Ideal) ((c.tc : Thread Cert.KernelXattnIdeal.nD Cert.KernelXattnIdeal.τ).loc Cert.KernelXattnIdeal.main_v1)),
      θ_run (Cert.KernelXattnIdeal.defs (F := Ideal)) (onTc (τ := Cert.KernelXattnIdeal.τ) (Cert.KernelXattnIdeal.main (F := Ideal))) ⟨m, fun _ => 0, g⟩ (fun r => ∀ c : Dev Cert.KernelXattnIdeal.nD,
          r.2.mem ((c.tc : Thread Cert.KernelXattnIdeal.nD Cert.KernelXattnIdeal.τ).loc Cert.KernelXattnIdeal.main_v1) = v0 c
          ∧ r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
          ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1))
      ∧ θ_run (Cert.ReferenceXattnIdeal.defs (F := Ideal)) (onTc (τ := Cert.ReferenceXattnIdeal.τ) (Cert.ReferenceXattnIdeal.main (F := Ideal))) ⟨m', fun _ => 0, g'⟩ (fun r => ∀ c : Dev Cert.ReferenceXattnIdeal.nD,
          r.2.mem ((c.tc : Thread Cert.ReferenceXattnIdeal.nD Cert.ReferenceXattnIdeal.τ).loc Cert.ReferenceXattnIdeal.main_v23) = v0 c
          ∧ r.2.mem ((c.tc : Thread Cert.ReferenceXattnIdeal.nD Cert.ReferenceXattnIdeal.τ).loc Cert.ReferenceXattnIdeal.main_arg0) = m' ((c.tc : Thread Cert.ReferenceXattnIdeal.nD Cert.ReferenceXattnIdeal.τ).loc Cert.ReferenceXattnIdeal.main_arg0)
          ∧ r.2.mem ((c.tc : Thread Cert.ReferenceXattnIdeal.nD Cert.ReferenceXattnIdeal.τ).loc Cert.ReferenceXattnIdeal.main_arg1) = m' ((c.tc : Thread Cert.ReferenceXattnIdeal.nD Cert.ReferenceXattnIdeal.τ).loc Cert.ReferenceXattnIdeal.main_arg1))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)
      ∧ m' ((c.tc : Thread Cert.ReferenceProjIdeal.nD Cert.ReferenceProjIdeal.τ).loc Cert.ReferenceProjIdeal.main_arg5) = m ((c.tc : Thread Cert.KernelProjIdeal.nD Cert.KernelProjIdeal.τ).loc Cert.KernelProjIdeal.main_arg5)) →
    ∃ (v0 : (c : Dev Cert.KernelProjIdeal.nD) → Buf (Elt Ideal) ((c.tc : Thread Cert.KernelProjIdeal.nD Cert.KernelProjIdeal.τ).loc Cert.KernelProjIdeal.main_v40_0)) (v1 : (c : Dev Cert.KernelProjIdeal.nD) → Buf (Elt Ideal) ((c.tc : Thread Cert.KernelProjIdeal.nD Cert.KernelProjIdeal.τ).loc Cert.KernelProjIdeal.main_v40_1)) (v2 : (c : Dev Cert.KernelProjIdeal.nD) → Buf (Elt Ideal) ((c.tc : Thread Cert.KernelProjIdeal.nD Cert.KernelProjIdeal.τ).loc Cert.KernelProjIdeal.main_v40_2)) (v3 : (c : Dev Cert.KernelProjIdeal.nD) → Buf (Elt Ideal) ((c.tc : Thread Cert.KernelProjIdeal.nD Cert.KernelProjIdeal.τ).loc Cert.KernelProjIdeal.main_v40_3)) (v4 : (c : Dev Cert.KernelProjIdeal.nD) → Buf (Elt Ideal) ((c.tc : Thread Cert.KernelProjIdeal.nD Cert.KernelProjIdeal.τ).loc Cert.KernelProjIdeal.main_v40_4)) (v5 : (c : Dev Cert.KernelProjIdeal.nD) → Buf (Elt Ideal) ((c.tc : Thread Cert.KernelProjIdeal.nD Cert.KernelProjIdeal.τ).loc Cert.KernelProjIdeal.main_v40_5)) (v6 : (c : Dev Cert.KernelProjIdeal.nD) → Buf (Elt Ideal) ((c.tc : Thread Cert.KernelProjIdeal.nD Cert.KernelProjIdeal.τ).loc Cert.KernelProjIdeal.main_v40_6)) (v7 : (c : Dev Cert.KernelProjIdeal.nD) → Buf (Elt Ideal) ((c.tc : Thread Cert.KernelProjIdeal.nD Cert.KernelProjIdeal.τ).loc Cert.KernelProjIdeal.main_v40_7)) (v8 : (c : Dev Cert.KernelProjIdeal.nD) → Buf (Elt Ideal) ((c.tc : Thread Cert.KernelProjIdeal.nD Cert.KernelProjIdeal.τ).loc Cert.KernelProjIdeal.main_v40_8)) (v9 : (c : Dev Cert.KernelProjIdeal.nD) → Buf (Elt Ideal) ((c.tc : Thread Cert.KernelProjIdeal.nD Cert.KernelProjIdeal.τ).loc Cert.KernelProjIdeal.main_v40_9)) (v10 : (c : Dev Cert.KernelProjIdeal.nD) → Buf (Elt Ideal) ((c.tc : Thread Cert.KernelProjIdeal.nD Cert.KernelProjIdeal.τ).loc Cert.KernelProjIdeal.main_v40_10)) (v11 : (c : Dev Cert.KernelProjIdeal.nD) → Buf (Elt Ideal) ((c.tc : Thread Cert.KernelProjIdeal.nD Cert.KernelProjIdeal.τ).loc Cert.KernelProjIdeal.main_v40_11)) (v12 : (c : Dev Cert.KernelProjIdeal.nD) → Buf (Elt Ideal) ((c.tc : Thread Cert.KernelProjIdeal.nD Cert.KernelProjIdeal.τ).loc Cert.KernelProjIdeal.main_v40_12)) (v13 : (c : Dev Cert.KernelProjIdeal.nD) → Buf (Elt Ideal) ((c.tc : Thread Cert.KernelProjIdeal.nD Cert.KernelProjIdeal.τ).loc Cert.KernelProjIdeal.main_v40_13)) (v14 : (c : Dev Cert.KernelProjIdeal.nD) → Buf (Elt Ideal) ((c.tc : Thread Cert.KernelProjIdeal.nD Cert.KernelProjIdeal.τ).loc Cert.KernelProjIdeal.main_v40_14)) (v15 : (c : Dev Cert.KernelProjIdeal.nD) → Buf (Elt Ideal) ((c.tc : Thread Cert.KernelProjIdeal.nD Cert.KernelProjIdeal.τ).loc Cert.KernelProjIdeal.main_v40_15)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v40_0) = v0 c
          ∧ r.2.mem ((c.tc : Thread Cert.KernelProjIdeal.nD Cert.KernelProjIdeal.τ).loc Cert.KernelProjIdeal.main_v40_1) = v1 c
          ∧ r.2.mem ((c.tc : Thread Cert.KernelProjIdeal.nD Cert.KernelProjIdeal.τ).loc Cert.KernelProjIdeal.main_v40_2) = v2 c
          ∧ r.2.mem ((c.tc : Thread Cert.KernelProjIdeal.nD Cert.KernelProjIdeal.τ).loc Cert.KernelProjIdeal.main_v40_3) = v3 c
          ∧ r.2.mem ((c.tc : Thread Cert.KernelProjIdeal.nD Cert.KernelProjIdeal.τ).loc Cert.KernelProjIdeal.main_v40_4) = v4 c
          ∧ r.2.mem ((c.tc : Thread Cert.KernelProjIdeal.nD Cert.KernelProjIdeal.τ).loc Cert.KernelProjIdeal.main_v40_5) = v5 c
          ∧ r.2.mem ((c.tc : Thread Cert.KernelProjIdeal.nD Cert.KernelProjIdeal.τ).loc Cert.KernelProjIdeal.main_v40_6) = v6 c
          ∧ r.2.mem ((c.tc : Thread Cert.KernelProjIdeal.nD Cert.KernelProjIdeal.τ).loc Cert.KernelProjIdeal.main_v40_7) = v7 c
          ∧ r.2.mem ((c.tc : Thread Cert.KernelProjIdeal.nD Cert.KernelProjIdeal.τ).loc Cert.KernelProjIdeal.main_v40_8) = v8 c
          ∧ r.2.mem ((c.tc : Thread Cert.KernelProjIdeal.nD Cert.KernelProjIdeal.τ).loc Cert.KernelProjIdeal.main_v40_9) = v9 c
          ∧ r.2.mem ((c.tc : Thread Cert.KernelProjIdeal.nD Cert.KernelProjIdeal.τ).loc Cert.KernelProjIdeal.main_v40_10) = v10 c
          ∧ r.2.mem ((c.tc : Thread Cert.KernelProjIdeal.nD Cert.KernelProjIdeal.τ).loc Cert.KernelProjIdeal.main_v40_11) = v11 c
          ∧ r.2.mem ((c.tc : Thread Cert.KernelProjIdeal.nD Cert.KernelProjIdeal.τ).loc Cert.KernelProjIdeal.main_v40_12) = v12 c
          ∧ r.2.mem ((c.tc : Thread Cert.KernelProjIdeal.nD Cert.KernelProjIdeal.τ).loc Cert.KernelProjIdeal.main_v40_13) = v13 c
          ∧ r.2.mem ((c.tc : Thread Cert.KernelProjIdeal.nD Cert.KernelProjIdeal.τ).loc Cert.KernelProjIdeal.main_v40_14) = v14 c
          ∧ r.2.mem ((c.tc : Thread Cert.KernelProjIdeal.nD Cert.KernelProjIdeal.τ).loc Cert.KernelProjIdeal.main_v40_15) = v15 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
          ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v112) = v0 c
          ∧ r.2.mem ((c.tc : Thread Cert.ReferenceProjIdeal.nD Cert.ReferenceProjIdeal.τ).loc Cert.ReferenceProjIdeal.main_v137) = v1 c
          ∧ r.2.mem ((c.tc : Thread Cert.ReferenceProjIdeal.nD Cert.ReferenceProjIdeal.τ).loc Cert.ReferenceProjIdeal.main_v138) = v2 c
          ∧ r.2.mem ((c.tc : Thread Cert.ReferenceProjIdeal.nD Cert.ReferenceProjIdeal.τ).loc Cert.ReferenceProjIdeal.main_v49) = v3 c
          ∧ r.2.mem ((c.tc : Thread Cert.ReferenceProjIdeal.nD Cert.ReferenceProjIdeal.τ).loc Cert.ReferenceProjIdeal.main_v139) = v4 c
          ∧ r.2.mem ((c.tc : Thread Cert.ReferenceProjIdeal.nD Cert.ReferenceProjIdeal.τ).loc Cert.ReferenceProjIdeal.main_v74) = v5 c
          ∧ r.2.mem ((c.tc : Thread Cert.ReferenceProjIdeal.nD Cert.ReferenceProjIdeal.τ).loc Cert.ReferenceProjIdeal.main_v140) = v6 c
          ∧ r.2.mem ((c.tc : Thread Cert.ReferenceProjIdeal.nD Cert.ReferenceProjIdeal.τ).loc Cert.ReferenceProjIdeal.main_v165) = v7 c
          ∧ r.2.mem ((c.tc : Thread Cert.ReferenceProjIdeal.nD Cert.ReferenceProjIdeal.τ).loc Cert.ReferenceProjIdeal.main_v96) = v8 c
          ∧ r.2.mem ((c.tc : Thread Cert.ReferenceProjIdeal.nD Cert.ReferenceProjIdeal.τ).loc Cert.ReferenceProjIdeal.main_v166) = v9 c
          ∧ r.2.mem ((c.tc : Thread Cert.ReferenceProjIdeal.nD Cert.ReferenceProjIdeal.τ).loc Cert.ReferenceProjIdeal.main_v167) = v10 c
          ∧ r.2.mem ((c.tc : Thread Cert.ReferenceProjIdeal.nD Cert.ReferenceProjIdeal.τ).loc Cert.ReferenceProjIdeal.main_v169) = v11 c
          ∧ r.2.mem ((c.tc : Thread Cert.ReferenceProjIdeal.nD Cert.ReferenceProjIdeal.τ).loc Cert.ReferenceProjIdeal.main_v173) = v12 c
          ∧ r.2.mem ((c.tc : Thread Cert.ReferenceProjIdeal.nD Cert.ReferenceProjIdeal.τ).loc Cert.ReferenceProjIdeal.main_v174) = v13 c
          ∧ r.2.mem ((c.tc : Thread Cert.ReferenceProjIdeal.nD Cert.ReferenceProjIdeal.τ).loc Cert.ReferenceProjIdeal.main_v176) = v14 c
          ∧ r.2.mem ((c.tc : Thread Cert.ReferenceProjIdeal.nD Cert.ReferenceProjIdeal.τ).loc Cert.ReferenceProjIdeal.main_v177) = v15 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4)
          ∧ r.2.mem ((c.tc : Thread Cert.ReferenceProjIdeal.nD Cert.ReferenceProjIdeal.τ).loc Cert.ReferenceProjIdeal.main_arg5) = m' ((c.tc : Thread Cert.ReferenceProjIdeal.nD Cert.ReferenceProjIdeal.τ).loc Cert.ReferenceProjIdeal.main_arg5))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelMkv : Cert.KernelMkv.Facts) (hKernelMkvIdeal : Cert.KernelMkvIdeal.Facts) (hReferenceMkvIdeal : Cert.ReferenceMkvIdeal.Facts) (hKernelOut : Cert.KernelOut.Facts) (hKernelOutIdeal : Cert.KernelOutIdeal.Facts) (hReferenceOutIdeal : Cert.ReferenceOutIdeal.Facts) (hKernelMq : Cert.KernelMq.Facts) (hKernelMqIdeal : Cert.KernelMqIdeal.Facts) (hReferenceMqIdeal : Cert.ReferenceMqIdeal.Facts) (hKernelMo : Cert.KernelMo.Facts) (hKernelMoIdeal : Cert.KernelMoIdeal.Facts) (hReferenceMoIdeal : Cert.ReferenceMoIdeal.Facts) (hKernelXattn : Cert.KernelXattn.Facts) (hKernelXattnIdeal : Cert.KernelXattnIdeal.Facts) (hReferenceXattnIdeal : Cert.ReferenceXattnIdeal.Facts) (hKernelProj : Cert.KernelProj.Facts) (hKernelProjIdeal : Cert.KernelProjIdeal.Facts) (hReferenceProjIdeal : Cert.ReferenceProjIdeal.Facts) (hPre_finite_args : Cert.Pre_finite_args.Facts) (hPre_finite_xattn : Cert.Pre_finite_xattn.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelMkv (hKernelMkv := hKernelMkv)
    ∧ quiescent_KernelMkvIdeal (hKernelMkvIdeal := hKernelMkvIdeal)
    ∧ quiescent_ReferenceMkvIdeal (hReferenceMkvIdeal := hReferenceMkvIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelMq (hKernelMq := hKernelMq)
    ∧ quiescent_KernelMqIdeal (hKernelMqIdeal := hKernelMqIdeal)
    ∧ quiescent_ReferenceMqIdeal (hReferenceMqIdeal := hReferenceMqIdeal)
    ∧ quiescent_KernelMo (hKernelMo := hKernelMo)
    ∧ quiescent_KernelMoIdeal (hKernelMoIdeal := hKernelMoIdeal)
    ∧ quiescent_ReferenceMoIdeal (hReferenceMoIdeal := hReferenceMoIdeal)
    ∧ quiescent_KernelXattn (hKernelXattn := hKernelXattn)
    ∧ quiescent_KernelXattnIdeal (hKernelXattnIdeal := hKernelXattnIdeal)
    ∧ quiescent_KernelXattnIdeal_pre_finite_xattn (hKernelXattnIdeal := hKernelXattnIdeal) (hPre_finite_xattn := hPre_finite_xattn)
    ∧ quiescent_ReferenceXattnIdeal (hReferenceXattnIdeal := hReferenceXattnIdeal)
    ∧ quiescent_ReferenceXattnIdeal_pre_finite_xattn (hReferenceXattnIdeal := hReferenceXattnIdeal) (hPre_finite_xattn := hPre_finite_xattn)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelMkv_KernelMkvIdeal
    ∧ algebraic_KernelMkvIdeal_ReferenceMkvIdeal (hKernelMkvIdeal := hKernelMkvIdeal) (hReferenceMkvIdeal := hReferenceMkvIdeal)
    ∧ preserves_KernelOut_KernelOutIdeal
    ∧ algebraic_KernelOutIdeal_ReferenceOutIdeal (hKernelOutIdeal := hKernelOutIdeal) (hReferenceOutIdeal := hReferenceOutIdeal)
    ∧ preserves_KernelMq_KernelMqIdeal
    ∧ algebraic_KernelMqIdeal_ReferenceMqIdeal (hKernelMqIdeal := hKernelMqIdeal) (hReferenceMqIdeal := hReferenceMqIdeal)
    ∧ preserves_KernelMo_KernelMoIdeal
    ∧ algebraic_KernelMoIdeal_ReferenceMoIdeal (hKernelMoIdeal := hKernelMoIdeal) (hReferenceMoIdeal := hReferenceMoIdeal)
    ∧ preserves_KernelXattn_KernelXattnIdeal
    ∧ algebraic_KernelXattnIdeal_ReferenceXattnIdeal_pre_finite_xattn (hKernelXattnIdeal := hKernelXattnIdeal) (hReferenceXattnIdeal := hReferenceXattnIdeal) (hPre_finite_xattn := hPre_finite_xattn)
    ∧ preserves_KernelProj_KernelProjIdeal
    ∧ algebraic_KernelProjIdeal_ReferenceProjIdeal (hKernelProjIdeal := hKernelProjIdeal) (hReferenceProjIdeal := hReferenceProjIdeal)
-- ==== Pre_finite_args.lean ====
abbrev S4x64 : Shape := ⟨2, ![4, 64]⟩
abbrev S128 : Shape := ⟨1, ![128]⟩
abbrev S8x2048x2x4x64 : Shape := ⟨5, ![8, 2048, 2, 4, 64]⟩
abbrev S8x2048x4x128 : Shape := ⟨4, ![8, 2048, 4, 128]⟩
abbrev S_ : Shape := ⟨0, ![]⟩

class Facts : Prop where
  bcast_S_S4x64 : S_.BroadcastsInDim S4x64 (![] : Fin 0 → Fin S4x64.rank)
  reducesTo_S4x64_S_d0_1 : S4x64.ReducesTo [0, 1] S_
  h_S_ : 0 < S_.numel
  bcast_S_S8x2048x2x4x64 : S_.BroadcastsInDim S8x2048x2x4x64 (![] : Fin 0 → Fin S8x2048x2x4x64.rank)
  reducesTo_S8x2048x2x4x64_S_d0_1_2_3_4 : S8x2048x2x4x64.ReducesTo [0, 1, 2, 3, 4] S_
  bcast_S_S8x2048x4x128 : S_.BroadcastsInDim S8x2048x4x128 (![] : Fin 0 → Fin S8x2048x4x128.rank)
  reducesTo_S8x2048x4x128_S_d0_1_2_3 : S8x2048x4x128.ReducesTo [0, 1, 2, 3] S_

variable [Facts]

def fn_part1 {F : FTy → Type} [FloatOps F] (main_v13 : IVec S_ 1) (main_v16 : IVec S8x2048x4x128 1) : IVec S_ 1 :=
  let main_c_5 : IVec S_ 1 := constantI S_ 1 1#1
  let main_v17 : IVec S_ 1 := (fun x v => Host.reduce IntOp.andi x v reducesTo_S8x2048x4x128_S_d0_1_2_3 h_S_) main_v16 main_c_5
  let main_v18 : IVec S_ 1 := andi main_v13 main_v17
  main_v18

def fn {F : FTy → Type} [FloatOps F] (main_arg0 : FVec F S4x64 .f32) (main_arg1 : FVec F S128 .f32) (main_arg2 : FVec F S8x2048x2x4x64 .f32) (main_arg3 : FVec F S8x2048x2x4x64 .f32) (main_arg4 : FVec F S8x2048x4x128 .f32) : IVec S_ 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_c : IVec S_ 1 := constantI S_ 1 1#1
  let main_v3 : IVec S_ 1 := (fun x v => Host.reduce IntOp.andi x v reducesTo_S4x64_S_d0_1 h_S_) main_v2 main_c
  let main_v4 : FVec F S8x2048x2x4x64 .f32 := Host.absf main_arg2
  let main_cst_0 : FVec F S_ .f32 := constant S_ .f32 0x7F800000#32
  let main_v5 : FVec F S8x2048x2x4x64 .f32 := broadcastInDim S8x2048x2x4x64 ![] bcast_S_S8x2048x2x4x64 main_cst_0
  let main_v6 : IVec S8x2048x2x4x64 1 := cmpf .olt main_v4 main_v5
  let main_c_1 : IVec S_ 1 := constantI S_ 1 1#1
  let main_v7 : IVec S_ 1 := (fun x v => Host.reduce IntOp.andi x v reducesTo_S8x2048x2x4x64_S_d0_1_2_3_4 h_S_) main_v6 main_c_1
  let main_v8 : IVec S_ 1 := andi main_v3 main_v7
  let main_v9 : FVec F S8x2048x2x4x64 .f32 := Host.absf main_arg3
  let main_cst_2 : FVec F S_ .f32 := constant S_ .f32 0x7F800000#32
  let main_v10 : FVec F S8x2048x2x4x64 .f32 := broadcastInDim S8x2048x2x4x64 ![] bcast_S_S8x2048x2x4x64 main_cst_2
  let main_v11 : IVec S8x2048x2x4x64 1 := cmpf .olt main_v9 main_v10
  let main_c_3 : IVec S_ 1 := constantI S_ 1 1#1
  let main_v12 : IVec S_ 1 := (fun x v => Host.reduce IntOp.andi x v reducesTo_S8x2048x2x4x64_S_d0_1_2_3_4 h_S_) main_v11 main_c_3
  let main_v13 : IVec S_ 1 := andi main_v8 main_v12
  let main_v14 : FVec F S8x2048x4x128 .f32 := Host.absf main_arg4
  let main_cst_4 : FVec F S_ .f32 := constant S_ .f32 0x7F800000#32
  let main_v15 : FVec F S8x2048x4x128 .f32 := broadcastInDim S8x2048x4x128 ![] bcast_S_S8x2048x4x128 main_cst_4
  let main_v16 : IVec S8x2048x4x128 1 := cmpf .olt main_v14 main_v15
  fn_part1 (F := F) main_v13 main_v16
-- ==== Pre_finite_xattn.lean ====
abbrev S8x2048x1024 : Shape := ⟨3, ![8, 2048, 1024]⟩
abbrev S8x256x2x4x256 : Shape := ⟨5, ![8, 256, 2, 4, 256]⟩
abbrev S_ : Shape := ⟨0, ![]⟩
abbrev S8x256x1x4x256 : Shape := ⟨5, ![8, 256, 1, 4, 256]⟩
abbrev S8x256x4x256 : Shape := ⟨4, ![8, 256, 4, 256]⟩

class Facts : Prop where
  bitsLt_bf16_f32 : FTy.bits .bf16 < FTy.bits .f32
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  slices_S8x256x2x4x256_S8x256x1x4x256_0_0_0_0_0 : S8x256x2x4x256.Slices ![0, 0, 0, 0, 0] S8x256x1x4x256
  shapeCasts_S8x256x1x4x256_S8x256x4x256 : S8x256x1x4x256.ShapeCasts S8x256x4x256
  bcast_S_S8x256x4x256 : S_.BroadcastsInDim S8x256x4x256 (![] : Fin 0 → Fin S8x256x4x256.rank)
  reducesTo_S8x256x4x256_S_d0_1_2_3 : S8x256x4x256.ReducesTo [0, 1, 2, 3] S_

variable [Facts]

def fn {F : FTy → Type} [FloatOps F] (main_arg0 : FVec F S8x2048x1024 .bf16) (main_arg1 : FVec F S8x256x2x4x256 .f32) : IVec S_ 1 :=
  let main_v0 : FVec F S8x2048x1024 .f32 := (extf .f32 · bitsLt_bf16_f32) main_arg0
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_c : IVec S_ 1 := constantI S_ 1 1#1
  let main_v4 : IVec S_ 1 := (fun x v => Host.reduce IntOp.andi x v reducesTo_S8x2048x1024_S_d0_1_2 h_S_) main_v3 main_c
  let main_v5 : FVec F S8x256x1x4x256 .f32 := (extractStridedSlice S8x256x1x4x256 ![0, 0, 0, 0, 0] · slices_S8x256x2x4x256_S8x256x1x4x256_0_0_0_0_0) main_arg1
  let main_v6 : FVec F S8x256x4x256 .f32 := shapeCast S8x256x4x256 main_v5 shapeCasts_S8x256x1x4x256_S8x256x4x256
  let main_v7 : FVec F S8x256x4x256 .f32 := Host.absf main_v6
  let main_cst_0 : FVec F S_ .f32 := constant S_ .f32 0x7F800000#32
  let main_v8 : FVec F S8x256x4x256 .f32 := broadcastInDim S8x256x4x256 ![] bcast_S_S8x256x4x256 main_cst_0
  let main_v9 : IVec S8x256x4x256 1 := cmpf .olt main_v7 main_v8
  let main_c_1 : IVec S_ 1 := constantI S_ 1 1#1
  let main_v10 : IVec S_ 1 := (fun x v => Host.reduce IntOp.andi x v reducesTo_S8x256x4x256_S_d0_1_2_3 h_S_) main_v9 main_c_1
  let main_v11 : IVec S_ 1 := andi main_v4 main_v10
  main_v11
-- ==== Kernel.lean ====
abbrev S4x64 : Shape := ⟨2, ![4, 64]⟩
abbrev S128 : Shape := ⟨1, ![128]⟩
abbrev S8x2048x2x4x64 : Shape := ⟨5, ![8, 2048, 2, 4, 64]⟩
abbrev S8x2048x4x128 : Shape := ⟨4, ![8, 2048, 4, 128]⟩
abbrev S8x2048x512 : Shape := ⟨3, ![8, 2048, 512]⟩
abbrev S_ : Shape := ⟨0, ![]⟩
abbrev S1x128 : Shape := ⟨2, ![1, 128]⟩
abbrev S8x512x2048 : Shape := ⟨3, ![8, 512, 2048]⟩
abbrev S1x256x512 : Shape := ⟨3, ![1, 256, 512]⟩
abbrev S1x512x2048 : Shape := ⟨3, ![1, 512, 2048]⟩
abbrev S1x2048x512 : Shape := ⟨3, ![1, 2048, 512]⟩
abbrev S8x256x128 : Shape := ⟨3, ![8, 256, 128]⟩
abbrev S256x512 : Shape := ⟨2, ![256, 512]⟩
abbrev S256x128 : Shape := ⟨2, ![256, 128]⟩
abbrev S1x128x256 : Shape := ⟨3, ![1, 128, 256]⟩
abbrev S128x256 : Shape := ⟨2, ![128, 256]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩
abbrev S1x64 : Shape := ⟨2, ![1, 64]⟩
abbrev S1 : Shape := ⟨1, ![1]⟩
abbrev S1x1 : Shape := ⟨2, ![1, 1]⟩

abbrev nBuf : Space → Nat
  | .hbm => 17
  | .vmem => 13
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S8x2048x2x4x64, .f32⟩
  | .hbm, ⟨3, _⟩ => ⟨S8x2048x2x4x64, .f32⟩
  | .hbm, ⟨4, _⟩ => ⟨S8x2048x4x128, .f32⟩
  | .hbm, ⟨5, _⟩ => ⟨S8x2048x512, .f32⟩
  | .hbm, ⟨6, _⟩ => ⟨S_, .f32⟩
  | .hbm, ⟨7, _⟩ => ⟨S8x2048x512, .f32⟩
  | .hbm, ⟨8, _⟩ => ⟨S8x2048x512, .f32⟩
  | .hbm, ⟨9, _⟩ => ⟨S8x2048x512, .bf16⟩
  | .hbm, ⟨10, _⟩ => ⟨S8x2048x512, .f32⟩
  | .hbm, ⟨11, _⟩ => ⟨S8x2048x512, .bf16⟩
  | .hbm, ⟨12, _⟩ => ⟨S8x2048x512, .f32⟩
  | .hbm, ⟨13, _⟩ => ⟨S8x2048x512, .bf16⟩
  | .hbm, ⟨14, _⟩ => ⟨S1x128, .f32⟩
  | .hbm, ⟨15, _⟩ => ⟨S8x512x2048, .bf16⟩
  | .hbm, ⟨16, _⟩ => ⟨S8x2048x512, .bf16⟩
  | .local _ .vmem, ⟨0, _⟩ => ⟨S4x64, .f32⟩
  | .local _ .vmem, ⟨1, _⟩ => ⟨S1x128, .f32⟩
  | .local _ .vmem, ⟨2, _⟩ => ⟨S1x256x512, .bf16⟩
  | .local _ .vmem, ⟨3, _⟩ => ⟨S1x256x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x256x512, .bf16⟩
  | .local _ .vmem, ⟨9, _⟩ => ⟨S1x256x512, .bf16⟩
  | .local _ .vmem, ⟨10, _⟩ => ⟨S8x256x128, .f32⟩
  | .local _ .vmem, ⟨11, _⟩ => ⟨S8x256x128, .f32⟩
  | .local _ .vmem, ⟨12, _⟩ => ⟨S8x256x128, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_42 : BitVec 32 := 0#32
  let arg1 : BitVec 32 := BitVec.ofNat 32 (i 1).val
  let v96 : BitVec 32 := Scalar.subi arg1 c0_i32_42
  let c1_i32 : BitVec 32 := 1#32
  let v98 : BitVec 32 := Scalar.divsi v96 c1_i32
  let v99 : BitVec 32 := Scalar.muli v98 c1_i32
  let v100 : BitVec 32 := Scalar.addi c0_i32_42 v99
  let c1_i32_43 : BitVec 32 := 1#32
  ⟨c0_i32_42, v100, c1_i32_43⟩
def k0_mult1 (i : grid0.Coords) (k0_t1 : Fin (k0_t1_loop i).trips) : BitVec 32 :=
  let c0_i32_42 : BitVec 32 := 0#32
  let c1_i32_43 : BitVec 32 := 1#32
  let arg11 : BitVec 32 := Scf.iv c0_i32_42 c1_i32_43 k0_t1
  let c256_i32_348 : BitVec 32 := 256#32
  let v627 : BitVec 32 := Scalar.muli arg11 c256_i32_348
  v627
def k0_off1 (i : grid0.Coords) (k0_t1 : Fin (k0_t1_loop i).trips) : Fin 3 → Nat :=
  let c0_349 : Index := 0#32
  let c0_350 : Index := 0#32
  let c0_i32_42 : BitVec 32 := 0#32
  let c1_i32_43 : BitVec 32 := 1#32
  let arg11 : BitVec 32 := Scf.iv c0_i32_42 c1_i32_43 k0_t1
  let c256_i32_348 : BitVec 32 := 256#32
  let v627 : BitVec 32 := Scalar.muli arg11 c256_i32_348
  let v628 : BitVec 32 := v627
  let v629 : Index := Scalar.indexCast v628
  ![0, 0, v629.toNat]
def k0_off2 (i : grid0.Coords) (k0_t1 : Fin (k0_t1_loop i).trips) : Fin 3 → Nat :=
  let c0_351 : Index := 0#32
  let c0_i32_42 : BitVec 32 := 0#32
  let c1_i32_43 : BitVec 32 := 1#32
  let arg11 : BitVec 32 := Scf.iv c0_i32_42 c1_i32_43 k0_t1
  let c256_i32_348 : BitVec 32 := 256#32
  let v627 : BitVec 32 := Scalar.muli arg11 c256_i32_348
  let v628 : BitVec 32 := v627
  let v632 : Index := Scalar.indexCast v628
  let c0_352 : Index := 0#32
  ![0, v632.toNat, 0]
def k0_off3 (i : grid0.Coords) (k0_t1 : Fin (k0_t1_loop i).trips) : Fin 3 → Nat :=
  let c0_377 : Index := 0#32
  let c0_i32_42 : BitVec 32 := 0#32
  let c1_i32_43 : BitVec 32 := 1#32
  let arg11 : BitVec 32 := Scf.iv c0_i32_42 c1_i32_43 k0_t1
  let c256_i32_348 : BitVec 32 := 256#32
  let v627 : BitVec 32 := Scalar.muli arg11 c256_i32_348
  let v628 : BitVec 32 := v627
  let v672 : Index := Scalar.indexCast v628
  let c128_378 : Index := 128#32
  ![0, v672.toNat, 128]
def k0_off4 (i : grid0.Coords) (k0_t1 : Fin (k0_t1_loop i).trips) : Fin 3 → Nat :=
  let c0_401 : Index := 0#32
  let c128_402 : Index := 128#32
  let c0_i32_42 : BitVec 32 := 0#32
  let c1_i32_43 : BitVec 32 := 1#32
  let arg11 : BitVec 32 := Scf.iv c0_i32_42 c1_i32_43 k0_t1
  let c256_i32_348 : BitVec 32 := 256#32
  let v627 : BitVec 32 := Scalar.muli arg11 c256_i32_348
  let v628 : BitVec 32 := v627
  let v709 : Index := Scalar.indexCast v628
  ![0, 128, v709.toNat]
def k0_off5 (i : grid0.Coords) (k0_t1 : Fin (k0_t1_loop i).trips) : Fin 3 → Nat :=
  let c0_403 : Index := 0#32
  let c0_i32_42 : BitVec 32 := 0#32
  let c1_i32_43 : BitVec 32 := 1#32
  let arg11 : BitVec 32 := Scf.iv c0_i32_42 c1_i32_43 k0_t1
  let c256_i32_348 : BitVec 32 := 256#32
  let v627 : BitVec 32 := Scalar.muli arg11 c256_i32_348
  let v628 : BitVec 32 := v627
  let v712 : Index := Scalar.indexCast v628
  let c256_404 : Index := 256#32
  ![0, v712.toNat, 256]
def k0_off6 (i : grid0.Coords) (k0_t1 : Fin (k0_t1_loop i).trips) : Fin 3 → Nat :=
  let c0_429 : Index := 0#32
  let c0_i32_42 : BitVec 32 := 0#32
  let c1_i32_43 : BitVec 32 := 1#32
  let arg11 : BitVec 32 := Scf.iv c0_i32_42 c1_i32_43 k0_t1
  let c256_i32_348 : BitVec 32 := 256#32
  let v627 : BitVec 32 := Scalar.muli arg11 c256_i32_348
  let v628 : BitVec 32 := v627
  let v752 : Index := Scalar.indexCast v628
  let c384_430 : Index := 384#32
  ![0, v752.toNat, 384]
def k0_off7 (i : grid0.Coords) (k0_t1 : Fin (k0_t1_loop i).trips) : Fin 3 → Nat :=
  let c0_453 : Index := 0#32
  let c256_454 : Index := 256#32
  let c0_i32_42 : BitVec 32 := 0#32
  let c1_i32_43 : BitVec 32 := 1#32
  let arg11 : BitVec 32 := Scf.iv c0_i32_42 c1_i32_43 k0_t1
  let c256_i32_348 : BitVec 32 := 256#32
  let v627 : BitVec 32 := Scalar.muli arg11 c256_i32_348
  let v628 : BitVec 32 := v627
  let v789 : Index := Scalar.indexCast v628
  ![0, 256, v789.toNat]
def k0_off8 (i : grid0.Coords) (k0_t1 : Fin (k0_t1_loop i).trips) : Fin 3 → Nat :=
  let c0_505 : Index := 0#32
  let c384_506 : Index := 384#32
  let c0_i32_42 : BitVec 32 := 0#32
  let c1_i32_43 : BitVec 32 := 1#32
  let arg11 : BitVec 32 := Scf.iv c0_i32_42 c1_i32_43 k0_t1
  let c256_i32_348 : BitVec 32 := 256#32
  let v627 : BitVec 32 := Scalar.muli arg11 c256_i32_348
  let v628 : BitVec 32 := v627
  let v869 : Index := Scalar.indexCast v628
  ![0, 384, v869.toNat]
@[reducible] def k0_t2_loop (i : grid0.Coords) : Scf.Loop 32 :=
  let c0_i32_42 : BitVec 32 := 0#32
  let arg1 : BitVec 32 := BitVec.ofNat 32 (i 1).val
  let v96 : BitVec 32 := Scalar.subi arg1 c0_i32_42
  let c1_i32 : BitVec 32 := 1#32
  let v98 : BitVec 32 := Scalar.divsi v96 c1_i32
  let v99 : BitVec 32 := Scalar.muli v98 c1_i32
  let v100 : BitVec 32 := Scalar.addi c0_i32_42 v99
  let v97 : BitVec 32 := Scalar.addi c0_i32_42 v96
  let c1_i32_44 : BitVec 32 := 1#32
  ⟨v100, v97, c1_i32_44⟩
def k0_mult2 (i : grid0.Coords) (k0_t2 : Fin (k0_t2_loop i).trips) : BitVec 32 :=
  let c0_i32_42 : BitVec 32 := 0#32
  let arg1 : BitVec 32 := BitVec.ofNat 32 (i 1).val
  let v96 : BitVec 32 := Scalar.subi arg1 c0_i32_42
  let c1_i32 : BitVec 32 := 1#32
  let v98 : BitVec 32 := Scalar.divsi v96 c1_i32
  let v99 : BitVec 32 := Scalar.muli v98 c1_i32
  let v100 : BitVec 32 := Scalar.addi c0_i32_42 v99
  let c1_i32_44 : BitVec 32 := 1#32
  let arg11 : BitVec 32 := Scf.iv v100 c1_i32_44 k0_t2
  let c256_i32_348 : BitVec 32 := 256#32
  let v627 : BitVec 32 := Scalar.muli arg11 c256_i32_348
  v627
def k0_off9 (i : grid0.Coords) (k0_t2 : Fin (k0_t2_loop i).trips) : Fin 3 → Nat :=
  let c0_349 : Index := 0#32
  let c0_350 : Index := 0#32
  let c0_i32_42 : BitVec 32 := 0#32
  let arg1 : BitVec 32 := BitVec.ofNat 32 (i 1).val
  let v96 : BitVec 32 := Scalar.subi arg1 c0_i32_42
  let c1_i32 : BitVec 32 := 1#32
  let v98 : BitVec 32 := Scalar.divsi v96 c1_i32
  let v99 : BitVec 32 := Scalar.muli v98 c1_i32
  let v100 : BitVec 32 := Scalar.addi c0_i32_42 v99
  let c1_i32_44 : BitVec 32 := 1#32
  let arg11 : BitVec 32 := Scf.iv v100 c1_i32_44 k0_t2
  let c256_i32_348 : BitVec 32 := 256#32
  let v627 : BitVec 32 := Scalar.muli arg11 c256_i32_348
  let v628 : BitVec 32 := v627
  let v629 : Index := Scalar.indexCast v628
  ![0, 0, v629.toNat]
def k0_off10 (i : grid0.Coords) (k0_t2 : Fin (k0_t2_loop i).trips) : Fin 3 → Nat :=
  let c0_351 : Index := 0#32
  let c0_i32_42 : BitVec 32 := 0#32
  let arg1 : BitVec 32 := BitVec.ofNat 32 (i 1).val
  let v96 : BitVec 32 := Scalar.subi arg1 c0_i32_42
  let c1_i32 : BitVec 32 := 1#32
  let v98 : BitVec 32 := Scalar.divsi v96 c1_i32
  let v99 : BitVec 32 := Scalar.muli v98 c1_i32
  let v100 : BitVec 32 := Scalar.addi c0_i32_42 v99
  let c1_i32_44 : BitVec 32 := 1#32
  let arg11 : BitVec 32 := Scf.iv v100 c1_i32_44 k0_t2
  let c256_i32_348 : BitVec 32 := 256#32
  let v627 : BitVec 32 := Scalar.muli arg11 c256_i32_348
  let v628 : BitVec 32 := v627
  let v632 : Index := Scalar.indexCast v628
  let c0_352 : Index := 0#32
  ![0, v632.toNat, 0]
def k0_off11 (i : grid0.Coords) (k0_t2 : Fin (k0_t2_loop i).trips) : Fin 3 → Nat :=
  let c0_377 : Index := 0#32
  let c0_i32_42 : BitVec 32 := 0#32
  let arg1 : BitVec 32 := BitVec.ofNat 32 (i 1).val
  let v96 : BitVec 32 := Scalar.subi arg1 c0_i32_42
  let c1_i32 : BitVec 32 := 1#32
  let v98 : BitVec 32 := Scalar.divsi v96 c1_i32
  let v99 : BitVec 32 := Scalar.muli v98 c1_i32
  let v100 : BitVec 32 := Scalar.addi c0_i32_42 v99
  let c1_i32_44 : BitVec 32 := 1#32
  let arg11 : BitVec 32 := Scf.iv v100 c1_i32_44 k0_t2
  let c256_i32_348 : BitVec 32 := 256#32
  let v627 : BitVec 32 := Scalar.muli arg11 c256_i32_348
  let v628 : BitVec 32 := v627
  let v672 : Index := Scalar.indexCast v628
  let c128_378 : Index := 128#32
  ![0, v672.toNat, 128]
def k0_off12 (i : grid0.Coords) (k0_t2 : Fin (k0_t2_loop i).trips) : Fin 3 → Nat :=
  let c0_401 : Index := 0#32
  let c128_402 : Index := 128#32
  let c0_i32_42 : BitVec 32 := 0#32
  let arg1 : BitVec 32 := BitVec.ofNat 32 (i 1).val
  let v96 : BitVec 32 := Scalar.subi arg1 c0_i32_42
  let c1_i32 : BitVec 32 := 1#32
  let v98 : BitVec 32 := Scalar.divsi v96 c1_i32
  let v99 : BitVec 32 := Scalar.muli v98 c1_i32
  let v100 : BitVec 32 := Scalar.addi c0_i32_42 v99
  let c1_i32_44 : BitVec 32 := 1#32
  let arg11 : BitVec 32 := Scf.iv v100 c1_i32_44 k0_t2
  let c256_i32_348 : BitVec 32 := 256#32
  let v627 : BitVec 32 := Scalar.muli arg11 c256_i32_348
  let v628 : BitVec 32 := v627
  let v709 : Index := Scalar.indexCast v628
  ![0, 128, v709.toNat]
def k0_off13 (i : grid0.Coords) (k0_t2 : Fin (k0_t2_loop i).trips) : Fin 3 → Nat :=
  let c0_403 : Index := 0#32
  let c0_i32_42 : BitVec 32 := 0#32
  let arg1 : BitVec 32 := BitVec.ofNat 32 (i 1).val
  let v96 : BitVec 32 := Scalar.subi arg1 c0_i32_42
  let c1_i32 : BitVec 32 := 1#32
  let v98 : BitVec 32 := Scalar.divsi v96 c1_i32
  let v99 : BitVec 32 := Scalar.muli v98 c1_i32
  let v100 : BitVec 32 := Scalar.addi c0_i32_42 v99
  let c1_i32_44 : BitVec 32 := 1#32
  let arg11 : BitVec 32 := Scf.iv v100 c1_i32_44 k0_t2
  let c256_i32_348 : BitVec 32 := 256#32
  let v627 : BitVec 32 := Scalar.muli arg11 c256_i32_348
  let v628 : BitVec 32 := v627
  let v712 : Index := Scalar.indexCast v628
  let c256_404 : Index := 256#32
  ![0, v712.toNat, 256]
def k0_off14 (i : grid0.Coords) (k0_t2 : Fin (k0_t2_loop i).trips) : Fin 3 → Nat :=
  let c0_429 : Index := 0#32
  let c0_i32_42 : BitVec 32 := 0#32
  let arg1 : BitVec 32 := BitVec.ofNat 32 (i 1).val
  let v96 : BitVec 32 := Scalar.subi arg1 c0_i32_42
  let c1_i32 : BitVec 32 := 1#32
  let v98 : BitVec 32 := Scalar.divsi v96 c1_i32
  let v99 : BitVec 32 := Scalar.muli v98 c1_i32
  let v100 : BitVec 32 := Scalar.addi c0_i32_42 v99
  let c1_i32_44 : BitVec 32 := 1#32
  let arg11 : BitVec 32 := Scf.iv v100 c1_i32_44 k0_t2
  let c256_i32_348 : BitVec 32 := 256#32
  let v627 : BitVec 32 := Scalar.muli arg11 c256_i32_348
  let v628 : BitVec 32 := v627
  let v752 : Index := Scalar.indexCast v628
  let c384_430 : Index := 384#32
  ![0, v752.toNat, 384]
def k0_off15 (i : grid0.Coords) (k0_t2 : Fin (k0_t2_loop i).trips) : Fin 3 → Nat :=
  let c0_453 : Index := 0#32
  let c256_454 : Index := 256#32
  let c0_i32_42 : BitVec 32 := 0#32
  let arg1 : BitVec 32 := BitVec.ofNat 32 (i 1).val
  let v96 : BitVec 32 := Scalar.subi arg1 c0_i32_42
  let c1_i32 : BitVec 32 := 1#32
  let v98 : BitVec 32 := Scalar.divsi v96 c1_i32
  let v99 : BitVec 32 := Scalar.muli v98 c1_i32
  let v100 : BitVec 32 := Scalar.addi c0_i32_42 v99
  let c1_i32_44 : BitVec 32 := 1#32
  let arg11 : BitVec 32 := Scf.iv v100 c1_i32_44 k0_t2
  let c256_i32_348 : BitVec 32 := 256#32
  let v627 : BitVec 32 := Scalar.muli arg11 c256_i32_348
  let v628 : BitVec 32 := v627
  let v789 : Index := Scalar.indexCast v628
  ![0, 256, v789.toNat]
def k0_off16 (i : grid0.Coords) (k0_t2 : Fin (k0_t2_loop i).trips) : Fin 3 → Nat :=
  let c0_505 : Index := 0#32
  let c384_506 : Index := 384#32
  let c0_i32_42 : BitVec 32 := 0#32
  let arg1 : BitVec 32 := BitVec.ofNat 32 (i 1).val
  let v96 : BitVec 32 := Scalar.subi arg1 c0_i32_42
  let c1_i32 : BitVec 32 := 1#32
  let v98 : BitVec 32 := Scalar.divsi v96 c1_i32
  let v99 : BitVec 32 := Scalar.muli v98 c1_i32
  let v100 : BitVec 32 := Scalar.addi c0_i32_42 v99
  let c1_i32_44 : BitVec 32 := 1#32
  let arg11 : BitVec 32 := Scf.iv v100 c1_i32_44 k0_t2
  let c256_i32_348 : BitVec 32 := 256#32
  let v627 : BitVec 32 := Scalar.muli arg11 c256_i32_348
  let v628 : BitVec 32 := v627
  let v869 : Index := Scalar.indexCast v628
  ![0, 384, v869.toNat]
def k0_mult3 (i : grid0.Coords) : BitVec 32 :=
  let arg1 : BitVec 32 := BitVec.ofNat 32 (i 1).val
  let c256_i32 : BitVec 32 := 256#32
  let v101 : BitVec 32 := Scalar.muli arg1 c256_i32
  v101
def k0_off17 (i : grid0.Coords) : Fin 3 → Nat :=
  let c0_45 : Index := 0#32
  let c0_46 : Index := 0#32
  let arg1 : BitVec 32 := BitVec.ofNat 32 (i 1).val
  let c256_i32 : BitVec 32 := 256#32
  let v101 : BitVec 32 := Scalar.muli arg1 c256_i32
  let v102 : BitVec 32 := v101
  let v103 : Index := Scalar.indexCast v102
  ![0, 0, v103.toNat]
def k0_off18 (i : grid0.Coords) : Fin 3 → Nat :=
  let c0_47 : Index := 0#32
  let arg1 : BitVec 32 := BitVec.ofNat 32 (i 1).val
  let c256_i32 : BitVec 32 := 256#32
  let v101 : BitVec 32 := Scalar.muli arg1 c256_i32
  let v102 : BitVec 32 := v101
  let v106 : Index := Scalar.indexCast v102
  let c0_48 : Index := 0#32
  ![0, v106.toNat, 0]
def k0_off19 (i : grid0.Coords) : Fin 3 → Nat :=
  let c0_74 : Index := 0#32
  let arg1 : BitVec 32 := BitVec.ofNat 32 (i 1).val
  let c256_i32 : BitVec 32 := 256#32
  let v101 : BitVec 32 := Scalar.muli arg1 c256_i32
  let v102 : BitVec 32 := v101
  let v151 : Index := Scalar.indexCast v102
  let c128 : Index := 128#32
  ![0, v151.toNat, 128]
def k0_off20 (i : grid0.Coords) : Fin 3 → Nat :=
  let c0_97 : Index := 0#32
  let c128_98 : Index := 128#32
  let arg1 : BitVec 32 := BitVec.ofNat 32 (i 1).val
  let c256_i32 : BitVec 32 := 256#32
  let v101 : BitVec 32 := Scalar.muli arg1 c256_i32
  let v102 : BitVec 32 := v101
  let v193 : Index := Scalar.indexCast v102
  ![0, 128, v193.toNat]
def k0_off21 (i : grid0.Coords) : Fin 3 → Nat :=
  let c0_99 : Index := 0#32
  let arg1 : BitVec 32 := BitVec.ofNat 32 (i 1).val
  let c256_i32 : BitVec 32 := 256#32
  let v101 : BitVec 32 := Scalar.muli arg1 c256_i32
  let v102 : BitVec 32 := v101
  let v196 : Index := Scalar.indexCast v102
  let c256 : Index := 256#32
  ![0, v196.toNat, 256]
def k0_off22 (i : grid0.Coords) : Fin 3 → Nat :=
  let c0_124 : Index := 0#32
  let arg1 : BitVec 32 := BitVec.ofNat 32 (i 1).val
  let c256_i32 : BitVec 32 := 256#32
  let v101 : BitVec 32 := Scalar.muli arg1 c256_i32
  let v102 : BitVec 32 := v101
  let v241 : Index := Scalar.indexCast v102
  let c384 : Index := 384#32
  ![0, v241.toNat, 384]
def k0_off23 (i : grid0.Coords) : Fin 3 → Nat :=
  let c0_147 : Index := 0#32
  let c256_148 : Index := 256#32
  let arg1 : BitVec 32 := BitVec.ofNat 32 (i 1).val
  let c256_i32 : BitVec 32 := 256#32
  let v101 : BitVec 32 := Scalar.muli arg1 c256_i32
  let v102 : BitVec 32 := v101
  let v283 : Index := Scalar.indexCast v102
  ![0, 256, v283.toNat]
def k0_off24 (i : grid0.Coords) : Fin 3 → Nat :=
  let c0_199 : Index := 0#32
  let c384_200 : Index := 384#32
  let arg1 : BitVec 32 := BitVec.ofNat 32 (i 1).val
  let c256_i32 : BitVec 32 := 256#32
  let v101 : BitVec 32 := Scalar.muli arg1 c256_i32
  let v102 : BitVec 32 := v101
  let v373 : Index := Scalar.indexCast v102
  ![0, 384, v373.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x64 : Shape := ⟨2, ![4, 64]⟩
abbrev S128 : Shape := ⟨1, ![128]⟩
abbrev S8x2048x2x4x64 : Shape := ⟨5, ![8, 2048, 2, 4, 64]⟩
abbrev S8x2048x4x128 : Shape := ⟨4, ![8, 2048, 4, 128]⟩
abbrev S2048 : Shape := ⟨1, ![2048]⟩
abbrev S1x64 : Shape := ⟨2, ![1, 64]⟩
abbrev S64 : Shape := ⟨1, ![64]⟩
abbrev S_ : Shape := ⟨0, ![]⟩
abbrev S8x2x4x2048x2048 : Shape := ⟨5, ![8, 2, 4, 2048, 2048]⟩
abbrev S1x2048 : Shape := ⟨2, ![1, 2048]⟩
abbrev S2048x1 : Shape := ⟨2, ![2048, 1]⟩
abbrev S2048x2048 : Shape := ⟨2, ![2048, 2048]⟩
abbrev S1x1x1x2048x2048 : Shape := ⟨5, ![1, 1, 1, 2048, 2048]⟩
abbrev S8x2x4x2048 : Shape := ⟨4, ![8, 2, 4, 2048]⟩
abbrev S8x2x4x2048x1 : Shape := ⟨5, ![8, 2, 4, 2048, 1]⟩
abbrev S8x1x4x2048x2048 : Shape := ⟨5, ![8, 1, 4, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x2048x512 : Shape := ⟨3, ![8, 2048, 512]⟩

abbrev nBuf : Space → Nat
  | .hbm => 101
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S8x2048x2x4x64, .f32⟩
  | .hbm, ⟨3, _⟩ => ⟨S8x2048x2x4x64, .f32⟩
  | .hbm, ⟨4, _⟩ => ⟨S8x2048x4x128, .f32⟩
  | .hbm, ⟨5, _⟩ => ⟨S2048, .i32⟩
  | .hbm, ⟨6, _⟩ => ⟨S1x64, .f32⟩
  | .hbm, ⟨7, _⟩ => ⟨S64, .f32⟩
  | .hbm, ⟨8, _⟩ => ⟨S1x64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x2x4x2048x2048, .f32⟩
  | .hbm, ⟨26, _⟩ => ⟨S_, .f32⟩
  | .hbm, ⟨27, _⟩ => ⟨S8x2x4x2048x2048, .f32⟩
  | .hbm, ⟨28, _⟩ => ⟨S8x2x4x2048x2048, .f32⟩
  | .hbm, ⟨29, _⟩ => ⟨S1x2048, .i32⟩
  | .hbm, ⟨30, _⟩ => ⟨S2048x1, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S1x1x1x2048x2048, .i1⟩
  | .hbm, ⟨35, _⟩ => ⟨S_, .f32⟩
  | .hbm, ⟨36, _⟩ => ⟨S_, .f32⟩
  | .hbm, ⟨37, _⟩ => ⟨S8x2x4x2048x2048, .i1⟩
  | .hbm, ⟨38, _⟩ => ⟨S8x2x4x2048x2048, .f32⟩
  | .hbm, ⟨39, _⟩ => ⟨S8x2x4x2048x2048, .f32⟩
  | .hbm, ⟨40, _⟩ => ⟨S_, .f32⟩
  | .hbm, ⟨41, _⟩ => ⟨S8x2x4x2048, .f32⟩
  | .hbm, ⟨42, _⟩ => ⟨S8x2x4x2048x1, .f32⟩
  | .hbm, ⟨43, _⟩ => ⟨S8x2x4x2048x1, .f32⟩
  | .hbm, ⟨44, _⟩ => ⟨S_, .f32⟩
  | .hbm, ⟨45, _⟩ => ⟨S8x2x4x2048x1, .f32⟩
  | .hbm, ⟨46, _⟩ => ⟨S8x2x4x2048x1, .i1⟩
  | .hbm, ⟨47, _⟩ => ⟨S_, .f32⟩
  | .hbm, ⟨48, _⟩ => ⟨S_, .f32⟩
  | .hbm, ⟨49, _⟩ => ⟨S8x2x4x2048x1, .f32⟩
  | .hbm, ⟨50, _⟩ => ⟨S8x2x4x2048x1, .f32⟩
  | .hbm, ⟨51, _⟩ => ⟨S8x2x4x2048x2048, .f32⟩
  | .hbm, ⟨52, _⟩ => ⟨S8x2x4x2048x2048, .f32⟩
  | .hbm, ⟨53, _⟩ => ⟨S8x2x4x2048x2048, .f32⟩
  | .hbm, ⟨54, _⟩ => ⟨S_, .f32⟩
  | .hbm, ⟨55, _⟩ => ⟨S_, .f32⟩
  | .hbm, ⟨56, _⟩ => ⟨S8x2x4x2048x2048, .i1⟩
  | .hbm, ⟨57, _⟩ => ⟨S8x2x4x2048x2048, .f32⟩
  | .hbm, ⟨58, _⟩ => ⟨S8x2x4x2048x2048, .f32⟩
  | .hbm, ⟨59, _⟩ => ⟨S_, .f32⟩
  | .hbm, ⟨60, _⟩ => ⟨S8x2x4x2048, .f32⟩
  | .hbm, ⟨61, _⟩ => ⟨S8x2x4x2048x1, .f32⟩
  | .hbm, ⟨62, _⟩ => ⟨S_, .f32⟩
  | .hbm, ⟨63, _⟩ => ⟨S8x2x4x2048x1, .f32⟩
  | .hbm, ⟨64, _⟩ => ⟨S8x2x4x2048x1, .i1⟩
  | .hbm, ⟨65, _⟩ => ⟨S_, .f32⟩
  | .hbm, ⟨66, _⟩ => ⟨S_, .f32⟩
  | .hbm, ⟨67, _⟩ => ⟨S8x2x4x2048x1, .f32⟩
  | .hbm, ⟨68, _⟩ => ⟨S8x2x4x2048x1, .f32⟩
  | .hbm, ⟨69, _⟩ => ⟨S8x2x4x2048x2048, .f32⟩
  | .hbm, ⟨70, _⟩ => ⟨S8x2x4x2048x2048, .f32⟩
  | .hbm, ⟨71, _⟩ => ⟨S8x1x4x2048x2048, .f32⟩
  | .hbm, ⟨72, _⟩ => ⟨S8x4x2048x2048, .f32⟩
  | .hbm, ⟨73, _⟩ => ⟨S8x1x4x2048x2048, .f32⟩
  | .hbm, ⟨74, _⟩ => ⟨S8x4x2048x2048, .f32⟩
  | .hbm, ⟨75, _⟩ => ⟨S8x4x2048x2048, .f32⟩
  | .hbm, ⟨76, _⟩ => ⟨S8x4x2048x2048, .f32⟩
  | .hbm, ⟨77, _⟩ => ⟨S8x4x2048x2048, .f32⟩
  | .hbm, ⟨78, _⟩ => ⟨S8x4x128x2048, .f32⟩
  | .hbm, ⟨79, _⟩ => ⟨S8x2048x4x128, .f32⟩
  | .hbm, ⟨80, _⟩ => ⟨S8x2048x4x128, .f32⟩
  | .hbm, ⟨81, _⟩ => ⟨S_, .f32⟩
  | .hbm, ⟨82, _⟩ => ⟨S8x2048x4, .f32⟩
  | .hbm, ⟨83, _⟩ => ⟨S8x2048x4x1, .f32⟩
  | .hbm, ⟨84, _⟩ => ⟨S_, .f32⟩
  | .hbm, ⟨85, _⟩ => ⟨S8x2048x4x1, .f32⟩
  | .hbm, ⟨86, _⟩ => ⟨S8x2048x4x1, .f32⟩
  | .hbm, ⟨87, _⟩ => ⟨S_, .f32⟩
  | .hbm, ⟨88, _⟩ => ⟨S8x2048x4x1, .f32⟩
  | .hbm, ⟨89, _⟩ => ⟨S8x2048x4x1, .f32⟩
  | .hbm, ⟨90, _⟩ => ⟨S8x2048x4x1, .f32⟩
  | .hbm, ⟨91, _⟩ => ⟨S8x2048x4x128, .f32⟩
  | .hbm, ⟨92, _⟩ => ⟨S8x2048x4x128, .f32⟩
  | .hbm, ⟨93, _⟩ => ⟨S1x1x1x128, .f32⟩
  | .hbm, ⟨94, _⟩ => ⟨S8x2048x4x128, .f32⟩
  | .hbm, ⟨95, _⟩ => ⟨S8x2048x4x128, .f32⟩
  | .hbm, ⟨96, _⟩ => ⟨S_, .f32⟩
  | .hbm, ⟨97, _⟩ => ⟨S8x2048x4x128, .f32⟩
  | .hbm, ⟨98, _⟩ => ⟨S8x2048x4x128, .f32⟩
  | .hbm, ⟨99, _⟩ => ⟨S8x2048x512, .f32⟩
  | .hbm, ⟨100, _⟩ => ⟨S8x2048x512, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_call1_v0 : Ref sig .tc := ⟨.hbm, 48, rfl⟩
abbrev main_call1_v1 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_call3_v0 : Ref sig .tc := ⟨.hbm, 66, rfl⟩
abbrev main_call3_v1 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]
-- ==== KernelUp.lean ====
abbrev S16384x1024 : Shape := ⟨2, ![16384, 1024]⟩
abbrev S1024 : Shape := ⟨1, ![1024]⟩
abbrev S1024x4096 : Shape := ⟨2, ![1024, 4096]⟩
abbrev S1x1024 : Shape := ⟨2, ![1, 1024]⟩
abbrev S16384x4096 : Shape := ⟨2, ![16384, 4096]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4096, .bf16⟩
  | .hbm, ⟨5, _⟩ => ⟨S16384x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S16384x1024 : Shape := ⟨2, ![16384, 1024]⟩
abbrev S1024 : Shape := ⟨1, ![1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== KernelDown.lean ====
abbrev S16384x4096 : Shape := ⟨2, ![16384, 4096]⟩
abbrev S4096x1024 : Shape := ⟨2, ![4096, 1024]⟩
abbrev S1024 : Shape := ⟨1, ![1024]⟩
abbrev S16384x1024 : Shape := ⟨2, ![16384, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S1024, .f32⟩
  | .hbm, ⟨3, _⟩ => ⟨S16384x1024, .f32⟩
  | .hbm, ⟨4, _⟩ => ⟨S4096x1024, .bf16⟩
  | .hbm, ⟨5, _⟩ => ⟨S1x1024, .f32⟩
  | .hbm, ⟨6, _⟩ => ⟨S16384x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceDownIdeal.lean ====
abbrev S16384x4096 : Shape := ⟨2, ![16384, 4096]⟩
abbrev S4096x1024 : Shape := ⟨2, ![4096, 1024]⟩
abbrev S1024 : Shape := ⟨1, ![1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S1024, .f32⟩
  | .hbm, ⟨3, _⟩ => ⟨S16384x1024, .f32⟩
  | .hbm, ⟨4, _⟩ => ⟨S16384x4096, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelMkv.lean ====
abbrev S8x256x1024 : Shape := ⟨3, ![8, 256, 1024]⟩
abbrev S1024 : Shape := ⟨1, ![1024]⟩
abbrev S1024x2048 : Shape := ⟨2, ![1024, 2048]⟩
abbrev S2048x1024 : Shape := ⟨2, ![2048, 1024]⟩
abbrev S1x1024 : Shape := ⟨2, ![1, 1024]⟩
abbrev S2048x2048 : Shape := ⟨2, ![2048, 2048]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x2048, .f32⟩
  | .hbm, ⟨3, _⟩ => ⟨S2048x1024, .f32⟩
  | .hbm, ⟨4, _⟩ => ⟨S1x1024, .f32⟩
  | .hbm, ⟨5, _⟩ => ⟨S1024x2048, .bf16⟩
  | .hbm, ⟨6, _⟩ => ⟨S2048x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceMkvIdeal.lean ====
abbrev S8x256x1024 : Shape := ⟨3, ![8, 256, 1024]⟩
abbrev S1024 : Shape := ⟨1, ![1024]⟩
abbrev S1024x2048 : Shape := ⟨2, ![1024, 2048]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x2048 : Shape := ⟨3, ![8, 256, 2048]⟩
abbrev S2048x2048 : Shape := ⟨2, ![2048, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x2048, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1x1024, .f32⟩
  | .hbm, ⟨17, _⟩ => ⟨S8x256x1024, .f32⟩
  | .hbm, ⟨18, _⟩ => ⟨S8x256x1024, .f32⟩
  | .hbm, ⟨19, _⟩ => ⟨S8x256x2048, .f32⟩
  | .hbm, ⟨20, _⟩ => ⟨S2048x2048, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KernelOut.lean ====
abbrev S16384x256 : Shape := ⟨2, ![16384, 256]⟩
abbrev S16384x512 : Shape := ⟨2, ![16384, 512]⟩
abbrev S1024x1024 : Shape := ⟨2, ![1024, 1024]⟩
abbrev S1024 : Shape := ⟨1, ![1024]⟩
abbrev S16384x1024 : Shape := ⟨2, ![16384, 1024]⟩
abbrev S256x1024 : Shape := ⟨2, ![256, 1024]⟩
abbrev S512x1024 : Shape := ⟨2, ![512, 1024]⟩
abbrev S1x1024 : Shape := ⟨2, ![1, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x256, .bf16⟩
  | .hbm, ⟨1, _⟩ => ⟨S16384x512, .bf16⟩
  | .hbm, ⟨2, _⟩ => ⟨S16384x256, .bf16⟩
  | .hbm, ⟨3, _⟩ => ⟨S1024x1024, .f32⟩
  | .hbm, ⟨4, _⟩ => ⟨S1024, .f32⟩
  | .hbm, ⟨5, _⟩ => ⟨S16384x1024, .f32⟩
  | .hbm, ⟨6, _⟩ => ⟨S1024x1024, .bf16⟩
  | .hbm, ⟨7, _⟩ => ⟨S256x1024, .bf16⟩
  | .hbm, ⟨8, _⟩ => ⟨S512x1024, .bf16⟩
  | .hbm, ⟨9, _⟩ => ⟨S256x1024, .bf16⟩
  | .hbm, ⟨10, _⟩ => ⟨S1x1024, .f32⟩
  | .hbm, ⟨11, _⟩ => ⟨S16384x1024, .f32⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S256x1024, .bf16⟩
  | .local _ .vmem, ⟨7, _⟩ => ⟨S512x1024, .bf16⟩
  | .local _ .vmem, ⟨8, _⟩ => ⟨S256x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceOutIdeal.lean ====
abbrev S16384x256 : Shape := ⟨2, ![16384, 256]⟩
abbrev S16384x512 : Shape := ⟨2, ![16384, 512]⟩
abbrev S1024x1024 : Shape := ⟨2, ![1024, 1024]⟩
abbrev S1024 : Shape := ⟨1, ![1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x512, .bf16⟩
  | .hbm, ⟨2, _⟩ => ⟨S16384x256, .bf16⟩
  | .hbm, ⟨3, _⟩ => ⟨S1024x1024, .f32⟩
  | .hbm, ⟨4, _⟩ => ⟨S1024, .f32⟩
  | .hbm, ⟨5, _⟩ => ⟨S16384x1024, .f32⟩
  | .hbm, ⟨6, _⟩ => ⟨S16384x256, .f32⟩
  | .hbm, ⟨7, _⟩ => ⟨S16384x512, .f32⟩
  | .hbm, ⟨8, _⟩ => ⟨S16384x256, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== KernelMq.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceMqIdeal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KernelMo.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S1024x1024, .bf16⟩
  | .hbm, ⟨5, _⟩ => ⟨S1x1024, .f32⟩
  | .hbm, ⟨6, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceMoIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelXattn.lean ====
abbrev S8x2048x1024 : Shape := ⟨3, ![8, 2048, 1024]⟩
abbrev S8x256x2x4x256 : Shape := ⟨5, ![8, 256, 2, 4, 256]⟩
abbrev S8x256x2048 : Shape := ⟨3, ![8, 256, 2048]⟩
abbrev S1x512x1024 : Shape := ⟨3, ![1, 512, 1024]⟩
abbrev S1x256x2048 : Shape := ⟨3, ![1, 256, 2048]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8x2048x1024, .bf16⟩
  | .hbm, ⟨1, _⟩ => ⟨S8x256x2x4x256, .f32⟩
  | .hbm, ⟨2, _⟩ => ⟨S8x256x2048, .f32⟩
  | .hbm, ⟨3, _⟩ => ⟨S8x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x256x2048, .f32⟩
  | .local _ .vmem, ⟨3, _⟩ => ⟨S1x256x2048, .f32⟩
  | .local _ .vmem, ⟨4, _⟩ => ⟨S1x512x1024, .bf16⟩
  | .local _ .vmem, ⟨5, _⟩ => ⟨S1x512x1024, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceXattnIdeal.lean ====
abbrev S8x2048x1024 : Shape := ⟨3, ![8, 2048, 1024]⟩
abbrev S8x256x2x4x256 : Shape := ⟨5, ![8, 256, 2, 4, 256]⟩
abbrev S8x2048x4x256 : Shape := ⟨4, ![8, 2048, 4, 256]⟩
abbrev S8x256x1x4x256 : Shape := ⟨5, ![8, 256, 1, 4, 256]⟩
abbrev S8x256x4x256 : Shape := ⟨4, ![8, 256, 4, 256]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x256x2x4x256, .f32⟩
  | .hbm, ⟨2, _⟩ => ⟨S8x2048x1024, .f32⟩
  | .hbm, ⟨3, _⟩ => ⟨S8x2048x4x256, .f32⟩
  | .hbm, ⟨4, _⟩ => ⟨S8x256x1x4x256, .f32⟩
  | .hbm, ⟨5, _⟩ => ⟨S8x256x4x256, .f32⟩
  | .hbm, ⟨6, _⟩ => ⟨S8x4x2048x256, .f32⟩
  | .hbm, ⟨7, _⟩ => ⟨S_, .f32⟩
  | .hbm, ⟨8, _⟩ => ⟨S8x4x2048x256, .f32⟩
  | .hbm, ⟨9, _⟩ => ⟨S8x4x2048x256, .f32⟩
  | .hbm, ⟨10, _⟩ => ⟨S_, .f32⟩
  | .hbm, ⟨11, _⟩ => ⟨S8x4x2048, .f32⟩
  | .hbm, ⟨12, _⟩ => ⟨S_, .f32⟩
  | .hbm, ⟨13, _⟩ => ⟨S8x4x2048, .f32⟩
  | .hbm, ⟨14, _⟩ => ⟨S8x4x2048, .f32⟩
  | .hbm, ⟨15, _⟩ => ⟨S8x4x2048x1, .f32⟩
  | .hbm, ⟨16, _⟩ => ⟨S8x4x2048x256, .f32⟩
  | .hbm, ⟨17, _⟩ => ⟨S8x4x2048x256, .f32⟩
  | .hbm, ⟨18, _⟩ => ⟨S8x4x2048x256, .f32⟩
  | .hbm, ⟨19, _⟩ => ⟨S_, .f32⟩
  | .hbm, ⟨20, _⟩ => ⟨S8x4x2048, .f32⟩
  | .hbm, ⟨21, _⟩ => ⟨S8x4x2048x1, .f32⟩
  | .hbm, ⟨22, _⟩ => ⟨S8x4x2048x256, .f32⟩
  | .hbm, ⟨23, _⟩ => ⟨S8x4x2048x256, .f32⟩
  | .hbm, ⟨24, _⟩ => ⟨S8x256x1x4x256, .f32⟩
  | .hbm, ⟨25, _⟩ => ⟨S8x256x4x256, .f32⟩
  | .hbm, ⟨26, _⟩ => ⟨S8x4x256x2048, .f32⟩
  | .hbm, ⟨27, _⟩ => ⟨S8x2048x4x256, .f32⟩
  | .hbm, ⟨28, _⟩ => ⟨S8x2048x1024, .f32⟩
  | .hbm, ⟨29, _⟩ => ⟨S8x2048x1024, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== KernelProj.lean ====
abbrev S8x2048x1024 : Shape := ⟨3, ![8, 2048, 1024]⟩
abbrev S1024 : Shape := ⟨1, ![1024]⟩
abbrev S1024x2960 : Shape := ⟨2, ![1024, 2960]⟩
abbrev S4 : Shape := ⟨1, ![4]⟩
abbrev S2048x8 : Shape := ⟨2, ![2048, 8]⟩
abbrev S_ : Shape := ⟨0, ![]⟩
abbrev S1x128 : Shape := ⟨2, ![1, 128]⟩
abbrev S1 : Shape := ⟨1, ![1]⟩
abbrev S2 : Shape := ⟨1, ![2]⟩
abbrev S16384x1024 : Shape := ⟨2, ![16384, 1024]⟩
abbrev S1x1024 : Shape := ⟨2, ![1, 1024]⟩
abbrev S1024x112 : Shape := ⟨2, ![1024, 112]⟩
abbrev S1024x640 : Shape := ⟨2, ![1024, 640]⟩
abbrev S1024x2304 : Shape := ⟨2, ![1024, 2304]⟩
abbrev S1024x12 : Shape := ⟨2, ![1024, 12]⟩
abbrev S1024x4 : Shape := ⟨2, ![1024, 4]⟩
abbrev S1024x3072 : Shape := ⟨2, ![1024, 3072]⟩
abbrev S2048x48 : Shape := ⟨2, ![2048, 48]⟩
abbrev S2048x64 : Shape := ⟨2, ![2048, 64]⟩
abbrev S2048x128 : Shape := ⟨2, ![2048, 128]⟩
abbrev S1x2048x128 : Shape := ⟨3, ![1, 2048, 128]⟩
abbrev S3x2048x128 : Shape := ⟨3, ![3, 2048, 128]⟩
abbrev S16384x256 : Shape := ⟨2, ![16384, 256]⟩
abbrev S16384x128 : Shape := ⟨2, ![16384, 128]⟩
abbrev S16384x512 : Shape := ⟨2, ![16384, 512]⟩
abbrev S512x1024 : Shape := ⟨2, ![512, 1024]⟩
abbrev S3x512x128 : Shape := ⟨3, ![3, 512, 128]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S1x512x128 : Shape := ⟨3, ![1, 512, 128]⟩
abbrev S1024x128 : Shape := ⟨2, ![1024, 128]⟩
abbrev S1024x512 : Shape := ⟨2, ![1024, 512]⟩

abbrev nBuf : Space → Nat
  | .hbm => 76
  | .vmem => 41
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2960, .f32⟩
  | .hbm, ⟨3, _⟩ => ⟨S4, .f32⟩
  | .hbm, ⟨4, _⟩ => ⟨S2048x8, .f32⟩
  | .hbm, ⟨5, _⟩ => ⟨S2048x8, .f32⟩
  | .hbm, ⟨6, _⟩ => ⟨S_, .f32⟩
  | .hbm, ⟨7, _⟩ => ⟨S1x128, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S1x128, .f32⟩
  | .hbm, ⟨14, _⟩ => ⟨S16384x1024, .f32⟩
  | .hbm, ⟨15, _⟩ => ⟨S1x1024, .f32⟩
  | .hbm, ⟨16, _⟩ => ⟨S_, .f32⟩
  | .hbm, ⟨17, _⟩ => ⟨S1024x112, .f32⟩
  | .hbm, ⟨18, _⟩ => ⟨S1024x640, .f32⟩
  | .hbm, ⟨19, _⟩ => ⟨S1024x2304, .f32⟩
  | .hbm, ⟨20, _⟩ => ⟨S1024x12, .f32⟩
  | .hbm, ⟨21, _⟩ => ⟨S1024x4, .f32⟩
  | .hbm, ⟨22, _⟩ => ⟨S1024x3072, .f32⟩
  | .hbm, ⟨23, _⟩ => ⟨S1024x3072, .bf16⟩
  | .hbm, ⟨24, _⟩ => ⟨S_, .f32⟩
  | .hbm, ⟨25, _⟩ => ⟨S2048x48, .f32⟩
  | .hbm, ⟨26, _⟩ => ⟨S_, .f32⟩
  | .hbm, ⟨27, _⟩ => ⟨S2048x48, .f32⟩
  | .hbm, ⟨28, _⟩ => ⟨S_, .f32⟩
  | .hbm, ⟨29, _⟩ => ⟨S2048x8, .f32⟩
  | .hbm, ⟨30, _⟩ => ⟨S_, .f32⟩
  | .hbm, ⟨31, _⟩ => ⟨S2048x64, .f32⟩
  | .hbm, ⟨32, _⟩ => ⟨S_, .f32⟩
  | .hbm, ⟨33, _⟩ => ⟨S2048x64, .f32⟩
  | .hbm, ⟨34, _⟩ => ⟨S2048x8, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S1x2048x128, .f32⟩
  | .hbm, ⟨39, _⟩ => ⟨S1x2048x128, .f32⟩
  | .hbm, ⟨40, _⟩ => ⟨S1x2048x128, .f32⟩
  | .hbm, ⟨41, _⟩ => ⟨S3x2048x128, .f32⟩
  | .hbm, ⟨42, _⟩ => ⟨S_, .f32⟩
  | .hbm, ⟨43, _⟩ => ⟨S2048x48, .f32⟩
  | .hbm, ⟨44, _⟩ => ⟨S_, .f32⟩
  | .hbm, ⟨45, _⟩ => ⟨S2048x48, .f32⟩
  | .hbm, ⟨46, _⟩ => ⟨S_, .f32⟩
  | .hbm, ⟨47, _⟩ => ⟨S2048x8, .f32⟩
  | .hbm, ⟨48, _⟩ => ⟨S_, .f32⟩
  | .hbm, ⟨49, _⟩ => ⟨S2048x64, .f32⟩
  | .hbm, ⟨50, _⟩ => ⟨S_, .f32⟩
  | .hbm, ⟨51, _⟩ => ⟨S2048x64, .f32⟩
  | .hbm, ⟨52, _⟩ => ⟨S2048x8, .f32⟩
  | .hbm, ⟨53, _⟩ => ⟨S2048x128, .f32⟩
  | .hbm, ⟨54, _⟩ => ⟨S2048x128, .f32⟩
  | .hbm, ⟨55, _⟩ => ⟨S2048x128, .f32⟩
  | .hbm, ⟨56, _⟩ => ⟨S1x2048x128, .f32⟩
  | .hbm, ⟨57, _⟩ => ⟨S1x2048x128, .f32⟩
  | .hbm, ⟨58, _⟩ => ⟨S1x2048x128, .f32⟩
  | .hbm, ⟨59, _⟩ => ⟨S3x2048x128, .f32⟩
  | .hbm, ⟨60, _⟩ => ⟨S16384x256, .bf16⟩
  | .hbm, ⟨61, _⟩ => ⟨S16384x256, .bf16⟩
  | .hbm, ⟨62, _⟩ => ⟨S16384x128, .f32⟩
  | .hbm, ⟨63, _⟩ => ⟨S16384x128, .f32⟩
  | .hbm, ⟨64, _⟩ => ⟨S16384x128, .bf16⟩
  | .hbm, ⟨65, _⟩ => ⟨S16384x128, .f32⟩
  | .hbm, ⟨66, _⟩ => ⟨S16384x128, .bf16⟩
  | .hbm, ⟨67, _⟩ => ⟨S16384x512, .bf16⟩
  | .hbm, ⟨68, _⟩ => ⟨S16384x512, .f32⟩
  | .hbm, ⟨69, _⟩ => ⟨S16384x512, .bf16⟩
  | .hbm, ⟨70, _⟩ => ⟨S16384x512, .f32⟩
  | .hbm, ⟨71, _⟩ => ⟨S16384x512, .bf16⟩
  | .hbm, ⟨72, _⟩ => ⟨S16384x256, .bf16⟩
  | .hbm, ⟨73, _⟩ => ⟨S16384x512, .f32⟩
  | .hbm, ⟨74, _⟩ => ⟨S16384x512, .bf16⟩
  | .hbm, ⟨75, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x128, .f32⟩
  | .local _ .vmem, ⟨5, _⟩ => ⟨S3x512x128, .f32⟩
  | .local _ .vmem, ⟨6, _⟩ => ⟨S3x512x128, .f32⟩
  | .local _ .vmem, ⟨7, _⟩ => ⟨S3x512x128, .f32⟩
  | .local _ .vmem, ⟨8, _⟩ => ⟨S3x512x128, .f32⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .bf16⟩
  | .local _ .vmem, ⟨18, _⟩ => ⟨S512x128, .bf16⟩
  | .local _ .vmem, ⟨19, _⟩ => ⟨S512x128, .f32⟩
  | .local _ .vmem, ⟨20, _⟩ => ⟨S512x128, .f32⟩
  | .local _ .vmem, ⟨21, _⟩ => ⟨S512x128, .bf16⟩
  | .local _ .vmem, ⟨22, _⟩ => ⟨S512x128, .bf16⟩
  | .local _ .vmem, ⟨23, _⟩ => ⟨S512x512, .bf16⟩
  | .local _ .vmem, ⟨24, _⟩ => ⟨S512x512, .bf16⟩
  | .local _ .vmem, ⟨25, _⟩ => ⟨S512x512, .f32⟩
  | .local _ .vmem, ⟨26, _⟩ => ⟨S512x512, .f32⟩
  | .local _ .vmem, ⟨27, _⟩ => ⟨S512x512, .bf16⟩
  | .local _ .vmem, ⟨28, _⟩ => ⟨S512x512, .bf16⟩
  | .local _ .vmem, ⟨29, _⟩ => ⟨S512x512, .f32⟩
  | .local _ .vmem, ⟨30, _⟩ => ⟨S512x512, .f32⟩
  | .local _ .vmem, ⟨31, _⟩ => ⟨S512x512, .bf16⟩
  | .local _ .vmem, ⟨32, _⟩ => ⟨S512x512, .bf16⟩
  | .local _ .vmem, ⟨33, _⟩ => ⟨S512x256, .bf16⟩
  | .local _ .vmem, ⟨34, _⟩ => ⟨S512x256, .bf16⟩
  | .local _ .vmem, ⟨35, _⟩ => ⟨S512x512, .f32⟩
  | .local _ .vmem, ⟨36, _⟩ => ⟨S512x512, .f32⟩
  | .local _ .vmem, ⟨37, _⟩ => ⟨S512x512, .bf16⟩
  | .local _ .vmem, ⟨38, _⟩ => ⟨S512x512, .bf16⟩
  | .local _ .vmem, ⟨39, _⟩ => ⟨S512x128, .f32⟩
  | .local _ .vmem, ⟨40, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_cst_10 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40_0 : Ref sig .tc := ⟨.hbm, 60, rfl⟩
abbrev main_v40_1 : Ref sig .tc := ⟨.hbm, 61, rfl⟩
abbrev main_v40_2 : Ref sig .tc := ⟨.hbm, 62, rfl⟩
abbrev main_v40_3 : Ref sig .tc := ⟨.hbm, 63, rfl⟩
abbrev main_v40_4 : Ref sig .tc := ⟨.hbm, 64, rfl⟩
abbrev main_v40_5 : Ref sig .tc := ⟨.hbm, 65, rfl⟩
abbrev main_v40_6 : Ref sig .tc := ⟨.hbm, 66, rfl⟩
abbrev main_v40_7 : Ref sig .tc := ⟨.hbm, 67, rfl⟩
abbrev main_v40_8 : Ref sig .tc := ⟨.hbm, 68, rfl⟩
abbrev main_v40_9 : Ref sig .tc := ⟨.hbm, 69, rfl⟩
abbrev main_v40_10 : Ref sig .tc := ⟨.hbm, 70, rfl⟩
abbrev main_v40_11 : Ref sig .tc := ⟨.hbm, 71, rfl⟩
abbrev main_v40_12 : Ref sig .tc := ⟨.hbm, 72, rfl⟩
abbrev main_v40_13 : Ref sig .tc := ⟨.hbm, 73, rfl⟩
abbrev main_v40_14 : Ref sig .tc := ⟨.hbm, 74, rfl⟩
abbrev main_v40_15 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ReferenceProjIdeal.lean ====
abbrev S8x2048x1024 : Shape := ⟨3, ![8, 2048, 1024]⟩
abbrev S1024 : Shape := ⟨1, ![1024]⟩
abbrev S1024x2960 : Shape := ⟨2, ![1024, 2960]⟩
abbrev S4 : Shape := ⟨1, ![4]⟩
abbrev S2048x8 : Shape := ⟨2, ![2048, 8]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2960 : Shape := ⟨3, ![8, 2048, 2960]⟩
abbrev S8x2048x256 : Shape := ⟨3, ![8, 2048, 256]⟩
abbrev S8x2048x128 : Shape := ⟨3, ![8, 2048, 128]⟩
abbrev S8x2048x12 : Shape := ⟨3, ![8, 2048, 12]⟩
abbrev S8x2048x512 : Shape := ⟨3, ![8, 2048, 512]⟩
abbrev S8x2048x4 : Shape := ⟨3, ![8, 2048, 4]⟩
abbrev S8x2048x2x64 : Shape := ⟨4, ![8, 2048, 2, 64]⟩
abbrev S8x2048x1x64 : Shape := ⟨4, ![8, 2048, 1, 64]⟩
abbrev S2048x1x8 : Shape := ⟨3, ![2048, 1, 8]⟩
abbrev S8x2048x1x8 : Shape := ⟨4, ![8, 2048, 1, 8]⟩
abbrev S1x2048x1x8 : Shape := ⟨4, ![1, 2048, 1, 8]⟩
abbrev S8x2048x1x48 : Shape := ⟨4, ![8, 2048, 1, 48]⟩
abbrev S16384x128 : Shape := ⟨2, ![16384, 128]⟩
abbrev S8x2048x8x64 : Shape := ⟨4, ![8, 2048, 8, 64]⟩
abbrev S8x2048x8x8 : Shape := ⟨4, ![8, 2048, 8, 8]⟩
abbrev S8x2048x8x48 : Shape := ⟨4, ![8, 2048, 8, 48]⟩
abbrev S16384x512 : Shape := ⟨2, ![16384, 512]⟩
abbrev S1x1x4 : Shape := ⟨3, ![1, 1, 4]⟩
abbrev S8x2048x112 : Shape := ⟨3, ![8, 2048, 112]⟩
abbrev S16384x256 : Shape := ⟨2, ![16384, 256]⟩
abbrev S8x2048x4x64 : Shape := ⟨4, ![8, 2048, 4, 64]⟩
abbrev S8x2048x4x8 : Shape := ⟨4, ![8, 2048, 4, 8]⟩
abbrev S8x2048x4x48 : Shape := ⟨4, ![8, 2048, 4, 48]⟩

abbrev nBuf : Space → Nat
  | .hbm => 209
  | .vmem => 0
  | .smem => 0
  | _ => 0

abbrev hbmTy0_0 (i : Nat) : BufTy := match i % 128 with
  | 0 => ⟨S8x2048x1024, .f32⟩
  | 1 => ⟨S1024, .f32⟩
  | 2 => ⟨S1024x2960, .f32⟩
  | 3 => ⟨S4, .f32⟩
  | 4 => ⟨S2048x8, .f32⟩
  | 5 => ⟨S2048x8, .f32⟩
  | 6 => ⟨S8x2048x1024, .f32⟩
  | 7 => ⟨S_, .f32⟩
  | 8 => ⟨S8x2048, .f32⟩
  | 9 => ⟨S8x2048x1, .f32⟩
  | 10 => ⟨S_, .f32⟩
  | 11 => ⟨S8x2048x1, .f32⟩
  | 12 => ⟨S8x2048x1, .f32⟩
  | 13 => ⟨S_, .f32⟩
  | 14 => ⟨S8x2048x1, .f32⟩
  | 15 => ⟨S8x2048x1, .f32⟩
  | 16 => ⟨S8x2048x1, .f32⟩
  | 17 => ⟨S8x2048x1024, .f32⟩
  | 18 => ⟨S8x2048x1024, .f32⟩
  | 19 => ⟨S1x1x1024, .f32⟩
  | 20 => ⟨S8x2048x1024, .f32⟩
  | 21 => ⟨S8x2048x1024, .f32⟩
  | 22 => ⟨S8x2048x2960, .f32⟩
  | 23 => ⟨S8x2048x256, .f32⟩
  | 24 => ⟨S8x2048x128, .f32⟩
  | 25 => ⟨S8x2048x128, .f32⟩
  | 26 => ⟨S8x2048x128, .f32⟩
  | 27 => ⟨S8x2048x12, .f32⟩
  | 28 => ⟨S8x2048x512, .f32⟩
  | 29 => ⟨S8x2048x512, .f32⟩
  | 30 => ⟨S8x2048x512, .f32⟩
  | 31 => ⟨S8x2048x256, .f32⟩
  | 32 => ⟨S8x2048x512, .f32⟩
  | 33 => ⟨S8x2048x4, .f32⟩
  | 34 => ⟨S8x2048x2x64, .f32⟩
  | 35 => ⟨S8x2048x1x64, .f32⟩
  | 36 => ⟨S2048x1x8, .f32⟩
  | 37 => ⟨S2048x1x8, .f32⟩
  | 38 => ⟨S8x2048x1x8, .f32⟩
  | 39 => ⟨S8x2048x1x8, .f32⟩
  | 40 => ⟨S1x2048x1x8, .f32⟩
  | 41 => ⟨S8x2048x1x8, .f32⟩
  | 42 => ⟨S8x2048x1x8, .f32⟩
  | 43 => ⟨S1x2048x1x8, .f32⟩
  | 44 => ⟨S8x2048x1x8, .f32⟩
  | 45 => ⟨S8x2048x1x8, .f32⟩
  | 46 => ⟨S8x2048x1x8, .f32⟩
  | 47 => ⟨S1x2048x1x8, .f32⟩
  | 48 => ⟨S8x2048x1x8, .f32⟩
  | 49 => ⟨S8x2048x1x8, .f32⟩
  | 50 => ⟨S1x2048x1x8, .f32⟩
  | 51 => ⟨S8x2048x1x8, .f32⟩
  | 52 => ⟨S8x2048x1x8, .f32⟩
  | 53 => ⟨S8x2048x1x8, .f32⟩
  | 54 => ⟨S8x2048x1x48, .f32⟩
  | 55 => ⟨S8x2048x1x64, .f32⟩
  | 56 => ⟨S8x2048x1x64, .f32⟩
  | 57 => ⟨S8x2048x2x64, .f32⟩
  | 58 => ⟨S16384x128, .f32⟩
  | 59 => ⟨S8x2048x2x64, .f32⟩
  | 60 => ⟨S8x2048x1x64, .f32⟩
  | 61 => ⟨S2048x1x8, .f32⟩
  | 62 => ⟨S2048x1x8, .f32⟩
  | 63 => ⟨S8x2048x1x8, .f32⟩
  | 64 => ⟨S8x2048x1x8, .f32⟩
  | 65 => ⟨S1x2048x1x8, .f32⟩
  | 66 => ⟨S8x2048x1x8, .f32⟩
  | 67 => ⟨S8x2048x1x8, .f32⟩
  | 68 => ⟨S1x2048x1x8, .f32⟩
  | 69 => ⟨S8x2048x1x8, .f32⟩
  | 70 => ⟨S8x2048x1x8, .f32⟩
  | 71 => ⟨S8x2048x1x8, .f32⟩
  | 72 => ⟨S1x2048x1x8, .f32⟩
  | 73 => ⟨S8x2048x1x8, .f32⟩
  | 74 => ⟨S8x2048x1x8, .f32⟩
  | 75 => ⟨S1x2048x1x8, .f32⟩
  | 76 => ⟨S8x2048x1x8, .f32⟩
  | 77 => ⟨S8x2048x1x8, .f32⟩
  | 78 => ⟨S8x2048x1x8, .f32⟩
  | 79 => ⟨S8x2048x1x48, .f32⟩
  | 80 => ⟨S8x2048x1x64, .f32⟩
  | 81 => ⟨S8x2048x1x64, .f32⟩
  | 82 => ⟨S8x2048x2x64, .f32⟩
  | 83 => ⟨S16384x128, .f32⟩
  | 84 => ⟨S8x2048x8x64, .f32⟩
  | 85 => ⟨S2048x1x8, .f32⟩
  | 86 => ⟨S2048x1x8, .f32⟩
  | 87 => ⟨S8x2048x8x8, .f32⟩
  | 88 => ⟨S8x2048x8x8, .f32⟩
  | 89 => ⟨S1x2048x1x8, .f32⟩
  | 90 => ⟨S8x2048x8x8, .f32⟩
  | 91 => ⟨S8x2048x8x8, .f32⟩
  | 92 => ⟨S1x2048x1x8, .f32⟩
  | 93 => ⟨S8x2048x8x8, .f32⟩
  | 94 => ⟨S8x2048x8x8, .f32⟩
  | 95 => ⟨S8x2048x8x8, .f32⟩
  | 96 => ⟨S1x2048x1x8, .f32⟩
  | 97 => ⟨S8x2048x8x8, .f32⟩
  | 98 => ⟨S8x2048x8x8, .f32⟩
  | 99 => ⟨S1x2048x1x8, .f32⟩
  | 100 => ⟨S8x2048x8x8, .f32⟩
  | 101 => ⟨S8x2048x8x8, .f32⟩
  | 102 => ⟨S8x2048x8x8, .f32⟩
  | 103 => ⟨S8x2048x8x48, .f32⟩
  | 104 => ⟨S8x2048x8x64, .f32⟩
  | 105 => ⟨S16384x512, .f32⟩
  | 106 => ⟨S8x2048x12, .f32⟩
  | 107 => ⟨S8x2048x12, .f32⟩
  | 108 => ⟨S_, .f32⟩
  | 109 => ⟨S8x2048x12, .f32⟩
  | 110 => ⟨S8x2048x12, .f32⟩
  | 111 => ⟨S_, .f32⟩
  | 112 => ⟨S8x2048x12, .f32⟩
  | 113 => ⟨S8x2048x12, .f32⟩
  | 114 => ⟨S1x1x4, .f32⟩
  | 115 => ⟨S8x2048x4, .f32⟩
  | 116 => ⟨S8x2048x4, .f32⟩
  | 117 => ⟨S8x2048x4, .f32⟩
  | 118 => ⟨S_, .f32⟩
  | 119 => ⟨S8x2048x4, .f32⟩
  | 120 => ⟨S8x2048x4, .f32⟩
  | 121 => ⟨S8x2048x4, .f32⟩
  | 122 => ⟨S8x2048x4, .f32⟩
  | 123 => ⟨S8x2048x4, .i1⟩
  | 124 => ⟨S8x2048x4, .f32⟩
  | 125 => ⟨S8x2048x4, .f32⟩
  | 126 => ⟨S8x2048x4, .f32⟩
  | 127 => ⟨S8x2048x4, .f32⟩
  | _ => ⟨S8x2048x1024, .f32⟩

abbrev hbmTy0_1 (i : Nat) : BufTy := match i % 128 with
  | 0 => ⟨S8x2048x4, .f32⟩
  | 1 => ⟨S8x2048x4, .f32⟩
  | 2 => ⟨S8x2048x4, .f32⟩
  | 3 => ⟨S8x2048x4, .f32⟩
  | 4 => ⟨S8x2048x4, .f32⟩
  | 5 => ⟨S_, .f32⟩
  | 6 => ⟨S8x2048x112, .f32⟩
  | 7 => ⟨S8x2048x128, .f32⟩
  | 8 => ⟨S_, .f32⟩
  | 9 => ⟨S8x2048x256, .f32⟩
  | 10 => ⟨S8x2048x256, .f32⟩
  | 11 => ⟨S16384x256, .f32⟩
  | 12 => ⟨S16384x256, .bf16⟩
  | 13 => ⟨S8x2048x4x64, .f32⟩
  | 14 => ⟨S2048x1x8, .f32⟩
  | 15 => ⟨S2048x1x8, .f32⟩
  | 16 => ⟨S8x2048x4x8, .f32⟩
  | 17 => ⟨S8x2048x4x8, .f32⟩
  | 18 => ⟨S1x2048x1x8, .f32⟩
  | 19 => ⟨S8x2048x4x8, .f32⟩
  | 20 => ⟨S8x2048x4x8, .f32⟩
  | 21 => ⟨S1x2048x1x8, .f32⟩
  | 22 => ⟨S8x2048x4x8, .f32⟩
  | 23 => ⟨S8x2048x4x8, .f32⟩
  | 24 => ⟨S8x2048x4x8, .f32⟩
  | 25 => ⟨S1x2048x1x8, .f32⟩
  | 26 => ⟨S8x2048x4x8, .f32⟩
  | 27 => ⟨S8x2048x4x8, .f32⟩
  | 28 => ⟨S1x2048x1x8, .f32⟩
  | 29 => ⟨S8x2048x4x8, .f32⟩
  | 30 => ⟨S8x2048x4x8, .f32⟩
  | 31 => ⟨S8x2048x4x8, .f32⟩
  | 32 => ⟨S8x2048x4x48, .f32⟩
  | 33 => ⟨S8x2048x4x64, .f32⟩
  | 34 => ⟨S16384x256, .f32⟩
  | 35 => ⟨S_, .f32⟩
  | 36 => ⟨S16384x256, .f32⟩
  | 37 => ⟨S16384x256, .f32⟩
  | 38 => ⟨S16384x256, .bf16⟩
  | 39 => ⟨S16384x128, .f32⟩
  | 40 => ⟨S16384x128, .bf16⟩
  | 41 => ⟨S16384x128, .bf16⟩
  | 42 => ⟨S8x2048x8x64, .f32⟩
  | 43 => ⟨S2048x1x8, .f32⟩
  | 44 => ⟨S2048x1x8, .f32⟩
  | 45 => ⟨S8x2048x8x8, .f32⟩
  | 46 => ⟨S8x2048x8x8, .f32⟩
  | 47 => ⟨S1x2048x1x8, .f32⟩
  | 48 => ⟨S8x2048x8x8, .f32⟩
  | 49 => ⟨S8x2048x8x8, .f32⟩
  | 50 => ⟨S1x2048x1x8, .f32⟩
  | 51 => ⟨S8x2048x8x8, .f32⟩
  | 52 => ⟨S8x2048x8x8, .f32⟩
  | 53 => ⟨S8x2048x8x8, .f32⟩
  | 54 => ⟨S1x2048x1x8, .f32⟩
  | 55 => ⟨S8x2048x8x8, .f32⟩
  | 56 => ⟨S8x2048x8x8, .f32⟩
  | 57 => ⟨S1x2048x1x8, .f32⟩
  | 58 => ⟨S8x2048x8x8, .f32⟩
  | 59 => ⟨S8x2048x8x8, .f32⟩
  | 60 => ⟨S8x2048x8x8, .f32⟩
  | 61 => ⟨S8x2048x8x48, .f32⟩
  | 62 => ⟨S8x2048x8x64, .f32⟩
  | 63 => ⟨S16384x512, .f32⟩
  | 64 => ⟨S_, .f32⟩
  | 65 => ⟨S16384x512, .f32⟩
  | 66 => ⟨S16384x512, .f32⟩
  | 67 => ⟨S16384x512, .bf16⟩
  | 68 => ⟨S16384x512, .bf16⟩
  | 69 => ⟨S16384x512, .f32⟩
  | 70 => ⟨S16384x512, .f32⟩
  | 71 => ⟨S16384x512, .bf16⟩
  | 72 => ⟨S_, .f32⟩
  | 73 => ⟨S8x2048x256, .f32⟩
  | 74 => ⟨S8x2048x256, .f32⟩
  | 75 => ⟨S16384x256, .f32⟩
  | 76 => ⟨S16384x256, .bf16⟩
  | 77 => ⟨S16384x512, .f32⟩
  | 78 => ⟨S16384x512, .f32⟩
  | 79 => ⟨S16384x512, .bf16⟩
  | 80 => ⟨S16384x128, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_cst_2 : Ref sig .tc := ⟨.hbm, 108, rfl⟩
abbrev main_v99 : Ref sig .tc := ⟨.hbm, 109, rfl⟩
abbrev main_v100 : Ref sig .tc := ⟨.hbm, 110, rfl⟩
abbrev main_cst_3 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_call0_v0 : Ref sig .tc := ⟨.hbm, 117, rfl⟩
abbrev main_call0_call0_cst : Ref sig .tc := ⟨.hbm, 118, rfl⟩
abbrev main_call0_call0_v0 : Ref sig .tc := ⟨.hbm, 119, rfl⟩
abbrev main_call0_call0_v1 : Ref sig .tc := ⟨.hbm, 120, rfl⟩
abbrev main_call0_call0_v2 : Ref sig .tc := ⟨.hbm, 121, rfl⟩
abbrev main_call0_call0_v3 : Ref sig .tc := ⟨.hbm, 122, rfl⟩
abbrev main_call0_call0_v4 : Ref sig .tc := ⟨.hbm, 123, rfl⟩
abbrev main_call0_call0_v5 : Ref sig .tc := ⟨.hbm, 124, rfl⟩
abbrev main_call0_call0_v6 : Ref sig .tc := ⟨.hbm, 125, rfl⟩
abbrev main_call0_call0_v7 : Ref sig .tc := ⟨.hbm, 126, rfl⟩
abbrev main_call0_call0_v8 : Ref sig .tc := ⟨.hbm, 127, rfl⟩
abbrev main_call0_call0_v9 : Ref sig .tc := ⟨.hbm, 128, rfl⟩
abbrev main_call0_call0_v10 : Ref sig .tc := ⟨.hbm, 129, rfl⟩
abbrev main_call0_call0_v11 : Ref sig .tc := ⟨.hbm, 130, rfl⟩
abbrev main_call0_v1 : Ref sig .tc := ⟨.hbm, 131, rfl⟩
abbrev main_v106 : Ref sig .tc := ⟨.hbm, 132, rfl⟩
abbrev main_cst_4 : Ref sig .tc := ⟨.hbm, 133, rfl⟩
abbrev main_v107 : Ref sig .tc := ⟨.hbm, 134, rfl⟩
abbrev main_v108 : Ref sig .tc := ⟨.hbm, 135, rfl⟩
abbrev main_cst_5 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_cst_6 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_cst_7 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_cst_8 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩

abbrev nD : Nat := 1
abbrev τ : Topo := Topo.v7x

variable {F : FTy → Type} [FloatOps F]
-- ==== Proof.DiffPieces.lean ====
/- The pieces the kernel's two chunk bodies store: the eight streams' running maximum, denominator and numerator, each as one function of the chunk's scores. -/
module

public import proofs.«01_k».proof.Proof.Gen.KernelIdeal.Frame
public import Idealize.ShloMosaic.Lib.Pipeline.ReadBack

@[expose] public section

set_option maxRecDepth 16384

noncomputable section

namespace Cert.KernelIdeal.Diff

open Idealize.ShloMosaic Idealize.ShloMosaic.TcCoe Idealize.SL.Sem
open Idealize.ShloMosaic.Pipeline (Dat)
open Cert.KernelIdeal Cert.KernelIdeal.Gen

variable {F : FTy → Type} [FloatOps F]

/-- The running maximum after a chunk of scores `sc`: the larger of the old one and the row's largest score. -/
def newMax (sc : FVec F S256x256 .f32) (m : Vec F S1x256x128 .f32) : FVec F S256x128 .f32 :=
  maximumf (shapeCast S256x128 m shapeCasts_S1x256x128_S256x128)
    (broadcastTo S256x128 (shapeCast S256x1 (multiReduction .maximumf [1] S256 sc 0xFF800000#32 reduces_S256x256_S256 (.inl rfl) rfl)
      shapeCasts_S256_S256x1) broadcasts_S256x1_S256x128)

/-- The factor that rescales what was summed before the chunk. -/
def alpha (sc : FVec F S256x256 .f32) (m : Vec F S1x256x128 .f32) : FVec F S256x128 .f32 :=
  exp (subf (shapeCast S256x128 m shapeCasts_S1x256x128_S256x128) (newMax sc m))

/-- The chunk's weights, relative to the new maximum. -/
def weight (sc : FVec F S256x256 .f32) (m : Vec F S1x256x128 .f32) : FVec F S256x256 .f32 :=
  exp (subf sc (concatenate S256x256 1 [⟨S256x128, newMax sc m⟩, ⟨S256x128, newMax sc m⟩] concatenates_S256x128_S256x128_S256x256_d1))

/-- What a chunk stores as the maximum. -/
def upM (sc : FVec F S256x256 .f32) (m : Vec F S1x256x128 .f32) : Vec F S1x256x128 .f32 :=
  shapeCast S1x256x128 (newMax sc m) shapeCasts_S256x128_S1x256x128

/-- What a chunk stores as the denominator. -/
def upL (sc : FVec F S256x256 .f32) (m l : Vec F S1x256x128 .f32) : Vec F S1x256x128 .f32 :=
  shapeCast S1x256x128 (addf (mulf (alpha sc m) (shapeCast S256x128 l shapeCasts_S1x256x128_S256x128))
    (broadcastTo S256x128 (shapeCast S256x1 (multiReduction .add [1] S256 (weight sc m) 0x00000000#32 reduces_S256x256_S256 (.inl rfl) rfl)
      shapeCasts_S256_S256x1) broadcasts_S256x1_S256x128)) shapeCasts_S256x128_S1x256x128

/-- What a chunk stores as the numerator, from the chunk's values `v`. -/
def upA (sc : FVec F S256x256 .f32) (m : Vec F S1x256x128 .f32) (v : Vec F S1x256x128 .bf16) (a : Vec F S1x256x128 .f32) : Vec F S1x256x128 .f32 :=
  shapeCast S1x256x128 (addf (mulf (alpha sc m) (shapeCast S256x128 a shapeCasts_S1x256x128_S256x128))
    (matmul dot_S256x256_S256x128_S256x128_1_0_0_1_n_n none (truncf .bf16 (weight sc m) bitsLt_bf16_f32)
      (shapeCast S256x128 v shapeCasts_S1x256x128_S256x128) (constant S256x128 .f32 0x00000000#32))) shapeCasts_S256x128_S1x256x128

/-- The diagonal chunk's scores: a column after the row counts as −∞. -/
def masked (sc : FVec F S256x256 .f32) : FVec F S256x256 .f32 := select k0_pay171 sc k0_pay172

/-- Stream `s`'s plane of a scratch buffer. -/
abbrev slot (s : Fin 8) : Rect S8x256x128 :=
  Rect.unit ![s.val, 0, 0] S1x256x128.size (by
    intro a; have := s.isLt; fin_cases a <;> simp [S8x256x128, S1x256x128] <;> omega)

/-- One store per stream, last stream first. -/
def pieces (P : Fin 8 → Vec F S1x256x128 .f32) : List (View.Piece (Elt F) S8x256x128 .f32) :=
  [⟨slot 7, P 7⟩, ⟨slot 6, P 6⟩, ⟨slot 5, P 5⟩, ⟨slot 4, P 4⟩, ⟨slot 3, P 3⟩, ⟨slot 2, P 2⟩, ⟨slot 1, P 1⟩, ⟨slot 0, P 0⟩]

/-- A load of stream `s`'s plane after one store per stream reads stream `s`'s store. -/
theorem readCov_pieces (v : View sig .tc .vmem S8x256x128 .f32) (P : Fin 8 → Vec F S1x256x128 .f32)
    (L : List (View.Piece (Elt F) S8x256x128 .f32)) (s : Fin 8) :
    v.readCov (pieces P ++ L) (slot s).toLoadRect = P s := by
  unfold pieces
  simp only [List.cons_append, List.nil_append]
  fin_cases s <;>
    (try simp (disch := decide) only [↓ View.readCov_skip]) <;> exact View.readCov_cons_toLoadRect _ _ _ _

/-- A block of 128 features by 256 key columns. -/
def ktile (x : Vec F S1x512x2048 .bf16) (off : Fin 3 → ℕ) (inb : ∀ a, off a + S1x128x256.size a ≤ S1x512x2048.size a) : Vec F S1x128x256 .bf16 :=
  View.ld (Val := Elt F) (e' := .bf16) x (Rect.unit (s := S1x512x2048) off S1x128x256.size inb)

/-- A block of 256 value rows by 128 features. -/
def vtile (x : Vec F S1x2048x512 .bf16) (off : Fin 3 → ℕ) (inb : ∀ a, off a + S1x256x128.size a ≤ S1x2048x512.size a) : Vec F S1x256x128 .bf16 :=
  View.ld (Val := Elt F) (e' := .bf16) x (Rect.unit (s := S1x2048x512) off S1x256x128.size inb)

/-- The key columns a trip of the loop loads for each stream. -/
def keys (x : Vec F S1x512x2048 .bf16) (i : grid0.Coords) (k : Fin (k0_t1_loop i).trips) : Fin 8 → Vec F S1x128x256 .bf16 :=
  ![ktile x (k0_off1 i k) (k0_off1_inb i k), ktile x (k0_off1 i k) (k0_off1_inb i k),
    ktile x (k0_off4 i k) (k0_off4_inb i k), ktile x (k0_off4 i k) (k0_off4_inb i k),
    ktile x (k0_off7 i k) (k0_off7_inb i k), ktile x (k0_off7 i k) (k0_off7_inb i k),
    ktile x (k0_off8 i k) (k0_off8_inb i k), ktile x (k0_off8 i k) (k0_off8_inb i k)]

/-- The value rows a trip of the loop loads for each stream. -/
def vals (x : Vec F S1x2048x512 .bf16) (i : grid0.Coords) (k : Fin (k0_t1_loop i).trips) : Fin 8 → Vec F S1x256x128 .bf16 :=
  ![vtile x (k0_off2 i k) (k0_off2_inb i k), vtile x (k0_off3 i k) (k0_off3_inb i k),
    vtile x (k0_off5 i k) (k0_off5_inb i k), vtile x (k0_off6 i k) (k0_off6_inb i k),
    vtile x (k0_off2 i k) (k0_off2_inb i k), vtile x (k0_off3 i k) (k0_off3_inb i k),
    vtile x (k0_off5 i k) (k0_off5_inb i k), vtile x (k0_off6 i k) (k0_off6_inb i k)]

/-- The eight streams' queries, from what the loop is handed. -/
def queries (v13 v23 v33 v43 v53 v63 v73 : FVec F S256x128 .bf16) (v82 : FVec F S256x128 .f32) : Fin 8 → FVec F S256x128 .bf16 :=
  ![v13, v23, v33, v43, v53, v63, v73, k0_pay161 v82]

/-- The eight streams' scores in one trip, from the queries and the keys. -/
def scores (q : Fin 8 → FVec F S256x128 .bf16) (kt : Fin 8 → Vec F S1x128x256 .bf16) (s : Fin 8) : FVec F S256x256 .f32 :=
  k0_pay2 (q s) (kt s)

section Trip

variable (𝒱 : Variants) (c : Dev nD) (bd : Option 𝒱.V) (i : grid0.Coords) (arg2 : Memref sig .tc .vmem S4x64 .f32) (harg2 : arg2.IsWhole) (arg3 : Memref sig .tc .vmem S1x128 .f32) (harg3 : arg3.IsWhole) (arg4 : Memref sig .tc .vmem S1x256x512 .bf16) (harg4 : arg4.IsWhole) (arg5 : Memref sig .tc .vmem S1x512x2048 .bf16) (harg5 : arg5.IsWhole) (arg6 : Memref sig .tc .vmem S1x2048x512 .bf16) (harg6 : arg6.IsWhole) (arg7 : Memref sig .tc .vmem S1x256x512 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg1 : BitVec 32) (v13 : FVec F S256x128 .bf16) (v23 : FVec F S256x128 .bf16) (v33 : FVec F S256x128 .bf16) (v43 : FVec F S256x128 .bf16) (v53 : FVec F S256x128 .bf16) (v63 : FVec F S256x128 .bf16) (v73 : FVec F S256x128 .bf16) (v82 : FVec F S256x128 .f32) (X_arg5 : BufTy.Contents (Elt F) arg5.view.ty) (X_arg6 : BufTy.Contents (Elt F) arg6.view.ty) (f8 : BufTy.Contents (Elt F) arg8.view.ty) (f9 : BufTy.Contents (Elt F) arg9.view.ty) (f10 : BufTy.Contents (Elt F) arg10.view.ty) (k : Fin (k0_t1_loop i).trips)

/-- A trip's stores into the maxima. -/
theorem trip8 : (trip_k0_t1 (F := F) 𝒱 c bd i arg2 harg2 arg3 harg3 arg4 harg4 arg5 harg5 arg6 harg6 arg7 harg7 arg8 harg8 arg9 harg9 arg10 harg10 arg1 v13 v23 v33 v43 v53 v63 v73 v82 X_arg5 X_arg6 k).1 f8 f9 f10
    = pieces fun s => upM (scores (queries v13 v23 v33 v43 v53 v63 v73 v82) (keys (arg5.view.read (Elt F) X_arg5) i k) s) (arg8.view.readAt (Elt F) (slot s).toLoadRect f8) := by
  unfold trip_k0_t1; rfl

/-- A trip's stores into the denominators. -/
theorem trip9 : (trip_k0_t1 (F := F) 𝒱 c bd i arg2 harg2 arg3 harg3 arg4 harg4 arg5 harg5 arg6 harg6 arg7 harg7 arg8 harg8 arg9 harg9 arg10 harg10 arg1 v13 v23 v33 v43 v53 v63 v73 v82 X_arg5 X_arg6 k).2.1 f8 f9 f10
    = pieces fun s => upL (scores (queries v13 v23 v33 v43 v53 v63 v73 v82) (keys (arg5.view.read (Elt F) X_arg5) i k) s) (arg8.view.readAt (Elt F) (slot s).toLoadRect f8)
        (arg9.view.readAt (Elt F) (slot s).toLoadRect f9) := by
  unfold trip_k0_t1; rfl

/-- A trip's stores into the numerators. -/
theorem trip10 : (trip_k0_t1 (F := F) 𝒱 c bd i arg2 harg2 arg3 harg3 arg4 harg4 arg5 harg5 arg6 harg6 arg7 harg7 arg8 harg8 arg9 harg9 arg10 harg10 arg1 v13 v23 v33 v43 v53 v63 v73 v82 X_arg5 X_arg6 k).2.2.1 f8 f9 f10
    = pieces fun s => upA (scores (queries v13 v23 v33 v43 v53 v63 v73 v82) (keys (arg5.view.read (Elt F) X_arg5) i k) s) (arg8.view.readAt (Elt F) (slot s).toLoadRect f8)
        (vals (arg6.view.read (Elt F) X_arg6) i k s) (arg10.view.readAt (Elt F) (slot s).toLoadRect f10) := by
  unfold trip_k0_t1; rfl

end Trip

end Cert.KernelIdeal.Diff

end
-- ==== Proof.DiffRun.lean ====
/- The kernel's scratch buffers through one grid point: the state the counted loop builds trip by trip, and the diagonal chunk after it. -/
module

public import proofs.«01_k».proof.Proof.DiffPieces

@[expose] public section

set_option maxRecDepth 16384

noncomputable section

namespace Cert.KernelIdeal.Diff

open Idealize.ShloMosaic Idealize.ShloMosaic.TcCoe Idealize.SL.Sem
open Cert.KernelIdeal Cert.KernelIdeal.Gen

variable {F : FTy → Type} [FloatOps F]

/-- The eight streams' maxima, denominators and numerators. -/
abbrev State (F : FTy → Type) : Type := (Fin 8 → Vec F S1x256x128 .f32) × (Fin 8 → Vec F S1x256x128 .f32) × (Fin 8 → Vec F S1x256x128 .f32)

/-- The state before the first chunk: −∞, 0 and 0. -/
def state0 : State F :=
  (fun s => View.ld (Val := Elt F) (e' := .f32) k0_pay162 (slot s), fun s => View.ld (Val := Elt F) (e' := .f32) k0_pay163 (slot s),
    fun s => View.ld (Val := Elt F) (e' := .f32) k0_pay164 (slot s))

/-- The state after a chunk of scores `sc` and values `v`. -/
def chunk (sc : Fin 8 → FVec F S256x256 .f32) (v : Fin 8 → Vec F S1x256x128 .bf16) (st : State F) : State F :=
  (fun s => upM (sc s) (st.1 s), fun s => upL (sc s) (st.1 s) (st.2.1 s), fun s => upA (sc s) (st.1 s) (v s) (st.2.2 s))

/-- The state a list of stores into each buffer leaves. -/
def held (v8 v9 v10 : View sig .tc .vmem S8x256x128 .f32) (L8 L9 L10 : List (View.Piece (Elt F) S8x256x128 .f32)) : State F :=
  (fun s => v8.readCov L8 (slot s).toLoadRect, fun s => v9.readCov L9 (slot s).toLoadRect, fun s => v10.readCov L10 (slot s).toLoadRect)

/-- The state before trip `n` of the loop, from the queries, keys and values. -/
def loopState (q : Fin 8 → FVec F S256x128 .bf16) (x3 : Vec F S1x512x2048 .bf16) (x4 : Vec F S1x2048x512 .bf16) (i : grid0.Coords) : ℕ → State F
  | 0 => state0
  | n + 1 => if h : n < (k0_t1_loop i).trips then
      chunk (scores q (keys x3 i ⟨n, h⟩)) (vals x4 i ⟨n, h⟩) (loopState q x3 x4 i n) else loopState q x3 x4 i n

/-- The diagonal chunk's key columns. -/
def keysD (x : Vec F S1x512x2048 .bf16) (i : grid0.Coords) : Fin 8 → Vec F S1x128x256 .bf16 :=
  ![ktile x (k0_off17 i) (k0_off17_inb i), ktile x (k0_off17 i) (k0_off17_inb i),
    ktile x (k0_off20 i) (k0_off20_inb i), ktile x (k0_off20 i) (k0_off20_inb i),
    ktile x (k0_off23 i) (k0_off23_inb i), ktile x (k0_off23 i) (k0_off23_inb i),
    ktile x (k0_off24 i) (k0_off24_inb i), ktile x (k0_off24 i) (k0_off24_inb i)]

/-- The diagonal chunk's value rows. -/
def valsD (x : Vec F S1x2048x512 .bf16) (i : grid0.Coords) : Fin 8 → Vec F S1x256x128 .bf16 :=
  ![vtile x (k0_off18 i) (k0_off18_inb i), vtile x (k0_off19 i) (k0_off19_inb i),
    vtile x (k0_off21 i) (k0_off21_inb i), vtile x (k0_off22 i) (k0_off22_inb i),
    vtile x (k0_off18 i) (k0_off18_inb i), vtile x (k0_off19 i) (k0_off19_inb i),
    vtile x (k0_off21 i) (k0_off21_inb i), vtile x (k0_off22 i) (k0_off22_inb i)]

/-- The diagonal chunk's scores. -/
def scoresD (q : Fin 8 → FVec F S256x128 .bf16) (kt : Fin 8 → Vec F S1x128x256 .bf16) (s : Fin 8) : FVec F S256x256 .f32 := masked (k0_pay2 (q s) (kt s))

/-- The state after the diagonal chunk. -/
def fullState (q : Fin 8 → FVec F S256x128 .bf16) (x3 : Vec F S1x512x2048 .bf16) (x4 : Vec F S1x2048x512 .bf16) (i : grid0.Coords) : State F :=
  chunk (scoresD q (keysD x3 i)) (valsD x4 i) (loopState q x3 x4 i (k0_t1_loop i).trips)

/-- A load after the initial fill of a whole buffer reads the fill. -/
theorem readCov_fill0 (v : View sig .tc .vmem S8x256x128 .f32) (Z : Vec F S8x256x128 .f32) (s : Fin 8) :
    v.readCov (Val := Elt F) [⟨Rect.unit ![0, 0, 0] S8x256x128.size inb_S8x256x128_S8x256x128_0_0_0, Z⟩] (slot s).toLoadRect
      = View.ld (Val := Elt F) (e' := .f32) Z (slot s) :=
  View.readCov_fill v _ Z [] (slot s) (by decide)

section Point

variable (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S1x256x512 .bf16) (harg4 : arg4.IsWhole) (arg5 : Memref sig .tc .vmem S1x512x2048 .bf16) (harg5 : arg5.IsWhole) (arg6 : Memref sig .tc .vmem S1x2048x512 .bf16) (harg6 : arg6.IsWhole) (arg7 : Memref sig .tc .vmem S1x256x512 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole)      (x2 : Vec F S1x256x512 .bf16) (x3 : Vec F S1x512x2048 .bf16) (x4 : Vec F S1x2048x512 .bf16)

/-- The eight streams' queries at a grid point, from the block of queries. -/
def qry : Fin 8 → FVec F S256x128 .bf16 := queries (kernelRun0_A.sl.r_1 c arg4 harg4 x2) (kernelRun0_A.sl.r_2 c arg4 harg4 x2) (kernelRun0_A.sl.r_3 c arg4 harg4 x2) (kernelRun0_A.sl.r_5 c arg4 harg4 x2) (kernelRun0_A.sl.r_6 c arg4 harg4 x2) (kernelRun0_A.sl.r_7 c arg4 harg4 x2) (kernelRun0_A.sl.r_8 c arg4 harg4 x2) (kernelRun0_A.sl.r_9 c arg4 harg4 x2)

/-- The stores of the loop's first `n` trips. -/
abbrev stores1 (n : ℕ) :=
  pb_k0_t1 (F := F) Variants.none c none i arg2 harg2 arg3 harg3 arg4 harg4 arg5 harg5 arg6 harg6 arg7 harg7 arg8 harg8 arg9 harg9 arg10 harg10 (BitVec.ofNat 32 (i 1).val) (kernelRun0_A.sl.r_1 c arg4 harg4 x2) (kernelRun0_A.sl.r_2 c arg4 harg4 x2) (kernelRun0_A.sl.r_3 c arg4 harg4 x2) (kernelRun0_A.sl.r_5 c arg4 harg4 x2) (kernelRun0_A.sl.r_6 c arg4 harg4 x2) (kernelRun0_A.sl.r_7 c arg4 harg4 x2) (kernelRun0_A.sl.r_8 c arg4 harg4 x2) (kernelRun0_A.sl.r_9 c arg4 harg4 x2) (harg5.unread x3) (harg6.unread x4) (arg8.view.writes (Elt F) arg8.view.junk kernelRun0_A.sl.HS0_1) (arg9.view.writes (Elt F) arg9.view.junk kernelRun0_A.sl.HS1_1) (arg10.view.writes (Elt F) arg10.view.junk kernelRun0_A.sl.HS2_1) n

/-- The state before trip `n` is what the stores so far leave. -/
theorem held_stores1 : ∀ n, n ≤ (k0_t1_loop i).trips →
    held arg8.view arg9.view arg10.view ((stores1 c i arg2 harg2 arg3 harg3 arg4 harg4 arg5 harg5 arg6 harg6 arg7 harg7 arg8 harg8 arg9 harg9 arg10 harg10 x2 x3 x4 n).1 ++ kernelRun0_A.sl.HS0_1) ((stores1 c i arg2 harg2 arg3 harg3 arg4 harg4 arg5 harg5 arg6 harg6 arg7 harg7 arg8 harg8 arg9 harg9 arg10 harg10 x2 x3 x4 n).2.1 ++ kernelRun0_A.sl.HS1_1)
      ((stores1 c i arg2 harg2 arg3 harg3 arg4 harg4 arg5 harg5 arg6 harg6 arg7 harg7 arg8 harg8 arg9 harg9 arg10 harg10 x2 x3 x4 n).2.2 ++ kernelRun0_A.sl.HS2_1) = loopState (qry c arg4 harg4 x2) x3 x4 i n
  | 0, _ => by
    refine Prod.ext ?_ (Prod.ext ?_ ?_) <;> funext s <;> exact readCov_fill0 _ _ s
  | n + 1, h => by
    have ih := held_stores1 n (by omega)
    have hs := pb_k0_t1_succ (F := F) Variants.none c none i arg2 harg2 arg3 harg3 arg4 harg4 arg5 harg5 arg6 harg6 arg7 harg7 arg8 harg8 arg9 harg9 arg10 harg10 (BitVec.ofNat 32 (i 1).val) (kernelRun0_A.sl.r_1 c arg4 harg4 x2) (kernelRun0_A.sl.r_2 c arg4 harg4 x2) (kernelRun0_A.sl.r_3 c arg4 harg4 x2) (kernelRun0_A.sl.r_5 c arg4 harg4 x2) (kernelRun0_A.sl.r_6 c arg4 harg4 x2) (kernelRun0_A.sl.r_7 c arg4 harg4 x2) (kernelRun0_A.sl.r_8 c arg4 harg4 x2) (kernelRun0_A.sl.r_9 c arg4 harg4 x2) (harg5.unread x3) (harg6.unread x4) (arg8.view.writes (Elt F) arg8.view.junk kernelRun0_A.sl.HS0_1) (arg9.view.writes (Elt F) arg9.view.junk kernelRun0_A.sl.HS1_1) (arg10.view.writes (Elt F) arg10.view.junk kernelRun0_A.sl.HS2_1) ⟨n, h⟩
    have h8 : ∀ s, arg8.view.readAt (Elt F) (slot s).toLoadRect (arg8.view.writes (Elt F) (arg8.view.writes (Elt F) arg8.view.junk kernelRun0_A.sl.HS0_1) (stores1 c i arg2 harg2 arg3 harg3 arg4 harg4 arg5 harg5 arg6 harg6 arg7 harg7 arg8 harg8 arg9 harg9 arg10 harg10 x2 x3 x4 n).1)
        = (loopState (qry c arg4 harg4 x2) x3 x4 i n).1 s := fun s => by
      rw [← ih, ← View.writes_append, View.readAt_writes_junk_eq_canon]; exact (View.readCov_eq_canon' _ _ _).symm
    have h9 : ∀ s, arg9.view.readAt (Elt F) (slot s).toLoadRect (arg9.view.writes (Elt F) (arg9.view.writes (Elt F) arg9.view.junk kernelRun0_A.sl.HS1_1) (stores1 c i arg2 harg2 arg3 harg3 arg4 harg4 arg5 harg5 arg6 harg6 arg7 harg7 arg8 harg8 arg9 harg9 arg10 harg10 x2 x3 x4 n).2.1)
        = (loopState (qry c arg4 harg4 x2) x3 x4 i n).2.1 s := fun s => by
      rw [← ih, ← View.writes_append, View.readAt_writes_junk_eq_canon]; exact (View.readCov_eq_canon' _ _ _).symm
    have h10 : ∀ s, arg10.view.readAt (Elt F) (slot s).toLoadRect (arg10.view.writes (Elt F) (arg10.view.writes (Elt F) arg10.view.junk kernelRun0_A.sl.HS2_1) (stores1 c i arg2 harg2 arg3 harg3 arg4 harg4 arg5 harg5 arg6 harg6 arg7 harg7 arg8 harg8 arg9 harg9 arg10 harg10 x2 x3 x4 n).2.2)
        = (loopState (qry c arg4 harg4 x2) x3 x4 i n).2.2 s := fun s => by
      rw [← ih, ← View.writes_append, View.readAt_writes_junk_eq_canon]; exact (View.readCov_eq_canon' _ _ _).symm
    have hS : loopState (qry c arg4 harg4 x2) x3 x4 i (n + 1)
        = chunk (scores (qry c arg4 harg4 x2) (keys x3 i ⟨n, h⟩)) (vals x4 i ⟨n, h⟩) (loopState (qry c arg4 harg4 x2) x3 x4 i n) := by
      rw [loopState]; exact dif_pos h
    rw [hS]
    unfold stores1
    rw [show n + 1 = (⟨n, h⟩ : Fin (k0_t1_loop i).trips).val + 1 from rfl, hs]
    dsimp only [tripL_k0_t1]
    rw [trip8, trip9, trip10]
    refine Prod.ext ?_ (Prod.ext ?_ ?_) <;> funext s <;> dsimp only [held, chunk] <;> rw [List.append_assoc, readCov_pieces]
    · rw [h8, harg5.read_unread]; rfl
    · rw [h8, h9, harg5.read_unread]; rfl
    · rw [h8, h10, harg5.read_unread, harg6.read_unread]; rfl

/-- The stores before the diagonal chunk: the fill, the loop's, and those of the remainder loop. -/
abbrev stores2 :=
  pb_k0_t2 (F := F) Variants.none c none i arg2 harg2 arg3 harg3 arg4 harg4 arg5 harg5 arg6 harg6 arg7 harg7 arg8 harg8 arg9 harg9 arg10 harg10 (BitVec.ofNat 32 (i 1).val) (kernelRun0_A.sl.r_1 c arg4 harg4 x2) (kernelRun0_A.sl.r_2 c arg4 harg4 x2) (kernelRun0_A.sl.r_3 c arg4 harg4 x2) (kernelRun0_A.sl.r_5 c arg4 harg4 x2) (kernelRun0_A.sl.r_6 c arg4 harg4 x2) (kernelRun0_A.sl.r_7 c arg4 harg4 x2) (kernelRun0_A.sl.r_8 c arg4 harg4 x2) (kernelRun0_A.sl.r_9 c arg4 harg4 x2) (kernelRun0_A.sl.v100 i) (harg5.unread x3) (harg6.unread x4)
    (arg8.view.writes (Elt F) arg8.view.junk ((stores1 c i arg2 harg2 arg3 harg3 arg4 harg4 arg5 harg5 arg6 harg6 arg7 harg7 arg8 harg8 arg9 harg9 arg10 harg10 x2 x3 x4 (k0_t1_loop i).trips).1 ++ kernelRun0_A.sl.HS0_1))
    (arg9.view.writes (Elt F) arg9.view.junk ((stores1 c i arg2 harg2 arg3 harg3 arg4 harg4 arg5 harg5 arg6 harg6 arg7 harg7 arg8 harg8 arg9 harg9 arg10 harg10 x2 x3 x4 (k0_t1_loop i).trips).2.1 ++ kernelRun0_A.sl.HS1_1))
    (arg10.view.writes (Elt F) arg10.view.junk ((stores1 c i arg2 harg2 arg3 harg3 arg4 harg4 arg5 harg5 arg6 harg6 arg7 harg7 arg8 harg8 arg9 harg9 arg10 harg10 x2 x3 x4 (k0_t1_loop i).trips).2.2 ++ kernelRun0_A.sl.HS2_1)) (k0_t2_loop i).trips

/-- The state before the diagonal chunk. -/
abbrev before : State F :=
  held arg8.view arg9.view arg10.view ((stores2 c i arg2 harg2 arg3 harg3 arg4 harg4 arg5 harg5 arg6 harg6 arg7 harg7 arg8 harg8 arg9 harg9 arg10 harg10 x2 x3 x4).1 ++ ((stores1 c i arg2 harg2 arg3 harg3 arg4 harg4 arg5 harg5 arg6 harg6 arg7 harg7 arg8 harg8 arg9 harg9 arg10 harg10 x2 x3 x4 (k0_t1_loop i).trips).1 ++ kernelRun0_A.sl.HS0_1))
    ((stores2 c i arg2 harg2 arg3 harg3 arg4 harg4 arg5 harg5 arg6 harg6 arg7 harg7 arg8 harg8 arg9 harg9 arg10 harg10 x2 x3 x4).2.1 ++ ((stores1 c i arg2 harg2 arg3 harg3 arg4 harg4 arg5 harg5 arg6 harg6 arg7 harg7 arg8 harg8 arg9 harg9 arg10 harg10 x2 x3 x4 (k0_t1_loop i).trips).2.1 ++ kernelRun0_A.sl.HS1_1))
    ((stores2 c i arg2 harg2 arg3 harg3 arg4 harg4 arg5 harg5 arg6 harg6 arg7 harg7 arg8 harg8 arg9 harg9 arg10 harg10 x2 x3 x4).2.2 ++ ((stores1 c i arg2 harg2 arg3 harg3 arg4 harg4 arg5 harg5 arg6 harg6 arg7 harg7 arg8 harg8 arg9 harg9 arg10 harg10 x2 x3 x4 (k0_t1_loop i).trips).2.2 ++ kernelRun0_A.sl.HS2_1))

/-- The stores into the maxima before stream `s`'s diagonal chunk. -/
def pre8 : Fin 8 → List (View.Piece (Elt F) S8x256x128 .f32) :=
  ![(stores2 c i arg2 harg2 arg3 harg3 arg4 harg4 arg5 harg5 arg6 harg6 arg7 harg7 arg8 harg8 arg9 harg9 arg10 harg10 x2 x3 x4).1 ++ ((stores1 c i arg2 harg2 arg3 harg3 arg4 harg4 arg5 harg5 arg6 harg6 arg7 harg7 arg8 harg8 arg9 harg9 arg10 harg10 x2 x3 x4 (k0_t1_loop i).trips).1 ++ kernelRun0_A.sl.HS0_1), kernelRun0_A.sl.HS0_1_1 c i arg2 harg2 arg3 harg3 arg4 harg4 arg5 harg5 arg6 harg6 arg7 harg7 arg8 harg8 arg9 harg9 arg10 harg10 x2 x3 x4, kernelRun0_A.sl.HS0_2 c i arg2 harg2 arg3 harg3 arg4 harg4 arg5 harg5 arg6 harg6 arg7 harg7 arg8 harg8 arg9 harg9 arg10 harg10 x2 x3 x4, kernelRun0_A.sl.HS0_3 c i arg2 harg2 arg3 harg3 arg4 harg4 arg5 harg5 arg6 harg6 arg7 harg7 arg8 harg8 arg9 harg9 arg10 harg10 x2 x3 x4, kernelRun0_A.sl.HS0_4 c i arg2 harg2 arg3 harg3 arg4 harg4 arg5 harg5 arg6 harg6 arg7 harg7 arg8 harg8 arg9 harg9 arg10 harg10 x2 x3 x4, kernelRun0_A.sl.HS0_5 c i arg2 harg2 arg3 harg3 arg4 harg4 arg5 harg5 arg6 harg6 arg7 harg7 arg8 harg8 arg9 harg9 arg10 harg10 x2 x3 x4, kernelRun0_A.sl.HS0_6 c i arg2 harg2 arg3 harg3 arg4 harg4 arg5 harg5 arg6 harg6 arg7 harg7 arg8 harg8 arg9 harg9 arg10 harg10 x2 x3 x4, kernelRun0_A.sl.HS0_7 c i arg2 harg2 arg3 harg3 arg4 harg4 arg5 harg5 arg6 harg6 arg7 harg7 arg8 harg8 arg9 harg9 arg10 harg10 x2 x3 x4]

/-- The other streams' diagonal stores leave stream `s`'s maxima as they were. -/
theorem pre8_eq : ∀ s, arg8.view.readCov (pre8 c i arg2 harg2 arg3 harg3 arg4 harg4 arg5 harg5 arg6 harg6 arg7 harg7 arg8 harg8 arg9 harg9 arg10 harg10 x2 x3 x4 s) (slot s).toLoadRect = (before c i arg2 harg2 arg3 harg3 arg4 harg4 arg5 harg5 arg6 harg6 arg7 harg7 arg8 harg8 arg9 harg9 arg10 harg10 x2 x3 x4).1 s := by
  intro s
  fin_cases s
  · rfl
  · refine (View.readCov_skip _ _ _ _ _ (by decide)).trans ?_; rfl
  · refine (View.readCov_skip _ _ _ _ _ (by decide)).trans ?_; refine (View.readCov_skip _ _ _ _ _ (by decide)).trans ?_; rfl
  · refine (View.readCov_skip _ _ _ _ _ (by decide)).trans ?_; refine (View.readCov_skip _ _ _ _ _ (by decide)).trans ?_; refine (View.readCov_skip _ _ _ _ _ (by decide)).trans ?_; rfl
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; rfl
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; rfl
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; rfl
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; rfl

/-- The stores into the denominators before stream `s`'s diagonal chunk. -/
def pre9 : Fin 8 → List (View.Piece (Elt F) S8x256x128 .f32) :=
  ![(stores2 c i arg2 harg2 arg3 harg3 arg4 harg4 arg5 harg5 arg6 harg6 arg7 harg7 arg8 harg8 arg9 harg9 arg10 harg10 x2 x3 x4).2.1 ++ ((stores1 c i arg2 harg2 arg3 harg3 arg4 harg4 arg5 harg5 arg6 harg6 arg7 harg7 arg8 harg8 arg9 harg9 arg10 harg10 x2 x3 x4 (k0_t1_loop i).trips).2.1 ++ kernelRun0_A.sl.HS1_1), kernelRun0_A.sl.HS1_1_1 c i arg2 harg2 arg3 harg3 arg4 harg4 arg5 harg5 arg6 harg6 arg7 harg7 arg8 harg8 arg9 harg9 arg10 harg10 x2 x3 x4, kernelRun0_A.sl.HS1_2 c i arg2 harg2 arg3 harg3 arg4 harg4 arg5 harg5 arg6 harg6 arg7 harg7 arg8 harg8 arg9 harg9 arg10 harg10 x2 x3 x4, kernelRun0_A.sl.HS1_3 c i arg2 harg2 arg3 harg3 arg4 harg4 arg5 harg5 arg6 harg6 arg7 harg7 arg8 harg8 arg9 harg9 arg10 harg10 x2 x3 x4, kernelRun0_A.sl.HS1_4 c i arg2 harg2 arg3 harg3 arg4 harg4 arg5 harg5 arg6 harg6 arg7 harg7 arg8 harg8 arg9 harg9 arg10 harg10 x2 x3 x4, kernelRun0_A.sl.HS1_5 c i arg2 harg2 arg3 harg3 arg4 harg4 arg5 harg5 arg6 harg6 arg7 harg7 arg8 harg8 arg9 harg9 arg10 harg10 x2 x3 x4, kernelRun0_A.sl.HS1_6 c i arg2 harg2 arg3 harg3 arg4 harg4 arg5 harg5 arg6 harg6 arg7 harg7 arg8 harg8 arg9 harg9 arg10 harg10 x2 x3 x4, kernelRun0_A.sl.HS1_7 c i arg2 harg2 arg3 harg3 arg4 harg4 arg5 harg5 arg6 harg6 arg7 harg7 arg8 harg8 arg9 harg9 arg10 harg10 x2 x3 x4]

/-- The other streams' diagonal stores leave stream `s`'s denominators as they were. -/
theorem pre9_eq : ∀ s, arg9.view.readCov (pre9 c i arg2 harg2 arg3 harg3 arg4 harg4 arg5 harg5 arg6 harg6 arg7 harg7 arg8 harg8 arg9 harg9 arg10 harg10 x2 x3 x4 s) (slot s).toLoadRect = (before c i arg2 harg2 arg3 harg3 arg4 harg4 arg5 harg5 arg6 harg6 arg7 harg7 arg8 harg8 arg9 harg9 arg10 harg10 x2 x3 x4).2.1 s := by
  intro s
  fin_cases s
  · rfl
  · refine (View.readCov_skip _ _ _ _ _ (by decide)).trans ?_; rfl
  · refine (View.readCov_skip _ _ _ _ _ (by decide)).trans ?_; refine (View.readCov_skip _ _ _ _ _ (by decide)).trans ?_; rfl
  · refine (View.readCov_skip _ _ _ _ _ (by decide)).trans ?_; refine (View.readCov_skip _ _ _ _ _ (by decide)).trans ?_; refine (View.readCov_skip _ _ _ _ _ (by decide)).trans ?_; rfl
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; rfl
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; rfl
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; rfl
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; rfl

/-- The stores into the numerators before stream `s`'s diagonal chunk. -/
def pre10 : Fin 8 → List (View.Piece (Elt F) S8x256x128 .f32) :=
  ![(stores2 c i arg2 harg2 arg3 harg3 arg4 harg4 arg5 harg5 arg6 harg6 arg7 harg7 arg8 harg8 arg9 harg9 arg10 harg10 x2 x3 x4).2.2 ++ ((stores1 c i arg2 harg2 arg3 harg3 arg4 harg4 arg5 harg5 arg6 harg6 arg7 harg7 arg8 harg8 arg9 harg9 arg10 harg10 x2 x3 x4 (k0_t1_loop i).trips).2.2 ++ kernelRun0_A.sl.HS2_1), kernelRun0_A.sl.HS2_1_1 c i arg2 harg2 arg3 harg3 arg4 harg4 arg5 harg5 arg6 harg6 arg7 harg7 arg8 harg8 arg9 harg9 arg10 harg10 x2 x3 x4, kernelRun0_A.sl.HS2_2 c i arg2 harg2 arg3 harg3 arg4 harg4 arg5 harg5 arg6 harg6 arg7 harg7 arg8 harg8 arg9 harg9 arg10 harg10 x2 x3 x4, kernelRun0_A.sl.HS2_3 c i arg2 harg2 arg3 harg3 arg4 harg4 arg5 harg5 arg6 harg6 arg7 harg7 arg8 harg8 arg9 harg9 arg10 harg10 x2 x3 x4, kernelRun0_A.sl.HS2_4 c i arg2 harg2 arg3 harg3 arg4 harg4 arg5 harg5 arg6 harg6 arg7 harg7 arg8 harg8 arg9 harg9 arg10 harg10 x2 x3 x4, kernelRun0_A.sl.HS2_5 c i arg2 harg2 arg3 harg3 arg4 harg4 arg5 harg5 arg6 harg6 arg7 harg7 arg8 harg8 arg9 harg9 arg10 harg10 x2 x3 x4, kernelRun0_A.sl.HS2_6 c i arg2 harg2 arg3 harg3 arg4 harg4 arg5 harg5 arg6 harg6 arg7 harg7 arg8 harg8 arg9 harg9 arg10 harg10 x2 x3 x4, kernelRun0_A.sl.HS2_7 c i arg2 harg2 arg3 harg3 arg4 harg4 arg5 harg5 arg6 harg6 arg7 harg7 arg8 harg8 arg9 harg9 arg10 harg10 x2 x3 x4]

/-- The other streams' diagonal stores leave stream `s`'s numerators as they were. -/
theorem pre10_eq : ∀ s, arg10.view.readCov (pre10 c i arg2 harg2 arg3 harg3 arg4 harg4 arg5 harg5 arg6 harg6 arg7 harg7 arg8 harg8 arg9 harg9 arg10 harg10 x2 x3 x4 s) (slot s).toLoadRect = (before c i arg2 harg2 arg3 harg3 arg4 harg4 arg5 harg5 arg6 harg6 arg7 harg7 arg8 harg8 arg9 harg9 arg10 harg10 x2 x3 x4).2.2 s := by
  intro s
  fin_cases s
  · rfl
  · refine (View.readCov_skip _ _ _ _ _ (by decide)).trans ?_; rfl
  · refine (View.readCov_skip _ _ _ _ _ (by decide)).trans ?_; refine (View.readCov_skip _ _ _ _ _ (by decide)).trans ?_; rfl
  · refine (View.readCov_skip _ _ _ _ _ (by decide)).trans ?_; refine (View.readCov_skip _ _ _ _ _ (by decide)).trans ?_; refine (View.readCov_skip _ _ _ _ _ (by decide)).trans ?_; rfl
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; rfl
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; rfl
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; rfl
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; rfl

/-- The denominators after the diagonal chunk. -/
theorem post9 : ∀ s, arg9.view.readCov (kernelRun0_A.sl.HS1_8 c i arg2 harg2 arg3 harg3 arg4 harg4 arg5 harg5 arg6 harg6 arg7 harg7 arg8 harg8 arg9 harg9 arg10 harg10 x2 x3 x4) (slot s).toLoadRect
    = upL (scoresD (qry c arg4 harg4 x2) (keysD x3 i) s) (arg8.view.readCov (pre8 c i arg2 harg2 arg3 harg3 arg4 harg4 arg5 harg5 arg6 harg6 arg7 harg7 arg8 harg8 arg9 harg9 arg10 harg10 x2 x3 x4 s) (slot s).toLoadRect) (arg9.view.readCov (pre9 c i arg2 harg2 arg3 harg3 arg4 harg4 arg5 harg5 arg6 harg6 arg7 harg7 arg8 harg8 arg9 harg9 arg10 harg10 x2 x3 x4 s) (slot s).toLoadRect) := by
  have hx3 := harg5.read_unread (Val := Elt F) x3
  have hx4 := harg6.read_unread (Val := Elt F) x4
  intro s
  suffices h : ∀ y3 y4, y3 = arg5.view.read (Elt F) (harg5.unread x3) → y4 = arg6.view.read (Elt F) (harg6.unread x4) → arg9.view.readCov (kernelRun0_A.sl.HS1_8 c i arg2 harg2 arg3 harg3 arg4 harg4 arg5 harg5 arg6 harg6 arg7 harg7 arg8 harg8 arg9 harg9 arg10 harg10 x2 x3 x4) (slot s).toLoadRect = upL (scoresD (qry c arg4 harg4 x2) (keysD y3 i) s) (arg8.view.readCov (pre8 c i arg2 harg2 arg3 harg3 arg4 harg4 arg5 harg5 arg6 harg6 arg7 harg7 arg8 harg8 arg9 harg9 arg10 harg10 x2 x3 x4 s) (slot s).toLoadRect) (arg9.view.readCov (pre9 c i arg2 harg2 arg3 harg3 arg4 harg4 arg5 harg5 arg6 harg6 arg7 harg7 arg8 harg8 arg9 harg9 arg10 harg10 x2 x3 x4 s) (slot s).toLoadRect) from h x3 x4 hx3.symm hx4.symm
  rintro _ _ rfl rfl
  fin_cases s
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_cons_toLoadRect _ _ _ _).trans ?_; rfl
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_cons_toLoadRect _ _ _ _).trans ?_; rfl
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_cons_toLoadRect _ _ _ _).trans ?_; rfl
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_cons_toLoadRect _ _ _ _).trans ?_; rfl
  · refine (View.readCov_skip _ _ _ _ _ (by decide)).trans ?_; refine (View.readCov_skip _ _ _ _ _ (by decide)).trans ?_; refine (View.readCov_skip _ _ _ _ _ (by decide)).trans ?_; refine (View.readCov_cons_toLoadRect _ _ _ _).trans ?_; rfl
  · refine (View.readCov_skip _ _ _ _ _ (by decide)).trans ?_; refine (View.readCov_skip _ _ _ _ _ (by decide)).trans ?_; refine (View.readCov_cons_toLoadRect _ _ _ _).trans ?_; rfl
  · refine (View.readCov_skip _ _ _ _ _ (by decide)).trans ?_; refine (View.readCov_cons_toLoadRect _ _ _ _).trans ?_; rfl
  · refine (View.readCov_cons_toLoadRect _ _ _ _).trans ?_; rfl

/-- The numerators after the diagonal chunk. -/
theorem post10 : ∀ s, arg10.view.readCov (kernelRun0_A.sl.HS2_8 c i arg2 harg2 arg3 harg3 arg4 harg4 arg5 harg5 arg6 harg6 arg7 harg7 arg8 harg8 arg9 harg9 arg10 harg10 x2 x3 x4) (slot s).toLoadRect
    = upA (scoresD (qry c arg4 harg4 x2) (keysD x3 i) s) (arg8.view.readCov (pre8 c i arg2 harg2 arg3 harg3 arg4 harg4 arg5 harg5 arg6 harg6 arg7 harg7 arg8 harg8 arg9 harg9 arg10 harg10 x2 x3 x4 s) (slot s).toLoadRect) (valsD x4 i s) (arg10.view.readCov (pre10 c i arg2 harg2 arg3 harg3 arg4 harg4 arg5 harg5 arg6 harg6 arg7 harg7 arg8 harg8 arg9 harg9 arg10 harg10 x2 x3 x4 s) (slot s).toLoadRect) := by
  have hx3 := harg5.read_unread (Val := Elt F) x3
  have hx4 := harg6.read_unread (Val := Elt F) x4
  intro s
  suffices h : ∀ y3 y4, y3 = arg5.view.read (Elt F) (harg5.unread x3) → y4 = arg6.view.read (Elt F) (harg6.unread x4) → arg10.view.readCov (kernelRun0_A.sl.HS2_8 c i arg2 harg2 arg3 harg3 arg4 harg4 arg5 harg5 arg6 harg6 arg7 harg7 arg8 harg8 arg9 harg9 arg10 harg10 x2 x3 x4) (slot s).toLoadRect = upA (scoresD (qry c arg4 harg4 x2) (keysD y3 i) s) (arg8.view.readCov (pre8 c i arg2 harg2 arg3 harg3 arg4 harg4 arg5 harg5 arg6 harg6 arg7 harg7 arg8 harg8 arg9 harg9 arg10 harg10 x2 x3 x4 s) (slot s).toLoadRect) (valsD y4 i s) (arg10.view.readCov (pre10 c i arg2 harg2 arg3 harg3 arg4 harg4 arg5 harg5 arg6 harg6 arg7 harg7 arg8 harg8 arg9 harg9 arg10 harg10 x2 x3 x4 s) (slot s).toLoadRect) from h x3 x4 hx3.symm hx4.symm
  rintro _ _ rfl rfl
  fin_cases s
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_cons_toLoadRect _ _ _ _).trans ?_; rfl
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_cons_toLoadRect _ _ _ _).trans ?_; rfl
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_cons_toLoadRect _ _ _ _).trans ?_; rfl
  · refine (View.readCov_skip _ _ _ _ _ (by decide)).trans ?_; refine (View.readCov_skip _ _ _ _ _ (by decide)).trans ?_; refine (View.readCov_skip _ _ _ _ _ (by decide)).trans ?_; refine (View.readCov_skip _ _ _ _ _ (by decide)).trans ?_; refine (View.readCov_cons_toLoadRect _ _ _ _).trans ?_; rfl
  · refine (View.readCov_skip _ _ _ _ _ (by decide)).trans ?_; refine (View.readCov_skip _ _ _ _ _ (by decide)).trans ?_; refine (View.readCov_skip _ _ _ _ _ (by decide)).trans ?_; refine (View.readCov_cons_toLoadRect _ _ _ _).trans ?_; rfl
  · refine (View.readCov_skip _ _ _ _ _ (by decide)).trans ?_; refine (View.readCov_skip _ _ _ _ _ (by decide)).trans ?_; refine (View.readCov_cons_toLoadRect _ _ _ _).trans ?_; rfl
  · refine (View.readCov_skip _ _ _ _ _ (by decide)).trans ?_; refine (View.readCov_cons_toLoadRect _ _ _ _).trans ?_; rfl
  · refine (View.readCov_cons_toLoadRect _ _ _ _).trans ?_; rfl

/-- With no remainder, the diagonal chunk starts from the loop's last state. -/
theorem before_eq (h2 : (k0_t2_loop i).trips = 0) : before c i arg2 harg2 arg3 harg3 arg4 harg4 arg5 harg5 arg6 harg6 arg7 harg7 arg8 harg8 arg9 harg9 arg10 harg10 x2 x3 x4 = loopState (qry c arg4 harg4 x2) x3 x4 i (k0_t1_loop i).trips := by
  refine Eq.trans ?_ (held_stores1 c i arg2 harg2 arg3 harg3 arg4 harg4 arg5 harg5 arg6 harg6 arg7 harg7 arg8 harg8 arg9 harg9 arg10 harg10 x2 x3 x4 _ le_rfl)
  unfold before stores2
  rw [h2]
  rfl

/-- The denominators when the outputs are formed. -/
theorem full9 (h2 : (k0_t2_loop i).trips = 0) (s : Fin 8) : arg9.view.readCov (kernelRun0_A.sl.HS1_8 c i arg2 harg2 arg3 harg3 arg4 harg4 arg5 harg5 arg6 harg6 arg7 harg7 arg8 harg8 arg9 harg9 arg10 harg10 x2 x3 x4) (slot s).toLoadRect
    = (fullState (qry c arg4 harg4 x2) x3 x4 i).2.1 s := by
  rw [post9, pre8_eq, pre9_eq, before_eq (h2 := h2)]; rfl

/-- The numerators when the outputs are formed. -/
theorem full10 (h2 : (k0_t2_loop i).trips = 0) (s : Fin 8) : arg10.view.readCov (kernelRun0_A.sl.HS2_8 c i arg2 harg2 arg3 harg3 arg4 harg4 arg5 harg5 arg6 harg6 arg7 harg7 arg8 harg8 arg9 harg9 arg10 harg10 x2 x3 x4) (slot s).toLoadRect
    = (fullState (qry c arg4 harg4 x2) x3 x4 i).2.2 s := by
  rw [post10, pre8_eq, pre10_eq, before_eq (h2 := h2)]; rfl

/-- One head's output: the first state's attention less λ times the second's, RMS-normalised and scaled. -/
def headOut (lam : FVec F S1x1 .f32) (g : Vec F S1x128 .f32) (a0 l0 a1 l1 : Vec F S1x256x128 .f32) : FVec F S1x256x128 .bf16 :=
  k0_pay255 (k0_pay256 lam a0 l0 a1 l1 g)

/-- λ, from the block of its four vectors. -/
def lambda (x0 : Vec F S4x64 .f32) : FVec F S1x1 .f32 := k0_pay253 (k0_pay251 x0) (k0_pay252 x0)

/-- Head `h`'s output from a state. -/
def headOf (x0 : Vec F S4x64 .f32) (x1 : Vec F S1x128 .f32) (st : State F) (h : Fin 4) : FVec F S1x256x128 .bf16 :=
  headOut (lambda x0) x1 (st.2.2 ⟨h, by omega⟩) (st.2.1 ⟨h, by omega⟩) (st.2.2 ⟨4 + h, by omega⟩) (st.2.1 ⟨4 + h, by omega⟩)

/-- A grid point stores the four heads' outputs of the full state. -/
theorem run_pieces (h2 : (k0_t2_loop i).trips = 0) (x0 : Vec F S4x64 .f32) (x1 : Vec F S1x128 .f32) :
    (kernelRun0_A (F := F) c i arg2 harg2 arg3 harg3 arg4 harg4 arg5 harg5 arg6 harg6 arg7 harg7 arg8 harg8 arg9 harg9 arg10 harg10 x0 x1 x2 x3 x4).1 =
      [⟨Rect.unit (s := S1x256x512) ![0, 0, 384] S1x256x128.size inb_S1x256x512_S1x256x128_0_0_384, headOf x0 x1 (fullState (qry c arg4 harg4 x2) x3 x4 i) 3⟩,
       ⟨Rect.unit (s := S1x256x512) ![0, 0, 256] S1x256x128.size inb_S1x256x512_S1x256x128_0_0_256, headOf x0 x1 (fullState (qry c arg4 harg4 x2) x3 x4 i) 2⟩,
       ⟨Rect.unit (s := S1x256x512) ![0, 0, 128] S1x256x128.size inb_S1x256x512_S1x256x128_0_0_128, headOf x0 x1 (fullState (qry c arg4 harg4 x2) x3 x4 i) 1⟩,
       ⟨Rect.unit (s := S1x256x512) ![0, 0, 0] S1x256x128.size inb_S1x256x512_S1x256x128_0_0_0, headOf x0 x1 (fullState (qry c arg4 harg4 x2) x3 x4 i) 0⟩] := by
  have ha := full10 c i arg2 harg2 arg3 harg3 arg4 harg4 arg5 harg5 arg6 harg6 arg7 harg7 arg8 harg8 arg9 harg9 arg10 harg10 x2 x3 x4 h2
  have hl := full9 c i arg2 harg2 arg3 harg3 arg4 harg4 arg5 harg5 arg6 harg6 arg7 harg7 arg8 harg8 arg9 harg9 arg10 harg10 x2 x3 x4 h2
  have hx0 : View.readAt (Elt F) arg2.view (Rect.unit ![0, 0] S4x64.size inb_S4x64_S4x64_0_0).toLoadRect (harg2.unread x0) = x0 := by
    refine (View.readAt_eq_ld _ _ _).trans ?_
    rw [harg2.read_unread]
    exact View.ld_unit_zero (by decide) _ _
  have hx1 : View.readAt (Elt F) arg3.view (Rect.unit ![0, 0] S1x128.size inb_S1x128_S1x128_0_0).toLoadRect (harg3.unread x1) = x1 := by
    refine (View.readAt_eq_ld _ _ _).trans ?_
    rw [harg3.read_unread]
    exact View.ld_unit_zero (by decide) _ _
  have hp : ∀ h : Fin 4, headOf x0 x1 (fullState (qry c arg4 harg4 x2) x3 x4 i) h = headOut
      (lambda (View.readAt (Elt F) arg2.view (Rect.unit ![0, 0] S4x64.size inb_S4x64_S4x64_0_0).toLoadRect (harg2.unread x0)))
      (View.readAt (Elt F) arg3.view (Rect.unit ![0, 0] S1x128.size inb_S1x128_S1x128_0_0).toLoadRect (harg3.unread x1))
      (arg10.view.readCov (kernelRun0_A.sl.HS2_8 c i arg2 harg2 arg3 harg3 arg4 harg4 arg5 harg5 arg6 harg6 arg7 harg7 arg8 harg8 arg9 harg9 arg10 harg10 x2 x3 x4) (slot ⟨h, by omega⟩).toLoadRect)
      (arg9.view.readCov (kernelRun0_A.sl.HS1_8 c i arg2 harg2 arg3 harg3 arg4 harg4 arg5 harg5 arg6 harg6 arg7 harg7 arg8 harg8 arg9 harg9 arg10 harg10 x2 x3 x4) (slot ⟨h, by omega⟩).toLoadRect)
      (arg10.view.readCov (kernelRun0_A.sl.HS2_8 c i arg2 harg2 arg3 harg3 arg4 harg4 arg5 harg5 arg6 harg6 arg7 harg7 arg8 harg8 arg9 harg9 arg10 harg10 x2 x3 x4) (slot ⟨4 + h, by omega⟩).toLoadRect)
      (arg9.view.readCov (kernelRun0_A.sl.HS1_8 c i arg2 harg2 arg3 harg3 arg4 harg4 arg5 harg5 arg6 harg6 arg7 harg7 arg8 harg8 arg9 harg9 arg10 harg10 x2 x3 x4) (slot ⟨4 + h, by omega⟩).toLoadRect) := fun h => by
    rw [hx0, hx1, ha, ha, hl, hl]; rfl
  rw [hp, hp, hp, hp]
  rfl

end Point

end Cert.KernelIdeal.Diff

end
-- ==== Proof.Flash.lean ====
/- Softmax attention of one row over the extended reals: the running form a kernel keeps chunk by chunk, and the plain form. -/
module

public import Idealize.ShloMosaic.PureOps.Ideal
public import Idealize.ShloMosaic.Lib.IdealHost

@[expose] public section

noncomputable section

namespace Cert.Flash

open Idealize.ShloMosaic

/-- The real sum read among the extended reals. -/
theorem coe_sum {ι : Type*} (s : Finset ι) (f : ι → ℝ) : ((∑ i ∈ s, f i : ℝ) : EReal) = ∑ i ∈ s, ((f i : ℝ) : EReal) :=
  map_sum (⟨⟨Real.toEReal, EReal.coe_zero⟩, EReal.coe_add⟩ : ℝ →+ EReal) f s

/-- Division by a real that is not zero, between reals. -/
theorem div_coe_coe (x : ℝ) {y : ℝ} (hy : y ≠ 0) : Ideal.div (x : EReal) (y : EReal) = ((x / y : ℝ) : EReal) := by
  rw [Ideal.div_coe hy, ← EReal.coe_mul]; congr 1; ring

/-- The weight sum of the first `n` columns, relative to `m`. -/
def den (n : ℕ) (x : ℕ → ℝ) (m : ℝ) : ℝ := ∑ j ∈ Finset.range n, Real.exp (x j - m)

/-- The weighted sum of the first `n` columns' values, relative to `m`. -/
def num (n : ℕ) (x v : ℕ → ℝ) (m : ℝ) : ℝ := ∑ j ∈ Finset.range n, Real.exp (x j - m) * v j

/-- The attention output of a row that sees its first `n` columns. -/
def att (n : ℕ) (x v : ℕ → ℝ) : ℝ := num n x v 0 / den n x 0

theorem den_pos {n : ℕ} (hn : 0 < n) (x : ℕ → ℝ) (m : ℝ) : 0 < den n x m :=
  Finset.sum_pos (fun _ _ => Real.exp_pos _) ⟨0, Finset.mem_range.2 hn⟩

theorem den_shift (n : ℕ) (x : ℕ → ℝ) (m m' : ℝ) : Real.exp (m - m') * den n x m = den n x m' := by
  unfold den; rw [Finset.mul_sum]
  exact Finset.sum_congr rfl fun j _ => by rw [← Real.exp_add]; congr 1; ring

theorem num_shift (n : ℕ) (x v : ℕ → ℝ) (m m' : ℝ) : Real.exp (m - m') * num n x v m = num n x v m' := by
  unfold num; rw [Finset.mul_sum]
  exact Finset.sum_congr rfl fun j _ => by rw [← mul_assoc, ← Real.exp_add]; congr 2; ring

/-- The reference point of the weights does not matter. -/
theorem num_div_den (n : ℕ) (x v : ℕ → ℝ) (m : ℝ) : num n x v m / den n x m = att n x v := by
  unfold att
  rw [← num_shift n x v m 0, ← den_shift n x m 0, mul_div_mul_left _ _ (Real.exp_pos _).ne']

/-- What a chunk of columns sees: the first `p` columns from `c` on as they are, the rest as −∞. -/
def chunkScore (x : ℕ → ℝ) (c p j : ℕ) : EReal := if j < p then ((x (c + j) : ℝ) : EReal) else ⊥

/-- The largest score of a chunk that sees a column is a real number. -/
theorem fold_max_real {K : ℕ} (f : Fin K → EReal) (hf : ∀ j, f j ≠ ⊤) (j₀ : Fin K) (h0 : f j₀ ≠ ⊥) :
    ∃ m : ℝ, (Finset.univ : Finset (Fin K)).fold max ⊥ f = (m : EReal) := by
  have h1 : (Finset.univ : Finset (Fin K)).fold max ⊥ f ≠ ⊤ := by
    intro h
    have := (Finset.fold_max_lt (s := Finset.univ) (b := (⊥ : EReal)) (f := f) (c := ⊤)).2
      ⟨bot_lt_top, fun j _ => lt_top_iff_ne_top.2 (hf j)⟩
    exact this.ne h
  have h2 : (Finset.univ : Finset (Fin K)).fold max ⊥ f ≠ ⊥ := by
    intro h
    have := (Finset.le_fold_max (s := Finset.univ) (b := (⊥ : EReal)) (f := f) (f j₀)).2 (Or.inr ⟨j₀, Finset.mem_univ _, le_rfl⟩)
    rw [h] at this
    exact h0 (le_bot_iff.1 this)
  exact ⟨_, (EReal.coe_toReal h1 h2).symm⟩

theorem chunk_max_real {K : ℕ} (x : ℕ → ℝ) (c p : ℕ) (hp : 0 < p) (hK : 0 < K) :
    ∃ m : ℝ, (Finset.univ : Finset (Fin K)).fold max ⊥ (fun j : Fin K => chunkScore x c p j) = (m : EReal) := by
  refine fold_max_real _ (fun j => ?_) ⟨0, hK⟩ ?_
  · unfold chunkScore; split
    · exact EReal.coe_ne_top _
    · exact bot_ne_top
  · unfold chunkScore; rw [if_pos hp]; exact EReal.coe_ne_bot _

theorem exp_chunkScore (x : ℕ → ℝ) (c p j : ℕ) (m : ℝ) :
    Ideal.exp (chunkScore x c p j - (m : EReal)) = ((if j < p then Real.exp (x (c + j) - m) else 0 : ℝ) : EReal) := by
  unfold chunkScore; split
  · rw [← EReal.coe_sub]; rfl
  · rw [EReal.bot_sub]; rfl

theorem sum_chunk {K : ℕ} (c p : ℕ) (hp : p ≤ K) (f : ℕ → ℝ) :
    ∑ j : Fin K, (if j.val < p then f (c + j) else 0) = ∑ j ∈ Finset.range p, f (c + j) := by
  rw [Fin.sum_univ_eq_sum_range (fun j => if j < p then f (c + j) else 0) K, ← Finset.sum_filter]
  congr 1; ext j; simp; omega

/-- A chunk's weights sum to the weight sum of the columns it sees. -/
theorem chunk_den {K : ℕ} (x : ℕ → ℝ) (c p : ℕ) (hp : p ≤ K) (m : ℝ) :
    ∑ j : Fin K, Ideal.exp (chunkScore x c p j - (m : EReal)) = ((∑ j ∈ Finset.range p, Real.exp (x (c + j) - m) : ℝ) : EReal) := by
  rw [← sum_chunk c p hp fun k => Real.exp (x k - m), coe_sum]
  exact Finset.sum_congr rfl fun j _ => exp_chunkScore x c p j m

theorem chunk_num {K : ℕ} (x v : ℕ → ℝ) (c p : ℕ) (hp : p ≤ K) (m : ℝ) :
    ∑ j : Fin K, Ideal.exp (chunkScore x c p j - (m : EReal)) * ((v (c + j) : ℝ) : EReal)
      = ((∑ j ∈ Finset.range p, Real.exp (x (c + j) - m) * v (c + j) : ℝ) : EReal) := by
  rw [← sum_chunk c p hp fun k => Real.exp (x k - m) * v k, coe_sum]
  refine Finset.sum_congr rfl fun j _ => ?_
  rw [exp_chunkScore, ← EReal.coe_mul]; congr 1; split <;> simp

/-- The running state of a row after its first `n` columns: nothing seen, or the sums relative to some real maximum. -/
def Running (n : ℕ) (x v : ℕ → ℝ) (M L A : EReal) : Prop :=
  (n = 0 ∧ M = ⊥ ∧ L = 0 ∧ A = 0) ∨ ∃ m : ℝ, M = m ∧ L = (den n x m : ℝ) ∧ A = (num n x v m : ℝ)

/-- One chunk more: the new maximum, the rescaled sums plus the chunk's. -/
theorem Running.step {K : ℕ} {n : ℕ} {x v : ℕ → ℝ} {M L A : EReal} (h : Running n x v M L A) (p : ℕ) (hp : 0 < p) (hK : p ≤ K)
    {M' : EReal} (hM : M' = max M ((Finset.univ : Finset (Fin K)).fold max ⊥ fun j : Fin K => chunkScore x n p j)) :
    Running (n + p) x v M'
      (Ideal.exp (M - M') * L + ∑ j : Fin K, Ideal.exp (chunkScore x n p j - M'))
      (Ideal.exp (M - M') * A + ∑ j : Fin K, Ideal.exp (chunkScore x n p j - M') * ((v (n + j) : ℝ) : EReal)) := by
  obtain ⟨r, hr⟩ := chunk_max_real (K := K) x n p hp (by omega)
  rw [hr] at hM
  have hden : ∀ m : ℝ, den (n + p) x m = den n x m + ∑ j ∈ Finset.range p, Real.exp (x (n + j) - m) := fun m => Finset.sum_range_add _ _ _
  have hnum : ∀ m : ℝ, num (n + p) x v m = num n x v m + ∑ j ∈ Finset.range p, Real.exp (x (n + j) - m) * v (n + j) := fun m => Finset.sum_range_add _ _ _
  refine Or.inr ?_
  rcases h with ⟨rfl, rfl, rfl, rfl⟩ | ⟨m, rfl, rfl, rfl⟩
  · have hM' : M' = (r : EReal) := by rw [hM]; exact max_eq_right bot_le
    subst hM'
    refine ⟨r, rfl, ?_, ?_⟩
    · rw [chunk_den x 0 p hK r, mul_zero, zero_add, hden]
      simp [den]
    · rw [chunk_num x v 0 p hK r, mul_zero, zero_add, hnum]
      simp [num]
  · have hM' : M' = ((max m r : ℝ) : EReal) := by rw [hM]; exact (EReal.coe_strictMono.monotone.map_max).symm
    subst hM'
    refine ⟨max m r, rfl, ?_, ?_⟩
    · rw [chunk_den x n p hK, ← EReal.coe_sub, Ideal.exp_coe, ← EReal.coe_mul, ← EReal.coe_add, hden, den_shift]
    · rw [chunk_num x v n p hK, ← EReal.coe_sub, Ideal.exp_coe, ← EReal.coe_mul, ← EReal.coe_add, hnum, num_shift]

/-- The output: the numerator times the reciprocal of the denominator. -/
theorem Running.out {n : ℕ} {x v : ℕ → ℝ} {M L A : EReal} (h : Running n x v M L A) (hn : 0 < n) :
    A * Ideal.div 1 L = ((att n x v : ℝ) : EReal) := by
  rcases h with ⟨rfl, -⟩ | ⟨m, -, rfl, rfl⟩
  · omega
  · have hd := (den_pos hn x m).ne'
    rw [Ideal.mul_one_div (by exact_mod_cast hd), div_coe_coe _ hd, num_div_den]

/-- The plain form: a row's weights over all `K` columns, of which it sees the first `n`. -/
theorem plain_weight {K : ℕ} (x : ℕ → ℝ) (n : ℕ) (hn : 0 < n) (hK : n ≤ K) (m : ℝ) (j : ℕ) :
    Ideal.div (Ideal.exp (chunkScore x 0 n j - (m : EReal))) (∑ k : Fin K, Ideal.exp (chunkScore x 0 n k - (m : EReal)))
      = (((if j < n then Real.exp (x j - m) else 0) / den n x m : ℝ) : EReal) := by
  rw [chunk_den x 0 n hK, exp_chunkScore]
  simp only [Nat.zero_add]
  exact div_coe_coe _ (den_pos hn x m).ne'

/-- The values' sum under the plain weights is the attention output. -/
theorem plain_out {K : ℕ} (x v : ℕ → ℝ) (n : ℕ) (hK : n ≤ K) (m : ℝ) :
    ∑ j : Fin K, v j * ((if j.val < n then Real.exp (x j - m) else 0) / den n x m) = att n x v := by
  have h : ∀ j : Fin K, v j * ((if j.val < n then Real.exp (x j - m) else 0) / den n x m)
      = (if j.val < n then (fun k => Real.exp (x k - m) * v k) (0 + j.val) else 0) / den n x m := fun j => by
    simp only [Nat.zero_add]; split <;> ring
  rw [Finset.sum_congr rfl fun j _ => h j, ← Finset.sum_div, sum_chunk 0 n hK (fun k => Real.exp (x k - m) * v k)]
  simp only [Nat.zero_add]
  exact num_div_den n x v m

end Cert.Flash

end
-- ==== Proof.DiffRow.lean ====
/- One row of one stream through the chunks: the scratch buffers keep the running softmax state, and a grid point's full state is the attention of its rows. -/
module

public import proofs.«01_k».proof.Proof.DiffRun
public import proofs.«01_k».proof.Proof.Flash
public import Idealize.ShloMosaic.Lib.Pipeline.ValueKit
public import Idealize.ShloMosaic.Lib.Claim

@[expose] public section

set_option maxRecDepth 16384

noncomputable section

namespace Cert.KernelIdeal.Diff

open Idealize.ShloMosaic Idealize.ShloMosaic.TcCoe Idealize.SL.Sem
open Cert.KernelIdeal Cert.KernelIdeal.Gen

/-- The word 0xFF800000 is −∞. -/
theorem ofBits_neg_inf : Ideal.ofBits .f32 0xFF800000#32 = ⊥ := by
  simp [Ideal.ofBits, Ideal.ieee]

/-- The largest score and the old maximum, at a row and lane. -/
theorem newMax_apply (sc : FVec Ideal S256x256 .f32) (m : Vec Ideal S1x256x128 .f32) (r : Fin 256) (e : Fin 128) :
    newMax (F := Ideal) sc m (ix2 r e) = max (m (ix3 0 r e)) ((Finset.univ : Finset (Fin 256)).fold max ⊥ fun j => sc (ix2 r j)) := by
  pointwise [newMax]
  rw [ofBits_neg_inf]

/-- The rescaled denominator plus the chunk's weights, at a row and lane. -/
theorem upL_apply (sc : FVec Ideal S256x256 .f32) (m l : Vec Ideal S1x256x128 .f32) (r : Fin 256) (e : Fin 128) :
    upL (F := Ideal) sc m l (ix3 0 r e) = Ideal.exp (m (ix3 0 r e) - newMax (F := Ideal) sc m (ix2 r e)) * l (ix3 0 r e)
      + ∑ j : Fin 256, weight (F := Ideal) sc m (ix2 r j) := by
  pointwise [upL, alpha]

/-- The rescaled numerator plus the chunk's weighted values, at a row and lane. -/
theorem upA_apply (sc : FVec Ideal S256x256 .f32) (m a : Vec Ideal S1x256x128 .f32) (v : Vec Ideal S1x256x128 .bf16) (r : Fin 256) (e : Fin 128) :
    upA (F := Ideal) sc m v a (ix3 0 r e) = Ideal.exp (m (ix3 0 r e) - newMax (F := Ideal) sc m (ix2 r e)) * a (ix3 0 r e)
      + ∑ j : Fin 256, weight (F := Ideal) sc m (ix2 r j) * v (ix3 0 j e) := by
  pointwise [upA, alpha]

/-- A weight, when the new maximum is the same in every lane. -/
theorem weight_apply (sc : FVec Ideal S256x256 .f32) (m : Vec Ideal S1x256x128 .f32) (r j : Fin 256) (M : EReal)
    (hM : ∀ e : Fin 128, newMax (F := Ideal) sc m (ix2 r e) = M) : weight (F := Ideal) sc m (ix2 r j) = Ideal.exp (sc (ix2 r j) - M) := by
  pointwise [weight]
  split <;> exact congrArg (fun z => Ideal.exp (sc (ix2 r j) - z)) (hM _)

/-- The running softmax state of row `r`: one maximum and one denominator in every lane, a numerator per lane. -/
def RowState (n : ℕ) (x : ℕ → ℝ) (v : Fin 128 → ℕ → ℝ) (m l a : Vec Ideal S1x256x128 .f32) (r : Fin 256) : Prop :=
  ∃ M L : EReal, ∀ e : Fin 128, m (ix3 0 r e) = M ∧ l (ix3 0 r e) = L ∧ Flash.Running n x (v e) M L (a (ix3 0 r e))

/-- A chunk of which row `r` sees the first `p` columns advances its state by `p` columns. -/
theorem RowState.step {n : ℕ} {x : ℕ → ℝ} {v : Fin 128 → ℕ → ℝ} {m l a : Vec Ideal S1x256x128 .f32} {r : Fin 256}
    (h : RowState n x v m l a r) (p : ℕ) (hp : 0 < p) (hK : p ≤ 256) (sc : FVec Ideal S256x256 .f32) (vt : Vec Ideal S1x256x128 .bf16)
    (hsc : ∀ j : Fin 256, sc (ix2 r j) = Flash.chunkScore x n p j)
    (hv : ∀ (j : Fin 256) (e : Fin 128), vt (ix3 0 j e) = ((v e (n + j) : ℝ) : EReal)) :
    RowState (n + p) x v (upM (F := Ideal) sc m) (upL (F := Ideal) sc m l) (upA (F := Ideal) sc m vt a) r := by
  obtain ⟨M, L, h⟩ := h
  obtain ⟨M', hM'⟩ : ∃ M', M' = max M ((Finset.univ : Finset (Fin 256)).fold max ⊥ fun j : Fin 256 => Flash.chunkScore x n p j) := ⟨_, rfl⟩
  have hmax : ∀ e : Fin 128, newMax (F := Ideal) sc m (ix2 r e) = M' := fun e => by
    rw [newMax_apply, (h e).1, hM']; simp only [hsc]
  refine ⟨M', Ideal.exp (M - M') * L + ∑ j : Fin 256, Ideal.exp (Flash.chunkScore x n p j - M'), fun e => ⟨?_, ?_, ?_⟩⟩
  · rw [← hmax e]; pointwise [upM]
  · rw [upL_apply, hmax, (h e).1, (h e).2.1]
    simp only [weight_apply sc m r _ _ hmax, hsc]
  · rw [upA_apply, hmax, (h e).1]
    simp only [weight_apply sc m r _ _ hmax, hsc, hv]
    exact (h e).2.2.step p hp hK hM'

/-- At a grid point the loop makes one trip per earlier chunk, the remainder loop none. -/
theorem trips : ∀ t : Fin cfg0.N, (k0_t1_loop (grid0.coords t)).trips = (grid0.coords t 1).val ∧ (k0_t2_loop (grid0.coords t)).trips = 0 :=
  (by decide +kernel : ∀ t : Fin grid0.N, _)

/-- The loop's tile offsets: trip `k` reads the columns from `256 k` on. -/
theorem offs : ∀ (t : Fin cfg0.N) (k : Fin (k0_t1_loop (grid0.coords t)).trips),
    k0_off1 (grid0.coords t) k = ![0, 0, 256 * k.val] ∧ k0_off4 (grid0.coords t) k = ![0, 128, 256 * k.val] ∧
    k0_off7 (grid0.coords t) k = ![0, 256, 256 * k.val] ∧ k0_off8 (grid0.coords t) k = ![0, 384, 256 * k.val] ∧
    k0_off2 (grid0.coords t) k = ![0, 256 * k.val, 0] ∧ k0_off3 (grid0.coords t) k = ![0, 256 * k.val, 128] ∧
    k0_off5 (grid0.coords t) k = ![0, 256 * k.val, 256] ∧ k0_off6 (grid0.coords t) k = ![0, 256 * k.val, 384] :=
  (by decide +kernel : ∀ (t : Fin grid0.N) (k : Fin (k0_t1_loop (grid0.coords t)).trips), _)

/-- The diagonal chunk's tile offsets: the columns from the block's own first row on. -/
theorem offsD : ∀ t : Fin cfg0.N,
    k0_off17 (grid0.coords t) = ![0, 0, 256 * (grid0.coords t 1).val] ∧ k0_off20 (grid0.coords t) = ![0, 128, 256 * (grid0.coords t 1).val] ∧
    k0_off23 (grid0.coords t) = ![0, 256, 256 * (grid0.coords t 1).val] ∧ k0_off24 (grid0.coords t) = ![0, 384, 256 * (grid0.coords t 1).val] ∧
    k0_off18 (grid0.coords t) = ![0, 256 * (grid0.coords t 1).val, 0] ∧ k0_off19 (grid0.coords t) = ![0, 256 * (grid0.coords t 1).val, 128] ∧
    k0_off21 (grid0.coords t) = ![0, 256 * (grid0.coords t 1).val, 256] ∧ k0_off22 (grid0.coords t) = ![0, 256 * (grid0.coords t 1).val, 384] :=
  (by decide +kernel : ∀ t : Fin grid0.N, _)

/-- A tile of keys read at a row and column. -/
theorem ktile_apply (x : Vec Ideal S1x512x2048 .bf16) (off) (inb) (a b : ℕ) (h : off = ![0, a, b]) (l : Fin 128) (j : Fin 256)
    (ha : a + l.val < 512) (hb : b + j.val < 2048) : ktile x off inb (ix3 0 l j) = x (ix3 0 ⟨a + l.val, ha⟩ ⟨b + j.val, hb⟩) := by
  subst h
  refine View.ld_unit_apply_of x _ _ _ _ _ fun d => ?_
  fin_cases d <;> rfl

/-- A tile of values read at a row and column. -/
theorem vtile_apply (x : Vec Ideal S1x2048x512 .bf16) (off) (inb) (a b : ℕ) (h : off = ![0, b, a]) (j : Fin 256) (e : Fin 128)
    (ha : a + e.val < 512) (hb : b + j.val < 2048) : vtile x off inb (ix3 0 j e) = x (ix3 0 ⟨b + j.val, hb⟩ ⟨a + e.val, ha⟩) := by
  subst h
  refine View.ld_unit_apply_of x _ _ _ _ _ fun d => ?_
  fin_cases d <;> rfl

/-- A trip's number is below the block's. -/
theorem trip_lt (t : Fin cfg0.N) (k : Fin (k0_t1_loop (grid0.coords t)).trips) : k.val < (grid0.coords t 1).val := by
  exact lt_of_lt_of_eq k.isLt (trips t).1

theorem row_lt (i : grid0.Coords) : (i 1).val < 8 := (i 1).isLt

/-- Stream `s`'s keys in trip `k`: its pair of streams' rows, the columns from `256 k` on. -/
theorem keys_apply (x : Vec Ideal S1x512x2048 .bf16) (t : Fin cfg0.N) (k : Fin (k0_t1_loop (grid0.coords t)).trips) (s : Fin 8)
    (l : Fin 128) (j : Fin 256) : keys (F := Ideal) x (grid0.coords t) k s (ix3 0 l j)
      = x (ix3 0 ⟨128 * (s.val / 2) + l.val, by omega⟩ ⟨256 * k.val + j.val, by have := trip_lt t k; have := row_lt (grid0.coords t); omega⟩) := by
  obtain ⟨h1, h4, h7, h8, -⟩ := offs t k
  fin_cases s
  · exact ktile_apply x _ _ _ _ h1 l j _ _
  · exact ktile_apply x _ _ _ _ h1 l j _ _
  · exact ktile_apply x _ _ _ _ h4 l j _ _
  · exact ktile_apply x _ _ _ _ h4 l j _ _
  · exact ktile_apply x _ _ _ _ h7 l j _ _
  · exact ktile_apply x _ _ _ _ h7 l j _ _
  · exact ktile_apply x _ _ _ _ h8 l j _ _
  · exact ktile_apply x _ _ _ _ h8 l j _ _

/-- Stream `s`'s values in trip `k`: its head's columns, the rows from `256 k` on. -/
theorem vals_apply (x : Vec Ideal S1x2048x512 .bf16) (t : Fin cfg0.N) (k : Fin (k0_t1_loop (grid0.coords t)).trips) (s : Fin 8)
    (j : Fin 256) (e : Fin 128) : vals (F := Ideal) x (grid0.coords t) k s (ix3 0 j e)
      = x (ix3 0 ⟨256 * k.val + j.val, by have := trip_lt t k; have := row_lt (grid0.coords t); omega⟩ ⟨128 * (s.val % 4) + e.val, by omega⟩) := by
  obtain ⟨-, -, -, -, h2, h3, h5, h6⟩ := offs t k
  fin_cases s
  · exact vtile_apply x _ _ _ _ h2 j e _ _
  · exact vtile_apply x _ _ _ _ h3 j e _ _
  · exact vtile_apply x _ _ _ _ h5 j e _ _
  · exact vtile_apply x _ _ _ _ h6 j e _ _
  · exact vtile_apply x _ _ _ _ h2 j e _ _
  · exact vtile_apply x _ _ _ _ h3 j e _ _
  · exact vtile_apply x _ _ _ _ h5 j e _ _
  · exact vtile_apply x _ _ _ _ h6 j e _ _

/-- Stream `s`'s keys in the diagonal chunk. -/
theorem keysD_apply (x : Vec Ideal S1x512x2048 .bf16) (t : Fin cfg0.N) (s : Fin 8) (l : Fin 128) (j : Fin 256) :
    keysD (F := Ideal) x (grid0.coords t) s (ix3 0 l j)
      = x (ix3 0 ⟨128 * (s.val / 2) + l.val, by omega⟩ ⟨256 * (grid0.coords t 1).val + j.val, by have := row_lt (grid0.coords t); omega⟩) := by
  obtain ⟨h1, h4, h7, h8, -⟩ := offsD t
  fin_cases s
  · exact ktile_apply x _ _ _ _ h1 l j _ _
  · exact ktile_apply x _ _ _ _ h1 l j _ _
  · exact ktile_apply x _ _ _ _ h4 l j _ _
  · exact ktile_apply x _ _ _ _ h4 l j _ _
  · exact ktile_apply x _ _ _ _ h7 l j _ _
  · exact ktile_apply x _ _ _ _ h7 l j _ _
  · exact ktile_apply x _ _ _ _ h8 l j _ _
  · exact ktile_apply x _ _ _ _ h8 l j _ _

/-- Stream `s`'s values in the diagonal chunk. -/
theorem valsD_apply (x : Vec Ideal S1x2048x512 .bf16) (t : Fin cfg0.N) (s : Fin 8) (j : Fin 256) (e : Fin 128) :
    valsD (F := Ideal) x (grid0.coords t) s (ix3 0 j e)
      = x (ix3 0 ⟨256 * (grid0.coords t 1).val + j.val, by have := row_lt (grid0.coords t); omega⟩ ⟨128 * (s.val % 4) + e.val, by omega⟩) := by
  obtain ⟨-, -, -, -, h2, h3, h5, h6⟩ := offsD t
  fin_cases s
  · exact vtile_apply x _ _ _ _ h2 j e _ _
  · exact vtile_apply x _ _ _ _ h3 j e _ _
  · exact vtile_apply x _ _ _ _ h5 j e _ _
  · exact vtile_apply x _ _ _ _ h6 j e _ _
  · exact vtile_apply x _ _ _ _ h2 j e _ _
  · exact vtile_apply x _ _ _ _ h3 j e _ _
  · exact vtile_apply x _ _ _ _ h5 j e _ _
  · exact vtile_apply x _ _ _ _ h6 j e _ _

/-- A score: the query row times the key column. -/
theorem score_apply (q : FVec Ideal S256x128 .bf16) (kt : Vec Ideal S1x128x256 .bf16) (r j : Fin 256) :
    k0_pay2 (F := Ideal) q kt (ix2 r j) = ∑ l : Fin 128, q (ix2 r l) * kt (ix3 0 l j) := by
  pointwise [k0_pay2]

/-- A masked score: −∞ after the row. -/
theorem masked_apply (sc : FVec Ideal S256x256 .f32) (r j : Fin 256) :
    masked (F := Ideal) sc (ix2 r j) = if j.val ≤ r.val then sc (ix2 r j) else ⊥ := by
  pointwise [masked, k0_pay171, k0_pay172]
  rw [ofBits_neg_inf]
  have h : IntOp.cmpi .sle (BitVec.ofNat 32 j.val) (BitVec.ofNat 32 r.val) = if j.val ≤ r.val then 1#1 else 0#1 := by
    revert r j; decide +kernel
  rw [h]
  split <;> rfl

section State

variable (q : Fin 8 → FVec Ideal S256x128 .bf16) (x3 : Vec Ideal S1x512x2048 .bf16) (x4 : Vec Ideal S1x2048x512 .bf16) (t : Fin cfg0.N)
  (x : Fin 8 → Fin 256 → ℕ → ℝ) (v : Fin 8 → Fin 128 → ℕ → ℝ)
  (hx : ∀ (s : Fin 8) (r : Fin 256) (J : Fin 2048),
    ∑ l : Fin 128, q s (ix2 r l) * x3 (ix3 0 ⟨128 * (s.val / 2) + l.val, by omega⟩ J) = ((x s r J.val : ℝ) : EReal))
  (hv : ∀ (s : Fin 8) (e : Fin 128) (J : Fin 2048), x4 (ix3 0 J ⟨128 * (s.val % 4) + e.val, by omega⟩) = ((v s e J.val : ℝ) : EReal))

include hx hv

/-- The state before trip `n`: every row has seen `256 n` columns. -/
theorem loopState_row (s : Fin 8) (r : Fin 256) : ∀ n, n ≤ (k0_t1_loop (grid0.coords t)).trips →
    RowState (256 * n) (x s r) (v s) ((loopState q x3 x4 (grid0.coords t) n).1 s) ((loopState q x3 x4 (grid0.coords t) n).2.1 s)
      ((loopState q x3 x4 (grid0.coords t) n).2.2 s) r
  | 0, _ => by
    refine ⟨⊥, 0, fun e => ⟨?_, ?_, Or.inl ⟨rfl, rfl, rfl, ?_⟩⟩⟩
    · exact ofBits_neg_inf
    · exact Ideal.ofBits_zero_f32
    · exact Ideal.ofBits_zero_f32
  | n + 1, h => by
    have ih := loopState_row s r n (by omega)
    have hS : loopState q x3 x4 (grid0.coords t) (n + 1)
        = chunk (scores q (keys x3 (grid0.coords t) ⟨n, h⟩)) (vals x4 (grid0.coords t) ⟨n, h⟩) (loopState q x3 x4 (grid0.coords t) n) := by
      rw [loopState]; exact dif_pos h
    rw [hS]
    refine ih.step 256 (by omega) le_rfl _ _ (fun j => ?_) (fun j e => ?_)
    · refine (score_apply _ _ r j).trans ?_
      simp only [keys_apply]
      rw [hx]; unfold Flash.chunkScore; rw [if_pos j.isLt]
    · rw [vals_apply, hv]

/-- The full state: row `r` of the block has seen every column up to its own. -/
theorem fullState_row (s : Fin 8) (r : Fin 256) :
    RowState (256 * (grid0.coords t 1).val + (r.val + 1)) (x s r) (v s) ((fullState q x3 x4 (grid0.coords t)).1 s)
      ((fullState q x3 x4 (grid0.coords t)).2.1 s) ((fullState q x3 x4 (grid0.coords t)).2.2 s) r := by
  have h := loopState_row q x3 x4 t x v hx hv s r _ le_rfl
  unfold fullState
  rw [(trips t).1] at h ⊢
  refine h.step (r.val + 1) (by omega) (by omega) _ _ (fun j => ?_) (fun j e => ?_)
  · refine (masked_apply _ r j).trans ?_
    unfold Flash.chunkScore
    by_cases hj : j.val ≤ r.val
    · rw [if_pos hj, if_pos (by omega), score_apply]
      simp only [keysD_apply]
      rw [hx]
    · rw [if_neg hj, if_neg (by omega)]
  · rw [valsD_apply, hv]

end State

end Cert.KernelIdeal.Diff

end
-- ==== Proof.DiffRef.lean ====
/- The reference of differential attention, row by row: its two masked softmaxes and their difference against the values. -/
module

public import proofs.«01_k».proof.Proof.Gen.ReferenceIdeal.Read
public import proofs.«01_k».proof.Proof.Flash
public import Idealize.ShloMosaic.Lib.Pipeline.ValueKit
public import Idealize.ShloMosaic.Lib.WordCmp

@[expose] public section

set_option maxRecDepth 16384

noncomputable section

namespace Cert.ReferenceIdeal.Diff

open Idealize.ShloMosaic Idealize.ShloMosaic.TcCoe Idealize.SL.Sem
open Cert.ReferenceIdeal Cert.ReferenceIdeal.Gen Cert.ReferenceIdeal.Read

/-- The word 0xFF800000 is −∞, 0x7F800000 is +∞. -/
theorem ofBits_neg_inf : Ideal.ofBits .f32 0xFF800000#32 = ⊥ := by simp [Ideal.ofBits, Ideal.ieee]
theorem ofBits_inf : Ideal.ofBits .f32 0x7F800000#32 = ⊤ := by simp [Ideal.ofBits, Ideal.ieee]
theorem ofBits_eighth : Ideal.ofBits .f32 0x3E000000#32 = ((1 / 8 : ℝ) : EReal) := by
  simp [Ideal.ofBits, Ideal.ieee, -EReal.coe_mul]; norm_num

/-- The causal mask. -/
theorem v25_row (T k : Fin 2048) : val_main_v25 (F := Ideal) (ix5 0 0 0 T k) = if k.val ≤ T.val then 1#1 else 0#1 := by
  pointwise [val_main_v25, val_main_v24, val_main_v23, val_main_v22, val_main_v21, val_main_v20, val_main_v0]
  rw [WordCmp.cmpi_sle_ofNat (by omega) (by omega)]
  by_cases h : k.val ≤ T.val <;> simp [h]

/-- A row maximum from −∞, as the maximum over the row. -/
theorem reduce_row (x : S8x2x4x2048x2048.Idx → EReal) (init : S_.Idx → EReal) (h' : S8x2x4x2048x2048.ReducesTo [4] S8x2x4x2048)
    (hi : init (Shape.Idx.first h_S_) = ⊥) (b : Fin 8) (c : Fin 2) (h : Fin 4) (T : Fin 2048) :
    Host.reduce (FloatOps.maximumf (F := Ideal) (φ := .f32)) x init h' h_S_ (ix4 b c h T)
      = (Finset.univ : Finset (Fin 2048)).fold max ⊥ (fun k => x (ix5 b c h T k)) := by
  have hr : S8x2x4x2048x2048.Reduces [4] S8x2x4x2048 := by decide
  have hf : ∀ k : Fin 2048, hr.lift (ix4 b c h T) k = ix5 b c h T k := fun k => by
    funext a; fin_cases a <;> rfl
  refine (Host.reduce_eq_fold_single (FloatOps.maximumf (F := Ideal) (φ := .f32)) x init h' hr h_S_ (ix4 b c h T)).trans ?_
  rw [hi]
  exact congrArg (fun f : Fin 2048 → EReal => (Finset.univ : Finset (Fin 2048)).fold max ⊥ f) (funext fun k => congrArg x (hf k))

section Row

variable (x2 x3 : FVec Ideal S8x2048x2x4x64 .f32) (qr kr : S8x2048x2x4x64.Idx → ℝ)
  (hq : ∀ i, x2 i = ((qr i : ℝ) : EReal)) (hk : ∀ i, x3 i = ((kr i : ℝ) : EReal))

/-- The score of query row `T` against key `J`, of the batch `b`, the softmax `c` and the head `h`. -/
def score (b : Fin 8) (c : Fin 2) (h : Fin 4) (T : Fin 2048) (J : ℕ) : ℝ :=
  if hJ : J < 2048 then ∑ d : Fin 64, qr (ix5 b T c h d) * (1 / 8) * kr (ix5 b ⟨J, hJ⟩ c h d) else 0

include hq hk

/-- The reference's masked scores. -/
theorem v26_row (b : Fin 8) (c : Fin 2) (h : Fin 4) (T k : Fin 2048) :
    val_main_v26 (F := Ideal) x2 x3 (ix5 b c h T k) = Flash.chunkScore (score qr kr b c h T) 0 (T.val + 1) k := by
  have e : val_main_v26 (F := Ideal) x2 x3 (ix5 b c h T k) = Scalar.select (val_main_v25 (F := Ideal) (ix5 0 0 0 T k))
      ((∑ d : Fin 64, x2 (ix5 b T c h d) * x3 (ix5 b k c h d)) * Ideal.ofBits .f32 0x3E000000#32) (Ideal.ofBits .f32 0xFF800000#32) := by
    pointwise [val_main_v26, val_main_call0_v0, val_main_call0_v1, val_main_call0_v2, val_main_cst_3, val_main_v19, val_main_v18, val_main_v17, val_main_cst_2]
    try rfl
  rw [e, v25_row, ofBits_neg_inf, ofBits_eighth]
  unfold Flash.chunkScore
  by_cases hkT : k.val ≤ T.val
  · rw [if_pos hkT, if_pos (by omega)]
    refine (if_pos rfl).trans ?_
    simp only [hq, hk, ← EReal.coe_mul, ← Flash.coe_sum]
    congr 1
    unfold score
    rw [dif_pos (by omega), Finset.sum_mul]
    refine Finset.sum_congr rfl fun d _ => ?_
    simp only [Nat.zero_add]
    ring
  · rw [if_neg hkT, if_neg (by omega)]
    rfl

/-- The reference's row maximum. -/
theorem v27_row (b : Fin 8) (c : Fin 2) (h : Fin 4) (T : Fin 2048) :
    ∃ m : ℝ, val_main_v27 (F := Ideal) x2 x3 (ix4 b c h T) = (m : EReal) := by
  obtain ⟨m, hm⟩ := Flash.chunk_max_real (K := 2048) (score qr kr b c h T) 0 (T.val + 1) (by omega) (by omega)
  refine ⟨m, Eq.trans ?_ hm⟩
  unfold val_main_v27
  refine (reduce_row _ _ _ ofBits_neg_inf b c h T).trans ?_
  exact congrArg (fun f : Fin 2048 → EReal => (Finset.univ : Finset (Fin 2048)).fold max ⊥ f)
    (funext fun k => v26_row x2 x3 qr kr hq hk b c h T k)

omit hq hk

/-- The row maximum spread over the row, and its guard. -/
theorem v33_eq (m : ℝ) (b : Fin 8) (c : Fin 2) (h : Fin 4) (T k : Fin 2048) (hm : val_main_v27 (F := Ideal) x2 x3 (ix4 b c h T) = (m : EReal)) :
    val_main_v33 (F := Ideal) x2 x3 (ix5 b c h T k) = (m : EReal) := by
  have i33 : idx_main_v33 (ix5 b c h T k) = ix5 b c h T 0 := by funext a; fin_cases a <;> rfl
  have i28 : idx_main_v28 (ix5 b c h T 0) = ix4 b c h T := by funext a; fin_cases a <;> rfl
  rw [val_main_v33_apply, i33, val_main_v32_apply, val_main_v31_apply, val_main_v29_apply, val_main_v28_apply, i28, hm,
    val_main_v30_apply, val_main_cst_5_apply]
  have hg : FloatOps.cmpf (F := Ideal) (φ := .f32) .olt (FloatOps.hostAbsf (F := Ideal) (φ := .f32) (m : EReal)) (FloatOps.ofBits .f32 0x7F800000#32) = 1#1 := by
    have h1 : (max (m : EReal) (-(m : EReal))) < Ideal.ofBits .f32 0x7F800000#32 := by
      rw [ofBits_inf]
      exact max_lt (EReal.coe_lt_top m) (by rw [← EReal.coe_neg]; exact EReal.coe_lt_top _)
    show BitVec.ofBool (decide (max (m : EReal) (-(m : EReal)) < Ideal.ofBits .f32 0x7F800000#32)) = 1#1
    rw [decide_eq_true h1]; rfl
  rw [hg]
  exact if_pos rfl

/-- The masked exponential of a score. -/
theorem e36 (b : Fin 8) (c : Fin 2) (h : Fin 4) (T k : Fin 2048) : val_main_v36 (F := Ideal) x2 x3 (ix5 b c h T k) = Scalar.select (val_main_v25 (F := Ideal) (ix5 0 0 0 T k))
      (Ideal.exp (val_main_v26 (F := Ideal) x2 x3 (ix5 b c h T k) - val_main_v33 (F := Ideal) x2 x3 (ix5 b c h T k))) (Ideal.ofBits .f32 0x00000000#32) := by
  pointwise [val_main_v36, val_main_v35, val_main_v34, val_main_call2_v1, val_main_call2_v2, val_main_call2_v0, val_main_cst_7]
  exact congrArg (Scalar.select _ _) Ideal.ofBits_zero_f32

/-- A positive row sum spread over the row, and its guard. -/
theorem v42_eq (d : ℝ) (hd : 0 < d) (b : Fin 8) (c : Fin 2) (h : Fin 4) (T k : Fin 2048)
    (hm : ∑ k : Fin 2048, val_main_v36 (F := Ideal) x2 x3 (ix5 b c h T k) = (d : EReal)) :
    val_main_v42 (F := Ideal) x2 x3 (ix5 b c h T k) = (d : EReal) := by
  have i42 : idx_main_v42 (ix5 b c h T k) = ix5 b c h T 0 := by funext a; fin_cases a <;> rfl
  have i38 : idx_main_v38 (ix5 b c h T 0) = ix4 b c h T := by funext a; fin_cases a <;> rfl
  have i37 : ∀ k : Fin 2048, idx_main_v37 (ix4 b c h T) k = ix5 b c h T k := fun k => by funext a; fin_cases a <;> rfl
  have e37 : val_main_v37 (F := Ideal) x2 x3 (ix4 b c h T) = (d : EReal) := by
    rw [val_main_v37_apply, ← hm]
    simp only [i37]
    have h0 : val_main_cst_8 (F := Ideal) (Shape.Idx.first h_S_) = 0 := Ideal.ofBits_zero_f32
    rw [h0, zero_add]
  rw [val_main_v42_apply, i42, val_main_v41_apply, val_main_v40_apply, val_main_v38_apply, i38, e37,
    val_main_v39_apply, val_main_cst_9_apply]
  have hg : FloatOps.cmpf (F := Ideal) (φ := .f32) .ogt (d : EReal) (FloatOps.ofBits .f32 0x00000000#32) = 1#1 := by
    have h1 : Ideal.ofBits .f32 0x00000000#32 < (d : EReal) := by
      rw [Ideal.ofBits_zero_f32]
      exact EReal.coe_pos.mpr hd
    show BitVec.ofBool (decide (Ideal.ofBits .f32 0x00000000#32 < (d : EReal))) = 1#1
    rw [decide_eq_true h1]; rfl
  rw [hg]
  exact if_pos rfl

include hq hk

/-- The reference's unnormalised weights. -/
theorem v36_row (b : Fin 8) (c : Fin 2) (h : Fin 4) (T : Fin 2048) : ∃ m : ℝ, ∀ k : Fin 2048,
    val_main_v36 (F := Ideal) x2 x3 (ix5 b c h T k) = Ideal.exp (Flash.chunkScore (score qr kr b c h T) 0 (T.val + 1) k - (m : EReal)) := by
  obtain ⟨m, hm⟩ := v27_row x2 x3 qr kr hq hk b c h T
  refine ⟨m, fun k => ?_⟩
  rw [e36, v33_eq x2 x3 m b c h T k hm, v25_row, v26_row x2 x3 qr kr hq hk]
  by_cases hkT : k.val ≤ T.val
  · rw [if_pos hkT]; exact if_pos rfl
  · rw [if_neg hkT, Flash.exp_chunkScore, if_neg (by omega)]
    exact Ideal.ofBits_zero_f32

/-- The reference's weights. -/
theorem v43_row (b : Fin 8) (c : Fin 2) (h : Fin 4) (T : Fin 2048) : ∃ m : ℝ, ∀ k : Fin 2048, val_main_v43 (F := Ideal) x2 x3 (ix5 b c h T k)
    = (((if k.val < T.val + 1 then Real.exp (score qr kr b c h T k - m) else 0) / Flash.den (T.val + 1) (score qr kr b c h T) m : ℝ) : EReal) := by
  obtain ⟨m, hm⟩ := v36_row x2 x3 qr kr hq hk b c h T
  refine ⟨m, fun k => ?_⟩
  have e : ∑ k : Fin 2048, val_main_v36 (F := Ideal) x2 x3 (ix5 b c h T k) = ((Flash.den (T.val + 1) (score qr kr b c h T) m : ℝ) : EReal) := by
    rw [Finset.sum_congr rfl fun k _ => hm k, Flash.chunk_den _ _ _ (by omega)]
    unfold Flash.den
    simp only [Nat.zero_add]
  rw [val_main_v43_apply, v42_eq x2 x3 _ (Flash.den_pos (by omega) _ m) b c h T k e, hm k]
  refine Eq.trans ?_ (Flash.plain_weight (K := 2048) (score qr kr b c h T) (T.val + 1) (by omega) (by omega) m k)
  refine congrArg (Ideal.div _) ?_
  rw [← e]
  exact Finset.sum_congr rfl fun k _ => hm k

end Row

/-- Column `e` of the values of head `h`. -/
def val (vr : S8x2048x4x128.Idx → ℝ) (b : Fin 8) (h : Fin 4) (e : Fin 128) (J : ℕ) : ℝ :=
  if hJ : J < 2048 then vr (ix4 b ⟨J, hJ⟩ h e) else 0

/-- The reference's attention: the difference of its two softmaxes against the values. -/
theorem v52_row (x0 : FVec Ideal S4x64 .f32) (x2 x3 : FVec Ideal S8x2048x2x4x64 .f32) (x4 : FVec Ideal S8x2048x4x128 .f32)
    (qr kr : S8x2048x2x4x64.Idx → ℝ) (vr : S8x2048x4x128.Idx → ℝ) (lr : ℝ)
    (hl : ∀ i, val_main_v16 (F := Ideal) x0 i = ((lr : ℝ) : EReal)) (hq : ∀ i, x2 i = ((qr i : ℝ) : EReal))
    (hk : ∀ i, x3 i = ((kr i : ℝ) : EReal)) (hv : ∀ i, x4 i = ((vr i : ℝ) : EReal))
    (b : Fin 8) (T : Fin 2048) (h : Fin 4) (e : Fin 128) :
    val_main_v52 (F := Ideal) x0 x2 x3 x4 (ix4 b T h e)
      = ((Flash.att (T.val + 1) (score qr kr b 0 h T) (val vr b h e) - lr * Flash.att (T.val + 1) (score qr kr b 1 h T) (val vr b h e) : ℝ) : EReal) := by
  obtain ⟨m, hm⟩ := v43_row x2 x3 qr kr hq hk b 0 h T
  obtain ⟨m', hm'⟩ := v43_row x2 x3 qr kr hq hk b 1 h T
  have i52 : idx_main_v52 (ix4 b T h e) = ix4 b h e T := by funext a; fin_cases a <;> rfl
  have l51 : ∀ k : Fin 2048, lidx_main_v51 (ix4 b h e T) k = ix4 b k h e := fun k => by funext a; fin_cases a <;> rfl
  have r51 : ∀ k : Fin 2048, ridx_main_v51 (ix4 b h e T) k = ix4 b h T k := fun k => by funext a; fin_cases a <;> rfl
  have i44 : ∀ k : Fin 2048, idx_main_v44 (idx_main_v45 (ix4 b h T k)) = ix5 b 0 h T k := fun k => by
    funext a; apply Fin.ext
    have := b.isLt; have := h.isLt; have := T.isLt; have := k.isLt
    fin_cases a <;> first | rfl | (show ((((b.val * 4 + h.val) * 2048 + T.val) * 2048 + k.val)) / _ = _; simp <;> omega) | (show ((((b.val * 4 + h.val) * 2048 + T.val) * 2048 + k.val)) / _ % _ = _; simp <;> omega) | (show ((((b.val * 4 + h.val) * 2048 + T.val) * 2048 + k.val)) % _ = _; simp <;> omega)
  have i46 : ∀ k : Fin 2048, idx_main_v46 (idx_main_v47 (ix4 b h T k)) = ix5 b 1 h T k := fun k => by
    funext a; apply Fin.ext
    have := b.isLt; have := h.isLt; have := T.isLt; have := k.isLt
    fin_cases a <;> first | rfl | (show ((((b.val * 4 + h.val) * 2048 + T.val) * 2048 + k.val)) / _ = _; simp <;> omega) | (show ((((b.val * 4 + h.val) * 2048 + T.val) * 2048 + k.val)) / _ % _ = _; simp <;> omega) | (show ((((b.val * 4 + h.val) * 2048 + T.val) * 2048 + k.val)) % _ = _; simp <;> omega)
  rw [val_main_v52_apply, i52, val_main_v51_apply, ← Flash.plain_out (K := 2048) (score qr kr b 0 h T) (val vr b h e) (T.val + 1) (by omega) m,
    ← Flash.plain_out (K := 2048) (score qr kr b 1 h T) (val vr b h e) (T.val + 1) (by omega) m', Finset.mul_sum, ← Finset.sum_sub_distrib, Flash.coe_sum]
  refine Finset.sum_congr rfl fun k _ => ?_
  rw [l51, r51, val_main_v50_apply, val_main_v49_apply, val_main_v48_apply, hl, val_main_v45_apply, val_main_v44_apply, i44, hm k,
    val_main_v47_apply, val_main_v46_apply, i46, hm' k, hv]
  have hval : vr (ix4 b k h e) = val vr b h e k.val := by unfold val; rw [dif_pos k.isLt]
  rw [hval]
  generalize (if k.val < T.val + 1 then Real.exp (score qr kr b 0 h T k - m) else 0) / Flash.den (T.val + 1) (score qr kr b 0 h T) m = w
  generalize (if k.val < T.val + 1 then Real.exp (score qr kr b 1 h T k - m') else 0) / Flash.den (T.val + 1) (score qr kr b 1 h T) m' = w'
  show ((val vr b h e k.val : ℝ) : EReal) * ((w : EReal) - (lr : EReal) * (w' : EReal)) = _
  rw [← EReal.coe_mul, ← EReal.coe_sub, ← EReal.coe_mul]
  congr 1
  ring

end Cert.ReferenceIdeal.Diff

end
-- ==== Proof.DiffVal.lean ====
/- The differential attention kernel's value: every output row is the reference's. -/
module

public import proofs.«01_k».proof.Proof.DiffRow
public import proofs.«01_k».proof.Proof.DiffRef
public import Idealize.ShloMosaic.Lib.Pipeline.ValueKit
public import Idealize.ShloMosaic.Lib.Claim
public import Idealize.ShloMosaic.Lib.WordCmp

@[expose] public section

set_option maxRecDepth 16384

noncomputable section

namespace Cert.KernelIdeal.Diff

open Idealize.ShloMosaic Idealize.ShloMosaic.TcCoe Idealize.SL.Sem
open Cert.KernelIdeal Cert.KernelIdeal.Gen

/-- The eight streams' queries, from the block of queries. -/
def qryOf (x2 : Vec Ideal S1x256x512 .bf16) : Fin 8 → FVec Ideal S256x128 .bf16 :=
  ![k0_pay151 x2, k0_pay152 x2, k0_pay153 x2, k0_pay156 (k0_pay154 x2) k0_pay155 (constantI S256x128 1 1#1),
    k0_pay157 (k0_pay150 x2) (iota .tc S256x128 32 [1] iota_S256x128_d1_w32), k0_pay158 (k0_pay150 x2) (iota .tc S256x128 32 [1] iota_S256x128_d1_w32),
    k0_pay159 (k0_pay150 x2) (iota .tc S256x128 32 [1] iota_S256x128_d1_w32), k0_pay161 (k0_pay160 (k0_pay150 x2) (iota .tc S256x128 32 [1] iota_S256x128_d1_w32))]

/-- The queries a grid point forms are those of its block. -/
theorem qry_eq (c : Dev nD) (arg4 : Memref sig .tc .vmem S1x256x512 .bf16) (harg4 : arg4.IsWhole) (x2 : Vec Ideal S1x256x512 .bf16) :
    qry (F := Ideal) c arg4 harg4 x2 = qryOf x2 := by
  have e : View.readAt (Elt Ideal) arg4.view (Rect.unit ![0, 0, 0] S1x256x512.size inb_S1x256x512_S1x256x512_0_0_0).toLoadRect (harg4.unread x2) = x2 := by
    refine (View.readAt_eq_ld _ _ _).trans ?_
    rw [harg4.read_unread]
    exact View.ld_unit_zero (by decide) _ _
  have h : qry (F := Ideal) c arg4 harg4 x2 = qryOf (View.readAt (Elt Ideal) arg4.view
    (Rect.unit ![0, 0, 0] S1x256x512.size inb_S1x256x512_S1x256x512_0_0_0).toLoadRect (harg4.unread x2)) := rfl
  rw [h, e]

/-- Stream `s`'s query row: its half of the pair's 128 lanes, zero in the other half. -/
theorem qryOf_apply (x2 : Vec Ideal S1x256x512 .bf16) (s : Fin 8) (r : Fin 256) (l : Fin 128) :
    qryOf x2 s (ix2 r l) = if l.val / 64 = s.val % 2 then x2 (ix3 0 r ⟨128 * (s.val / 2) + l.val, by omega⟩) else 0 := by
  have e : qryOf x2 s (ix2 r l) = Scalar.select (IntOp.xori (IntOp.xori (IntOp.cmpi .sge (BitVec.ofNat 32 l.val) 64#32) (BitVec.ofNat 1 (s.val % 2))) 1#1)
      (x2 (ix3 0 r ⟨128 * (s.val / 2) + l.val, by omega⟩)) 0 := by
    fin_cases s
    · show k0_pay151 (F := Ideal) x2 (ix2 r l) = _
      pointwise [k0_pay150, k0_pay151]
    · show k0_pay152 (F := Ideal) x2 (ix2 r l) = _
      pointwise [k0_pay150, k0_pay152]
    · show k0_pay153 (F := Ideal) x2 (ix2 r l) = _
      pointwise [k0_pay150, k0_pay153]
    · show k0_pay156 (F := Ideal) (k0_pay154 x2) k0_pay155 (constantI S256x128 1 1#1) (ix2 r l) = _
      pointwise [k0_pay150, k0_pay154, k0_pay155, k0_pay156]
    · show k0_pay157 (F := Ideal) (k0_pay150 x2) (iota .tc S256x128 32 [1] iota_S256x128_d1_w32) (ix2 r l) = _
      pointwise [k0_pay150, k0_pay157]
    · show k0_pay158 (F := Ideal) (k0_pay150 x2) (iota .tc S256x128 32 [1] iota_S256x128_d1_w32) (ix2 r l) = _
      pointwise [k0_pay150, k0_pay158]
    · show k0_pay159 (F := Ideal) (k0_pay150 x2) (iota .tc S256x128 32 [1] iota_S256x128_d1_w32) (ix2 r l) = _
      pointwise [k0_pay150, k0_pay159]
    · show k0_pay161 (F := Ideal) (k0_pay160 (k0_pay150 x2) (iota .tc S256x128 32 [1] iota_S256x128_d1_w32)) (ix2 r l) = _
      pointwise [k0_pay150, k0_pay160, k0_pay161]
  rw [e, WordCmp.cmpi_sge_ofNat (by omega) (by omega)]
  have hs : s.val % 2 = 0 ∨ s.val % 2 = 1 := by omega
  by_cases hl : 64 ≤ l.val <;> rcases hs with hs | hs
  · rw [decide_eq_true hl, hs, if_neg (by omega)]; exact if_neg (by decide)
  · rw [decide_eq_true hl, hs, if_pos (by omega)]; exact if_pos (by decide)
  · rw [decide_eq_false hl, hs, if_pos (by omega)]; exact if_pos (by decide)
  · rw [decide_eq_false hl, hs, if_neg (by omega)]; exact if_neg (by decide)

variable (m : (ℓ : Loc nD τ sig) → Buf (Elt Ideal) ℓ)

/-- The argument arrays. -/
abbrev lamA (c : Dev nD) : FVec Ideal S4x64 .f32 := m ((c : Thread nD τ).loc main_arg0)
abbrev sublnA (c : Dev nD) : FVec Ideal S128 .f32 := m ((c : Thread nD τ).loc main_arg1)
abbrev qA (c : Dev nD) : FVec Ideal S8x2048x2x4x64 .f32 := m ((c : Thread nD τ).loc main_arg2)
abbrev kA (c : Dev nD) : FVec Ideal S8x2048x2x4x64 .f32 := m ((c : Thread nD τ).loc main_arg3)
abbrev vA (c : Dev nD) : FVec Ideal S8x2048x4x128 .f32 := m ((c : Thread nD τ).loc main_arg4)

/-- A grid point's batch, and the sequence row of a row of its query block. -/
def bat (t : Fin cfg0.N) : Fin 8 := ⟨(grid0.coords t 0).val, (grid0.coords t 0).isLt⟩
def row (t : Fin cfg0.N) (r : Fin 256) : Fin 2048 :=
  ⟨256 * (grid0.coords t 1).val + r.val, by have := row_lt (grid0.coords t); omega⟩

/-- The block index of every window at every grid point. -/
theorem idx : ∀ t : Fin cfg0.N, win0_0.index t = ![0, 0] ∧ win0_1.index t = ![0, 0] ∧ win0_2.index t = ![(grid0.coords t 0).val, (grid0.coords t 1).val, 0] ∧
    win0_3.index t = ![(grid0.coords t 0).val, 0, 0] ∧ win0_4.index t = ![(grid0.coords t 0).val, 0, 0] ∧
    win0_5.index t = ![(grid0.coords t 0).val, (grid0.coords t 1).val, 0] :=
  (by decide +kernel : ∀ t : Fin grid0.N, _)

/-- The blocks read off the arrays: lane `L` of the queries and keys is softmax `L / 256`, head `L / 64 % 4`, coordinate `L % 64`;
lane `L` of the values is head `L / 128`, coordinate `L % 128`. -/
theorem blk_q0 (c : Dev nD) (b : Fin 8) (T : Fin 2048) (L : Fin 512) :
    (V m c main_v3 : FVec Ideal S8x2048x512 .bf16) (ix3 b T L) = qA m c
      (ix5 b T ⟨L.val / 256, by omega⟩ ⟨L.val / 64 % 4, by omega⟩ ⟨L.val % 64, by omega⟩) * Ideal.ofBits .f32 0x3E000000#32 := by
  unfold V
  after_results
  pointwise
/-- The query block read off the scaled query array. -/
theorem blk_q1 (c : Dev nD) (t : Fin cfg0.N) (r : Fin 256) (L : Fin 512) :
    (iblk m c 2 t : Vec Ideal S1x256x512 .bf16) (ix3 0 r L) = (V m c main_v3 : FVec Ideal S8x2048x512 .bf16) (ix3 (bat t) (row t r) L) := by
  blk_point [iblk, idx t, bat, row]
theorem blk_q (c : Dev nD) (t : Fin cfg0.N) (r : Fin 256) (L : Fin 512) :
    (iblk m c 2 t : Vec Ideal S1x256x512 .bf16) (ix3 0 r L) = qA m c
      (ix5 (bat t) (row t r) ⟨L.val / 256, by omega⟩ ⟨L.val / 64 % 4, by omega⟩ ⟨L.val % 64, by omega⟩) * Ideal.ofBits .f32 0x3E000000#32 :=
  (blk_q1 m c t r L).trans (blk_q0 m c _ _ L)
theorem blk_k (c : Dev nD) (t : Fin cfg0.N) (J : Fin 2048) (L : Fin 512) :
    (iblk m c 3 t : Vec Ideal S1x512x2048 .bf16) (ix3 0 L J) = kA m c
      (ix5 (bat t) J ⟨L.val / 256, by omega⟩ ⟨L.val / 64 % 4, by omega⟩ ⟨L.val % 64, by omega⟩) := by
  blk_point [iblk, V, idx t, bat, row]
theorem blk_v (c : Dev nD) (t : Fin cfg0.N) (J : Fin 2048) (L : Fin 512) :
    (iblk m c 4 t : Vec Ideal S1x2048x512 .bf16) (ix3 0 J L) = vA m c
      (ix4 (bat t) J ⟨L.val / 128, by omega⟩ ⟨L.val % 128, by omega⟩) := by
  blk_point [iblk, V, idx t, bat, row]
theorem blk_lam (c : Dev nD) (t : Fin cfg0.N) (i : S4x64.Idx) : (iblk m c 0 t : Vec Ideal S4x64 .f32) i = lamA m c i := by
  blk_point [iblk, V, idx t, bat, row]
theorem blk_subln (c : Dev nD) (t : Fin cfg0.N) (e : Fin 128) : (iblk m c 1 t : Vec Ideal S1x128 .f32) (ix2 0 e) = sublnA m c (ix1 e) := by
  blk_point [iblk, V, idx t, bat, row]

/-- A sum over the 128 lanes of a pair of streams that keeps one half is the sum over its 64 coordinates. -/
theorem half_sum (g : Fin 64 → ℝ) (p : ℕ) (hp : p < 2) :
    ∑ l : Fin 128, (if l.val / 64 = p then g ⟨l.val % 64, by omega⟩ else 0) = ∑ d : Fin 64, g d := by
  refine (Fin.sum_univ_add (a := 64) (b := 64) _).trans ?_
  have h0 : ∀ d : Fin 64, (if (Fin.castAdd 64 d).val / 64 = p then g ⟨(Fin.castAdd 64 d).val % 64, by omega⟩ else 0) = if 0 = p then g d else 0 := fun d => by
    have e : (Fin.castAdd 64 d).val / 64 = 0 := by simp
    have e' : (⟨(Fin.castAdd 64 d).val % 64, by omega⟩ : Fin 64) = d := Fin.ext (by simp)
    rw [e, e']
  have h1 : ∀ d : Fin 64, (if (Fin.natAdd 64 d).val / 64 = p then g ⟨(Fin.natAdd 64 d).val % 64, by omega⟩ else 0) = if 1 = p then g d else 0 := fun d => by
    have e : (Fin.natAdd 64 d).val / 64 = 1 := by simp
    have e' : (⟨(Fin.natAdd 64 d).val % 64, by omega⟩ : Fin 64) = d := Fin.ext (by simp)
    rw [e, e']
  rw [Finset.sum_congr rfl fun d _ => h0 d, Finset.sum_congr rfl fun d _ => h1 d]
  have hp' : p = 0 ∨ p = 1 := by omega
  rcases hp' with rfl | rfl <;> simp

variable (qr kr : S8x2048x2x4x64.Idx → ℝ) (vr : S8x2048x4x128.Idx → ℝ)

/-- The score of stream `s`, query row `r` of a grid point, against a key; the values of stream `s`. -/
def xOf (t : Fin cfg0.N) (s : Fin 8) (r : Fin 256) : ℕ → ℝ :=
  Cert.ReferenceIdeal.Diff.score qr kr (bat t) ⟨s.val / 4, by omega⟩ ⟨s.val % 4, by omega⟩ (row t r)
def vOf (t : Fin cfg0.N) (s : Fin 8) (e : Fin 128) : ℕ → ℝ :=
  Cert.ReferenceIdeal.Diff.val vr (bat t) ⟨s.val % 4, by omega⟩ e

/-- The 128-lane product of a stream's masked queries with its pair's keys is the reference's score. -/
theorem hx (c : Dev nD) (t : Fin cfg0.N) (hq : ∀ i, qA m c i = ((qr i : ℝ) : EReal)) (hk : ∀ i, kA m c i = ((kr i : ℝ) : EReal))
    (s : Fin 8) (r : Fin 256) (J : Fin 2048) :
    ∑ l : Fin 128, qryOf (iblk m c 2 t) s (ix2 r l) * (iblk m c 3 t : Vec Ideal S1x512x2048 .bf16) (ix3 0 ⟨128 * (s.val / 2) + l.val, by omega⟩ J)
      = ((xOf qr kr t s r J : ℝ) : EReal) := by
  have e : xOf qr kr t s r J = ∑ l : Fin 128, (if l.val / 64 = s.val % 2 then
      (fun d : Fin 64 => qr (ix5 (bat t) (row t r) (⟨s.val / 4, by omega⟩ : Fin 2) (⟨s.val % 4, by omega⟩ : Fin 4) d) * (1 / 8)
        * kr (ix5 (bat t) J (⟨s.val / 4, by omega⟩ : Fin 2) (⟨s.val % 4, by omega⟩ : Fin 4) d)) ⟨l.val % 64, by omega⟩ else 0) := by
    refine Eq.trans ?_ (half_sum (fun d : Fin 64 => qr (ix5 (bat t) (row t r) (⟨s.val / 4, by omega⟩ : Fin 2) (⟨s.val % 4, by omega⟩ : Fin 4) d) * (1 / 8)
        * kr (ix5 (bat t) J (⟨s.val / 4, by omega⟩ : Fin 2) (⟨s.val % 4, by omega⟩ : Fin 4) d)) (s.val % 2) (by omega)).symm
    unfold xOf Cert.ReferenceIdeal.Diff.score
    rw [dif_pos J.isLt]
  rw [e, Flash.coe_sum]
  refine Finset.sum_congr rfl fun l _ => ?_
  rw [qryOf_apply, blk_q, blk_k, hq, hk, Cert.ReferenceIdeal.Diff.ofBits_eighth]
  by_cases hl : l.val / 64 = s.val % 2
  · rw [if_pos hl, if_pos hl]
    have a1 : (⟨(128 * (s.val / 2) + l.val) / 256, by omega⟩ : Fin 2) = ⟨s.val / 4, by omega⟩ := Fin.mk_eq_mk.mpr (by omega)
    have a2 : (⟨(128 * (s.val / 2) + l.val) / 64 % 4, by omega⟩ : Fin 4) = ⟨s.val % 4, by omega⟩ := Fin.mk_eq_mk.mpr (by omega)
    have a3 : (⟨(128 * (s.val / 2) + l.val) % 64, by omega⟩ : Fin 64) = ⟨l.val % 64, by omega⟩ := Fin.mk_eq_mk.mpr (by omega)
    simp only [a1, a2, a3]
    rw [EReal.coe_mul, EReal.coe_mul]
  · rw [if_neg hl, if_neg hl, zero_mul]; rfl

/-- The values of a stream are the reference's. -/
theorem hv (c : Dev nD) (t : Fin cfg0.N) (hv : ∀ i, vA m c i = ((vr i : ℝ) : EReal)) (s : Fin 8) (e : Fin 128) (J : Fin 2048) :
    (iblk m c 4 t : Vec Ideal S1x2048x512 .bf16) (ix3 0 J ⟨128 * (s.val % 4) + e.val, by omega⟩) = ((vOf vr t s e J : ℝ) : EReal) := by
  rw [blk_v, hv]
  have a1 : (⟨(128 * (s.val % 4) + e.val) / 128, by omega⟩ : Fin 4) = ⟨s.val % 4, by omega⟩ := Fin.mk_eq_mk.mpr (by omega)
  have a2 : (⟨(128 * (s.val % 4) + e.val) % 128, by omega⟩ : Fin 128) = e := Fin.ext ((Nat.mul_add_mod _ _ _).trans (Nat.mod_eq_of_lt e.isLt))
  simp only [a1, a2]
  unfold vOf Cert.ReferenceIdeal.Diff.val
  rw [dif_pos J.isLt]

end Cert.KernelIdeal.Diff

end
-- ==== Proof.DiffHead.lean ====
/- The differential attention kernel's head outputs are the reference's rows. -/
module

public import proofs.«01_k».proof.Proof.DiffVal

@[expose] public section

set_option maxRecDepth 16384

noncomputable section

namespace Cert.KernelIdeal.Diff

open Idealize.ShloMosaic Idealize.ShloMosaic.TcCoe Idealize.SL.Sem
open Cert.KernelIdeal Cert.KernelIdeal.Gen Cert.ReferenceIdeal.Read

/-- λ of the kernel is λ of the reference. -/
theorem lambda_eq (x0 : FVec Ideal S4x64 .f32) (i : Cert.ReferenceIdeal.S_.Idx) : lambda (F := Ideal) x0 (ix2 0 0) = val_main_v16 (F := Ideal) x0 i := by
  pointwise [lambda, k0_pay253, k0_pay252, k0_pay251, val_main_v16, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1]

/-- A head's output at an index: the difference of its two softmaxes, normalised over its 128 lanes and scaled. -/
theorem headOut_apply (lam : FVec Ideal S1x1 .f32) (g : Vec Ideal S1x128 .f32) (a0 l0 a1 l1 : Vec Ideal S1x256x128 .f32) (r : Fin 256)
    (d : Fin 128 → EReal) (hd : ∀ e, a0 (ix3 0 r e) * Ideal.div 1 (l0 (ix3 0 r e)) - lam (ix2 0 0) * (a1 (ix3 0 r e) * Ideal.div 1 (l1 (ix3 0 r e))) = d e) (e : Fin 128) :
    headOut (F := Ideal) lam g a0 l0 a1 l1 (ix3 0 r e) = d e * Ideal.rsqrt (Ideal.div (∑ x : Fin 128, d x * d x) (Ideal.ofBits .f32 0x43000000#32) + Ideal.ofBits .f32 0x358637BD#32)
      * g (ix2 0 e) * Ideal.ofBits .f32 0x3F4CCCCD#32 := by
  simp only [← hd]
  pointwise [headOut, k0_pay255, k0_pay256]

/-- The reference at an index, from its attention rows. -/
theorem ref_apply (x0 : FVec Ideal S4x64 .f32) (x1 : FVec Ideal S128 .f32) (x2 x3 : FVec Ideal S8x2048x2x4x64 .f32) (x4 : FVec Ideal S8x2048x4x128 .f32)
    (b : Fin 8) (T : Fin 2048) (h : Fin 4) (d : Fin 128 → EReal) (hd : ∀ e, val_main_v52 (F := Ideal) x0 x2 x3 x4 (ix4 b T h e) = d e) (e : Fin 128) :
    val_main_v69 (F := Ideal) x0 x1 x2 x3 x4 (ix3 b T ⟨128 * h.val + e.val, by omega⟩) =
      d e * Ideal.rsqrt (Ideal.div (∑ x : Fin 128, d x * d x) (Ideal.ofBits .f32 0x43000000#32) + Ideal.ofBits .f32 0x358637BD#32)
      * x1 (ix1 e) * Ideal.ofBits .f32 0x3F4CCCCD#32 := by
  simp only [← hd]
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_cst_10, val_main_cst_11, val_main_cst_12, val_main_cst_13, val_main_cst_14]

end Cert.KernelIdeal.Diff

end
-- ==== Proof.Finite.lean ====
/- What a precondition "every element's magnitude is below infinity" says of an element. -/
module

public import Idealize.ShloMosaic.Lib.ReduceAll
public import Idealize.ShloMosaic.Lib.Pipeline.ValueKit

@[expose] public section

noncomputable section

namespace Finite

open Idealize.ShloMosaic

/-- A finite extended real is real. -/
theorem real_of_lt (a : EReal) (h : FloatOps.cmpf (F := Ideal) (φ := .f32) .olt (FloatOps.hostAbsf (F := Ideal) (φ := .f32) a) (FloatOps.ofBits .f32 0x7F800000#32) = 1#1) :
    ((a.toReal : ℝ) : EReal) = a := by
  have h' : max a (-a) < Ideal.ofBits .f32 0x7F800000#32 := by
    by_contra hn
    have e : FloatOps.cmpf (F := Ideal) (φ := .f32) .olt (FloatOps.hostAbsf (F := Ideal) (φ := .f32) a) (FloatOps.ofBits .f32 0x7F800000#32) = 0#1 := by
      show BitVec.ofBool (decide (max a (-a) < Ideal.ofBits .f32 0x7F800000#32)) = 0#1
      rw [decide_eq_false hn]; rfl
    rw [e] at h
    exact absurd h (by decide)
  have hi : Ideal.ofBits .f32 0x7F800000#32 = ⊤ := by simp [Ideal.ofBits, Ideal.ieee]
  rw [hi] at h'
  refine EReal.coe_toReal (fun ht => ?_) (fun hb => ?_)
  · rw [ht] at h'; exact absurd (lt_of_le_of_lt (le_max_left _ _) h') (lt_irrefl _)
  · rw [hb] at h'; exact absurd (lt_of_le_of_lt (le_max_right _ _) h') (lt_irrefl _)

/-- Both words of a conjunction that is true are true. -/
theorem andi_one (x y : BitVec 1) (h : IntOp.andi x y = 1#1) : x = 1#1 ∧ y = 1#1 := by
  revert h; revert x y; decide

end Finite

end
-- ==== Proof.Diff.lean ====
/- Differential attention: the array the kernel leaves is the reference's, and the claim about it. -/
module

public import proofs.«01_k».proof.Defs
public import proofs.«01_k».proof.Proof.Gen.ReferenceIdeal.Run
public import proofs.«01_k».proof.Proof.Gen.Pre_finite_args
public import proofs.«01_k».proof.Proof.DiffHead
public import proofs.«01_k».proof.Proof.Finite

@[expose] public section

set_option maxRecDepth 16384

noncomputable section

namespace Cert.KernelIdeal.Final

open Idealize.ShloMosaic Idealize.ShloMosaic.TcCoe Idealize.SL.Sem
open Idealize.ShloMosaic.Pipeline (Dat)
open Cert.KernelIdeal Cert.KernelIdeal.Gen Cert.KernelIdeal.Diff Cert.ReferenceIdeal.Read

variable (m : (ℓ : Loc nD τ sig) → Buf (Elt Ideal) ℓ)

/-- The reference's result as a function of the kernel's argument arrays. -/
abbrev REF (c : Dev nD) : FVec Ideal S8x2048x512 .bf16 :=
  val_main_v69 (F := Ideal) (lamA m c) (sublnA m c) (qA m c) (kA m c) (vA m c)

/-- The state of a grid point after all its chunks. -/
abbrev endState (c : Dev nD) (t : Fin cfg0.N) : State Ideal :=
  fullState (qryOf (iblk m c 2 t)) (iblk m c 3 t) (iblk m c 4 t) (grid0.coords t)

/-- λ is real where its four vectors are. -/
theorem lam_real (x0 : FVec Ideal S4x64 .f32) (lr : S4x64.Idx → ℝ) (h : ∀ i, x0 i = ((lr i : ℝ) : EReal)) :
    ∃ l : ℝ, ∀ i, val_main_v16 (F := Ideal) x0 i = ((l : ℝ) : EReal) := by
  have e : ∀ i, val_main_v16 (F := Ideal) x0 i = Ideal.exp (∑ x : Fin 64, x0 (ix2 0 x) * x0 (ix2 1 x)) - Ideal.exp (∑ x : Fin 64, x0 (ix2 2 x) * x0 (ix2 3 x))
      + Ideal.ofBits .f32 0x3E4CCCCD#32 := fun i => by
    pointwise [val_main_v16, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1]
  have h02 : ∃ z : ℝ, Ideal.ofBits .f32 0x3E4CCCCD#32 = ((z : ℝ) : EReal) := by
    refine ⟨13421773 / 67108864, ?_⟩
    simp [Ideal.ofBits, Ideal.ieee, -EReal.coe_mul]; norm_num
  obtain ⟨z, hz⟩ := h02
  refine ⟨Real.exp (∑ x : Fin 64, lr (ix2 0 x) * lr (ix2 1 x)) - Real.exp (∑ x : Fin 64, lr (ix2 2 x) * lr (ix2 3 x)) + z, fun i => ?_⟩
  rw [e i, hz]
  simp only [h, ← EReal.coe_mul, ← Flash.coe_sum, Ideal.exp_coe]
  rw [← EReal.coe_sub, ← EReal.coe_add]

/-- The four argument arrays of the attention are real. -/
def Fin4 (c : Dev nD) : Prop :=
  (∃ lr : S4x64.Idx → ℝ, ∀ i, lamA m c i = ((lr i : ℝ) : EReal)) ∧ (∃ qr : S8x2048x2x4x64.Idx → ℝ, ∀ i, qA m c i = ((qr i : ℝ) : EReal))
  ∧ (∃ kr : S8x2048x2x4x64.Idx → ℝ, ∀ i, kA m c i = ((kr i : ℝ) : EReal)) ∧ (∃ vr : S8x2048x4x128.Idx → ℝ, ∀ i, vA m c i = ((vr i : ℝ) : EReal))

/-- What a grid point writes for head `h` is the reference's result there. -/
theorem point (c : Dev nD) (hf : Fin4 m c) (t : Fin cfg0.N) (h : Fin 4) (r : Fin 256) (e : Fin 128) :
    headOf (F := Ideal) (iblk m c 0 t) (iblk m c 1 t) (endState m c t) h (ix3 0 r e)
      = REF m c (ix3 (bat t) (row t r) ⟨128 * h.val + e.val, by omega⟩) := by
  obtain ⟨⟨lr, hl⟩, ⟨qr, hq⟩, ⟨kr, hk⟩, ⟨vr, hvr⟩⟩ := hf
  obtain ⟨l, hlam⟩ := lam_real (lamA m c) lr hl
  have run : ∀ (s : Fin 8) (e : Fin 128), (endState m c t).2.2 s (ix3 0 r e) * Ideal.div 1 ((endState m c t).2.1 s (ix3 0 r e))
      = ((Flash.att ((row t r).val + 1) (xOf qr kr t s r) (vOf vr t s e) : ℝ) : EReal) := fun s e => by
    obtain ⟨M, L, hML⟩ := fullState_row (qryOf (iblk m c 2 t)) (iblk m c 3 t) (iblk m c 4 t) t (fun s r => xOf qr kr t s r) (fun s e => vOf vr t s e)
      (hx m qr kr c t hq hk) (hv m vr c t hvr) s r
    obtain ⟨_, hL, hR⟩ := hML e
    rw [hL]
    exact hR.out (by omega)
  have hA : (fun i => (iblk m c 0 t : Vec Ideal S4x64 .f32) i) = lamA m c := funext fun i => blk_lam m c t i
  rw [show headOf (F := Ideal) (iblk m c 0 t) (iblk m c 1 t) (endState m c t) h = headOut (lambda (iblk m c 0 t)) (iblk m c 1 t)
      ((endState m c t).2.2 ⟨h, by omega⟩) ((endState m c t).2.1 ⟨h, by omega⟩) ((endState m c t).2.2 ⟨4 + h, by omega⟩) ((endState m c t).2.1 ⟨4 + h, by omega⟩) from rfl]
  set d : Fin 128 → EReal := fun e => ((Flash.att ((row t r).val + 1) (xOf qr kr t ⟨h, by omega⟩ r) (vOf vr t ⟨h, by omega⟩ e)
      - l * Flash.att ((row t r).val + 1) (xOf qr kr t ⟨4 + h, by omega⟩ r) (vOf vr t ⟨4 + h, by omega⟩ e) : ℝ) : EReal) with hd
  rw [headOut_apply (lambda (iblk m c 0 t)) (iblk m c 1 t) _ _ _ _ r d (fun e => ?_) e]
  · rw [blk_subln]
    refine (ref_apply (lamA m c) (sublnA m c) (qA m c) (kA m c) (vA m c) (bat t) (row t r) h d (fun e => ?_) e).symm
    rw [Cert.ReferenceIdeal.Diff.v52_row (lamA m c) (qA m c) (kA m c) (vA m c) qr kr vr l hlam hq hk hvr]
    have a1 : (⟨h.val / 4, by omega⟩ : Fin 2) = 0 := Fin.ext (Nat.div_eq_of_lt h.isLt)
    have a2 : (⟨h.val % 4, by omega⟩ : Fin 4) = h := Fin.ext (Nat.mod_eq_of_lt h.isLt)
    have a3 : (⟨(4 + h.val) / 4, by omega⟩ : Fin 2) = 1 := Fin.ext (by show (4 + h.val) / 4 = 1; omega)
    have a4 : (⟨(4 + h.val) % 4, by omega⟩ : Fin 4) = h := Fin.ext (by show (4 + h.val) % 4 = h.val; omega)
    simp only [hd, xOf, vOf, a1, a2, a3, a4]
  · rw [run, run]
    have hl' : lambda (F := Ideal) (iblk m c 0 t) (ix2 0 0) = (l : EReal) := by
      rw [show (iblk m c 0 t : Vec Ideal S4x64 .f32) = lamA m c from hA, lambda_eq _ (fun a => a.elim0)]
      exact hlam _
    rw [hl', ← EReal.coe_mul, ← EReal.coe_sub]

/-- What a grid point leaves in the output block: its four heads' columns. -/
theorem outs (c : Dev nD) (t : Fin cfg0.N) : outsAt0 m c t = View.canon
    [⟨Rect.unit (s := S1x256x512) ![0, 0, 384] S1x256x128.size inb_S1x256x512_S1x256x128_0_0_384, headOf (iblk m c 0 t) (iblk m c 1 t) (endState m c t) 3⟩,
     ⟨Rect.unit (s := S1x256x512) ![0, 0, 256] S1x256x128.size inb_S1x256x512_S1x256x128_0_0_256, headOf (iblk m c 0 t) (iblk m c 1 t) (endState m c t) 2⟩,
     ⟨Rect.unit (s := S1x256x512) ![0, 0, 128] S1x256x128.size inb_S1x256x512_S1x256x128_0_0_128, headOf (iblk m c 0 t) (iblk m c 1 t) (endState m c t) 1⟩,
     ⟨Rect.unit (s := S1x256x512) ![0, 0, 0] S1x256x128.size inb_S1x256x512_S1x256x128_0_0_0, headOf (iblk m c 0 t) (iblk m c 1 t) (endState m c t) 0⟩] := by
  unfold outsAt0 out0_A_5
  rw [run_pieces _ _ _ _ _ _ _ _ _ _ _ _ _ _ _ _ _ _ _ _ _ _ _ (trips t).2, qry_eq]
  exact View.read_writes_eq_canon VO0_5 _ _ (View.cover_of_tiled _ S1x256x128.size (by rfl))

/-- `point` at an index of the output block. -/
theorem core (c : Dev nD) (hf : Fin4 m c) (t : Fin cfg0.N) (h : Fin 4) (y : S1x256x512.Idx) (x : S1x256x128.Idx) (h1 : (y 1).val = (x 1).val)
    (h2 : (y 2).val = 128 * h.val + (x 2).val) :
    headOf (F := Ideal) (iblk m c 0 t) (iblk m c 1 t) (endState m c t) h x = REF m c (((cfg0.win 5).blk t).view.emb y) := by
  have hx : x = ix3 0 (x 1) (x 2) := by
    funext a; fin_cases a
    · exact Fin.ext (Nat.lt_one_iff.mp (x 0).isLt)
    · rfl
    · rfl
  have hx2 : (x 2).val < 128 := (x 2).isLt
  refine (congrArg (headOf (F := Ideal) (iblk m c 0 t) (iblk m c 1 t) (endState m c t) h) hx).trans ((point m c hf t h (x 1) (x 2)).trans ?_)
  have hx1 : ((cfg0.win 5).blk t).view.emb y = ix3 (bat t) (row t (x 1)) ⟨128 * h.val + (x 2).val, by omega⟩ := by
    blk_ext [idx t, bat, row]
  exact congrArg (REF m c) hx1.symm

/-- The result array after the run is the reference's. -/
theorem final (c : Dev nD) (hf : Fin4 m c) : (dats m 0 c).arrAt 5 (cfgs 0).N = REF m c := by
  refine (dats m 0 c).arrAt_eq_of_covers 5 _ (by decide +kernel) fun t _ y => ?_
  blk_simp
  rw [after0_5, outs]
  canon_tiles x h
  · exact core m c hf t 3 y x h1 h2
  · exact core m c hf t 2 y x h1 h2
  · exact core m c hf t 1 y x h1 h2
  · exact core m c hf t 0 y x h1 (by omega)

/-- Under the precondition the arrays are real. -/
theorem real_of_pre (h : Cert.Pre_KernelIdeal_finite_args (hPre_finite_args := Cert.Pre_finite_args.Gen.facts) m) (c : Dev nD) : Fin4 m c := by
  have h := congrFun (h c) (fun a => a.elim0)
  obtain ⟨h, hv⟩ := Finite.andi_one _ _ h
  obtain ⟨h, hk⟩ := Finite.andi_one _ _ h
  obtain ⟨hl, hq⟩ := Finite.andi_one _ _ h
  haveI : Subsingleton Cert.Pre_finite_args.S_.Idx := ⟨fun a b => funext fun i => i.elim0⟩
  exact ⟨⟨_, fun i => (Finite.real_of_lt _ (Host.reduce_andi_all _ _ _ _ _ hl i)).symm⟩, ⟨_, fun i => (Finite.real_of_lt _ (Host.reduce_andi_all _ _ _ _ _ hq i)).symm⟩,
    ⟨_, fun i => (Finite.real_of_lt _ (Host.reduce_andi_all _ _ _ _ _ hk i)).symm⟩, ⟨_, fun i => (Finite.real_of_lt _ (Host.reduce_andi_all _ _ _ _ _ hv i)).symm⟩⟩

end Cert.KernelIdeal.Final

/-- The kernel's result equals the reference's over the extended reals, where λ's vectors, the queries, the keys and the values are real. -/
theorem Cert.Proof.diff : Cert.algebraic_KernelIdeal_ReferenceIdeal_pre_finite_args
    (hKernelIdeal := Cert.KernelIdeal.Gen.facts) (hReferenceIdeal := Cert.ReferenceIdeal.Gen.facts) (hPre_finite_args := Cert.Pre_finite_args.Gen.facts) := by
  pair_intro
  · run_from Cert.KernelIdeal.Gen.run_main m g
  · run_from Cert.ReferenceIdeal.Value.run m' g'
    refine (Cert.ReferenceIdeal.Read.val_main_v69_eq m' c).trans (Eq.trans ?_ (Cert.KernelIdeal.Final.final m c (Cert.KernelIdeal.Final.real_of_pre m hpre c)).symm)
    obtain ⟨e0, e1, e2, e3, e4⟩ := hagree c
    rw [e0, e1, e2, e3, e4]

end
-- ==== Proof.Up.lean ====
/- The up half of the MLP: the array the kernel leaves is `relu (rmsnorm x g · w_up)²`, and the claim about it. -/
module

public import proofs.«01_k».proof.Defs
public import proofs.«01_k».proof.Proof.Gen.KernelUpIdeal.Value
public import proofs.«01_k».proof.Proof.Gen.ReferenceUpIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.KernelUpIdeal.Final

open Idealize.ShloMosaic Idealize.ShloMosaic.TcCoe Idealize.SL.Sem
open Idealize.ShloMosaic.Pipeline (Dat)
open Cert.KernelUpIdeal Cert.KernelUpIdeal.Gen Cert.ReferenceUpIdeal.Read

variable (m : (ℓ : Loc nD τ sig) → Buf (Elt Ideal) ℓ)

/-- The reference's result as a function of the kernel's argument arrays. -/
abbrev REF (c : Dev nD) : FVec Ideal S16384x4096 .bf16 :=
  val_main_v16 (m ((c : Thread nD τ).loc main_arg0)) (m ((c : Thread nD τ).loc main_arg1)) (m ((c : Thread nD τ).loc main_arg2))

/-- The block index of every window at every grid point. -/
theorem idx : ∀ t : Fin cfg0.N, win0_0.index t = ![t.val / 4, 0] ∧ win0_1.index t = ![0, 0] ∧ win0_2.index t = ![0, t.val % 4] ∧ win0_3.index t = ![t.val / 4, t.val % 4] :=
  (by decide +kernel : ∀ t : Fin grid0.N, _)

/-- Two grid points of one row tile read the same block of rows and the same weights. -/
theorem same (c : Dev nD) (n : ℕ) (hn : n < cfg0.N) (h : ¬n % 4 = 0) :
    k0_pay1 (F := Ideal) (iblk m c 0 ⟨n - 1, lt_of_le_of_lt (Nat.sub_le _ _) hn⟩) (iblk m c 1 ⟨n - 1, lt_of_le_of_lt (Nat.sub_le _ _) hn⟩)
      = k0_pay1 (F := Ideal) (iblk m c 0 ⟨n, hn⟩) (iblk m c 1 ⟨n, hn⟩) := by
  have e : (n - 1) / 4 = n / 4 := by omega
  have h0 := idx ⟨n - 1, lt_of_le_of_lt (Nat.sub_le _ _) hn⟩
  have h1 := idx ⟨n, hn⟩
  simp only [e] at h0
  refine congrArg₂ k0_pay1 (funext fun y => ?_) (funext fun y => ?_)
  · blk_point [iblk, V, h0, h1]
  · blk_point [iblk, V, h0, h1]

/-- After every grid point the scratch holds the normalised rows of the point's row tile. -/
theorem scratch (c : Dev nD) (n : ℕ) (hn : n < cfg0.N) :
    (outsAt0 m c n hn).2 = k0_pay1 (F := Ideal) (iblk m c 0 ⟨n, hn⟩) (iblk m c 1 ⟨n, hn⟩) := by
  induction n with
  | zero => rw [outsAt0_A m c ⟨0, hn⟩ rfl]; frame_out
  | succ n ih =>
    by_cases h : (n + 1) % 4 = 0
    · rw [outsAt0_A m c ⟨n + 1, hn⟩ h]; frame_out
    · rw [outsAt0_B m c ⟨n + 1, hn⟩ h]
      exact (ih (Nat.lt_of_succ_lt hn)).trans (same m c (n + 1) hn h)

/-- Every grid point's output block is the product with the normalised rows of its row tile. -/
theorem block (c : Dev nD) (t : Fin cfg0.N) : (outsAt0 m c t.val t.isLt).1
    = k0_pay2 (F := Ideal) (k0_pay1 (iblk m c 0 t) (iblk m c 1 t)) (iblk m c 2 t) := by
  by_cases h : t.val % 4 = 0
  · rw [outsAt0_A m c t h]; frame_out
  · rw [outsAt0_B m c t h, scratch m c (t.val - 1) (Nat.lt_of_le_of_lt (Nat.sub_le _ _) t.isLt), same m c t.val t.isLt h]
    frame_out
    rw [read_unread_whole]

/-- What the body stores at a block index of a grid point is the reference's result at the array index it sits at. -/
theorem point (c : Dev nD) (t : Fin cfg0.N) (y : S512x1024.Idx) :
    k0_pay2 (F := Ideal) (k0_pay1 (iblk m c 0 t) (iblk m c 1 t)) (iblk m c 2 t) y
      = REF m c (((cfg0.win 3).blk t).view.emb y) := by
  pointwise [k0_pay1, k0_pay2, REF, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v0, val_main_call0_cst, val_main_cst, val_main_cst_0, val_main_cst_1]
  blk_point [iblk, V, idx t]

/-- The result array after the run is the reference's. -/
theorem final (c : Dev nD) : (dats m 0 c).arrAt 3 (cfgs 0).N = REF m c := by
  refine (dats m 0 c).arrAt_eq_of_covers 3 _ (by decide +kernel) fun t _ y => ?_
  blk_simp
  rw [after0_3, block]
  exact point m c t y

end Cert.KernelUpIdeal.Final

/-- The kernel's result equals the reference's over the extended reals, for all arguments. -/
theorem Cert.Proof.up : Cert.algebraic_KernelUpIdeal_ReferenceUpIdeal
    (hKernelUpIdeal := Cert.KernelUpIdeal.Gen.facts) (hReferenceUpIdeal := Cert.ReferenceUpIdeal.Gen.facts) := by
  pair_intro
  · run_from Cert.KernelUpIdeal.Gen.run_main m g
  · run_from Cert.ReferenceUpIdeal.Value.run m' g'
    exact (Cert.KernelUpIdeal.Final.final m c).symm

end
-- ==== Proof.Down.lean ====
/- The down half of the MLP: the array the kernel leaves is `x + rmsnorm (u · w_down) g`, and the claim about it. -/
module

public import proofs.«01_k».proof.Defs
public import proofs.«01_k».proof.Proof.Gen.KernelDownIdeal.Value
public import proofs.«01_k».proof.Proof.Gen.ReferenceDownIdeal.Read
public import Idealize.ShloMosaic.Lib.Pipeline.ValueKit
public import Idealize.ShloMosaic.Lib.Claim

@[expose] public section

set_option maxRecDepth 16384

noncomputable section

namespace Cert.KernelDownIdeal.Final

open Idealize.ShloMosaic Idealize.ShloMosaic.TcCoe Idealize.SL.Sem
open Idealize.ShloMosaic.Pipeline (Dat)
open Cert.KernelDownIdeal Cert.KernelDownIdeal.Gen Cert.ReferenceDownIdeal.Read

variable (m : (ℓ : Loc nD τ sig) → Buf (Elt Ideal) ℓ)

/-- The reference's result as a function of the kernel's argument arrays. -/
abbrev REF (c : Dev nD) : FVec Ideal S16384x1024 .f32 :=
  val_main_v15 (m ((c : Thread nD τ).loc main_arg0)) (m ((c : Thread nD τ).loc main_arg1))
    (m ((c : Thread nD τ).loc main_arg2)) (m ((c : Thread nD τ).loc main_arg3))

/-- The block index of every window at every grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- What the body stores at a block index of a grid point is the reference's result at the array index it sits at. -/
theorem point (c : Dev nD) (t : Fin cfg0.N) (y : S512x1024.Idx) :
    k0_pay1 (F := Ideal) (iblk m c 0 t) (iblk m c 1 t) (iblk m c 3 t) (iblk m c 2 t) y
      = REF m c (((cfg0.win 4).blk t).view.emb y) := by
  pointwise [k0_pay1, REF, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1]
  blk_point [iblk, V, idx t]

/-- The result array after the run is the reference's. -/
theorem final (c : Dev nD) : (dats m 0 c).arrAt 4 (cfgs 0).N = REF m c := by
  refine (dats m 0 c).arrAt_eq_of_covers 4 _ (by decide +kernel) fun t _ y => ?_
  blk_simp
  rw [after0_4]; frame_out
  exact point m c t y

end Cert.KernelDownIdeal.Final

/-- The kernel's result equals the reference's over the extended reals, for all arguments. -/
theorem Cert.Proof.down : Cert.algebraic_KernelDownIdeal_ReferenceDownIdeal
    (hKernelDownIdeal := Cert.KernelDownIdeal.Gen.facts) (hReferenceDownIdeal := Cert.ReferenceDownIdeal.Gen.facts) := by
  pair_intro
  · run_from Cert.KernelDownIdeal.Gen.run_main m g
  · run_from Cert.ReferenceDownIdeal.Value.run m' g'
    exact (Cert.KernelDownIdeal.Final.final m c).symm

end
-- ==== Proof.Mkv.lean ====
/- The key and value projection of the memory: the array the kernel leaves is `rmsnorm mem g · w_mkv`, and the claim about it. -/
module

public import proofs.«01_k».proof.Defs
public import proofs.«01_k».proof.Proof.Gen.KernelMkvIdeal.Value
public import proofs.«01_k».proof.Proof.Gen.ReferenceMkvIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.KernelMkvIdeal.Final

open Idealize.ShloMosaic Idealize.ShloMosaic.TcCoe Idealize.SL.Sem
open Idealize.ShloMosaic.Pipeline (Dat)
open Cert.KernelMkvIdeal Cert.KernelMkvIdeal.Gen Cert.ReferenceMkvIdeal.Read

variable (m : (ℓ : Loc nD τ sig) → Buf (Elt Ideal) ℓ)

/-- The reference's result as a function of the kernel's argument arrays. -/
abbrev REF (c : Dev nD) : FVec Ideal S2048x2048 .f32 :=
  val_main_v14 (m ((c : Thread nD τ).loc main_arg0)) (m ((c : Thread nD τ).loc main_arg1)) (m ((c : Thread nD τ).loc main_arg2))

/-- The block index of every window at every grid point. -/
theorem idx : ∀ t : Fin cfg0.N, win0_0.index t = ![t.val / 2, 0] ∧ win0_1.index t = ![0, 0] ∧ win0_2.index t = ![0, t.val % 2] ∧ win0_3.index t = ![t.val / 2, t.val % 2] :=
  (by decide +kernel : ∀ t : Fin grid0.N, _)

/-- Two grid points of one row tile read the same block of rows and the same weights. -/
theorem same (c : Dev nD) (n : ℕ) (hn : n < cfg0.N) (h : ¬n % 2 = 0) :
    k0_pay1 (F := Ideal) (iblk m c 0 ⟨n - 1, lt_of_le_of_lt (Nat.sub_le _ _) hn⟩) (iblk m c 1 ⟨n - 1, lt_of_le_of_lt (Nat.sub_le _ _) hn⟩)
      = k0_pay1 (F := Ideal) (iblk m c 0 ⟨n, hn⟩) (iblk m c 1 ⟨n, hn⟩) := by
  have e : (n - 1) / 2 = n / 2 := by omega
  have h0 := idx ⟨n - 1, lt_of_le_of_lt (Nat.sub_le _ _) hn⟩
  have h1 := idx ⟨n, hn⟩
  simp only [e] at h0
  refine congrArg₂ k0_pay1 (funext fun y => ?_) (funext fun y => ?_)
  · blk_point [iblk, V, h0, h1]
  · blk_point [iblk, V, h0, h1]

/-- After every grid point the scratch holds the normalised rows of the point's row tile. -/
theorem scratch (c : Dev nD) (n : ℕ) (hn : n < cfg0.N) :
    (outsAt0 m c n hn).2 = k0_pay1 (F := Ideal) (iblk m c 0 ⟨n, hn⟩) (iblk m c 1 ⟨n, hn⟩) := by
  induction n with
  | zero => rw [outsAt0_A m c ⟨0, hn⟩ rfl]; frame_out
  | succ n ih =>
    by_cases h : (n + 1) % 2 = 0
    · rw [outsAt0_A m c ⟨n + 1, hn⟩ h]; frame_out
    · rw [outsAt0_B m c ⟨n + 1, hn⟩ h]
      exact (ih (Nat.lt_of_succ_lt hn)).trans (same m c (n + 1) hn h)

/-- Every grid point's output block is the product with the normalised rows of its row tile. -/
theorem block (c : Dev nD) (t : Fin cfg0.N) : (outsAt0 m c t.val t.isLt).1
    = k0_pay2 (F := Ideal) (k0_pay1 (iblk m c 0 t) (iblk m c 1 t)) (iblk m c 2 t) := by
  by_cases h : t.val % 2 = 0
  · rw [outsAt0_A m c t h]; frame_out
  · rw [outsAt0_B m c t h, scratch m c (t.val - 1) (Nat.lt_of_le_of_lt (Nat.sub_le _ _) t.isLt), same m c t.val t.isLt h]
    frame_out
    rw [read_unread_whole]

/-- What the body stores at a block index is the reference's product at the batch and row the array row stands for. -/
theorem core (c : Dev nD) (t : Fin cfg0.N) (y : S512x1024.Idx) (i : Cert.ReferenceMkvIdeal.S8x256x2048.Idx)
    (hi0 : (i 0 : ℕ) = (t.val / 2 * 512 + y 0) / 256) (hi1 : (i 1 : ℕ) = (t.val / 2 * 512 + y 0) % 256)
    (hi2 : (i 2 : ℕ) = t.val % 2 * 1024 + y 1) :
    k0_pay2 (F := Ideal) (k0_pay1 (iblk m c 0 t) (iblk m c 1 t)) (iblk m c 2 t) y
      = val_main_v13 (m ((c : Thread nD τ).loc main_arg0)) (m ((c : Thread nD τ).loc main_arg1))
          (m ((c : Thread nD τ).loc main_arg2)) i := by
  pointwise [k0_pay1, k0_pay2, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]
  blk_point [iblk, V, idx t]

/-- What the body stores at a block index of a grid point is the reference's result at the array index it sits at. -/
theorem point (c : Dev nD) (t : Fin cfg0.N) (y : S512x1024.Idx) :
    k0_pay2 (F := Ideal) (k0_pay1 (iblk m c 0 t) (iblk m c 1 t)) (iblk m c 2 t) y
      = REF m c (((cfg0.win 3).blk t).view.emb y) := by
  pointwise [REF, val_main_v14]
  refine core m c t y _ ?_ ?_ ?_
  all_goals blk_ext [idx t]

/-- The result array after the run is the reference's. -/
theorem final (c : Dev nD) : (dats m 0 c).arrAt 3 (cfgs 0).N = REF m c := by
  refine (dats m 0 c).arrAt_eq_of_covers 3 _ (by decide +kernel) fun t _ y => ?_
  blk_simp
  rw [after0_3, block]
  exact point m c t y

end Cert.KernelMkvIdeal.Final

/-- The kernel's result equals the reference's over the extended reals, for all arguments. -/
theorem Cert.Proof.mkv : Cert.algebraic_KernelMkvIdeal_ReferenceMkvIdeal
    (hKernelMkvIdeal := Cert.KernelMkvIdeal.Gen.facts) (hReferenceMkvIdeal := Cert.ReferenceMkvIdeal.Gen.facts) := by
  pair_intro
  · run_from Cert.KernelMkvIdeal.Gen.run_main m g
  · run_from Cert.ReferenceMkvIdeal.Value.run m' g'
    exact (Cert.KernelMkvIdeal.Final.final m c).symm

end
-- ==== Proof.Out.lean ====
/- The output projection of the three attentions: the array the kernel leaves is `x + rmsnorm (concat (o_a, o_b, o_c) · w_out) g`. -/
module

public import proofs.«01_k».proof.Defs
public import proofs.«01_k».proof.Proof.Gen.KernelOutIdeal.Value
public import proofs.«01_k».proof.Proof.Gen.ReferenceOutIdeal.Read
public import Idealize.ShloMosaic.Lib.Pipeline.ValueKit
public import Idealize.ShloMosaic.Lib.Claim

@[expose] public section

set_option maxRecDepth 16384

noncomputable section

namespace Cert.KernelOutIdeal.Final

open Idealize.ShloMosaic Idealize.ShloMosaic.TcCoe Idealize.SL.Sem
open Idealize.ShloMosaic.Pipeline (Dat)
open Cert.KernelOutIdeal Cert.KernelOutIdeal.Gen Cert.ReferenceOutIdeal.Read

variable (m : (ℓ : Loc nD τ sig) → Buf (Elt Ideal) ℓ)

/-- The reference's result as a function of the kernel's argument arrays. -/
abbrev REF (c : Dev nD) : FVec Ideal S16384x1024 .f32 :=
  val_main_v18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The block index of every window at every grid point. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

/-- A sum over 1024 indices cut at 256 and 768. -/
theorem sum3 (f : Fin 1024 → EReal) : ∑ k, f k = (∑ k : Fin 256, f ⟨k, by omega⟩)
    + (∑ k : Fin 512, f ⟨256 + k, by omega⟩) + ∑ k : Fin 256, f ⟨768 + k, by omega⟩ := by
  rw [show ∑ k, f k = ∑ k : Fin (256 + 512 + 256), f k from rfl, Fin.sum_univ_add, Fin.sum_univ_add]
  rfl

/-- The reference's product of the three parts side by side is the sum of the three products the kernel adds. -/
theorem dot3 (x0 : FVec Ideal S16384x256 .bf16) (x1 : FVec Ideal S16384x512 .bf16) (x2 : FVec Ideal S16384x256 .bf16)
    (x3 : FVec Ideal S1024x1024 .f32) (i : S16384x1024.Idx) :
    val_main_v4 (F := Ideal) x0 x1 x2 x3 i
      = (∑ k : Fin 256, x0 (ix2 (i 0) k) * x3 (ix2 ⟨k, by omega⟩ (i 1)))
        + (∑ k : Fin 512, x1 (ix2 (i 0) k) * x3 (ix2 ⟨256 + k, by omega⟩ (i 1)))
        + ∑ k : Fin 256, x2 (ix2 (i 0) k) * x3 (ix2 ⟨768 + k, by omega⟩ (i 1)) := by
  pointwise [val_main_v4, val_main_v3, val_main_v2, val_main_v1, val_main_v0]
  rw [sum3]
  refine congrArg₂ (· + ·) (congrArg₂ (· + ·) ?_ ?_) ?_ <;> refine Finset.sum_congr rfl fun k _ => ?_ <;> have hk := k.isLt
  · simp only [hk, ↓reduceDIte]
  · simp only [show ¬ 256 + (k : ℕ) < 256 by omega, show 256 + (k : ℕ) - 256 = k by omega, hk, ↓reduceDIte]
  · simp only [show ¬ 768 + (k : ℕ) < 256 by omega, show ¬ 768 + (k : ℕ) - 256 < 512 by omega,
      show 768 + (k : ℕ) - 256 - 512 = k by omega, ↓reduceDIte]

/-- What the body stores at a block index of a grid point is the reference's result at the array index it sits at. -/
theorem point (c : Dev nD) (t : Fin cfg0.N) (y : S512x1024.Idx) :
    k0_pay1 (F := Ideal) (iblk m c 0 t) (iblk m c 3 t) (iblk m c 1 t) (iblk m c 4 t) (iblk m c 2 t) (iblk m c 5 t) (iblk m c 7 t) (iblk m c 6 t) y
      = REF m c (((cfg0.win 8).blk t).view.emb y) := by
  pointwise [k0_pay1, REF, val_main_v18, val_main_v17, val_main_v16, val_main_v15, val_main_v14, val_main_v13, val_main_v12, val_main_v11, val_main_v10, val_main_v9, val_main_v8, val_main_v7, val_main_v6, val_main_v5, val_main_cst, val_main_cst_0, val_main_cst_1]
  simp only [dot3]
  blk_point [iblk, V, idx t]

/-- The result array after the run is the reference's. -/
theorem final (c : Dev nD) : (dats m 0 c).arrAt 8 (cfgs 0).N = REF m c := by
  refine (dats m 0 c).arrAt_eq_of_covers 8 _ (by decide +kernel) fun t _ y => ?_
  blk_simp
  rw [after0_8]; frame_out
  exact point m c t y

end Cert.KernelOutIdeal.Final

/-- The kernel's result equals the reference's over the extended reals, for all arguments. -/
theorem Cert.Proof.out : Cert.algebraic_KernelOutIdeal_ReferenceOutIdeal
    (hKernelOutIdeal := Cert.KernelOutIdeal.Gen.facts) (hReferenceOutIdeal := Cert.ReferenceOutIdeal.Gen.facts) := by
  pair_intro
  · run_from Cert.KernelOutIdeal.Gen.run_main m g
  · run_from Cert.ReferenceOutIdeal.Value.run m' g'
    exact (Cert.KernelOutIdeal.Final.final m c).symm

end
-- ==== Proof.Mq.lean ====
/- The query projection of the memory attention: the array the kernel leaves is `rmsnorm x g · w_mq`, and the claim about it. -/
module

public import proofs.«01_k».proof.Defs
public import proofs.«01_k».proof.Proof.Gen.KernelMqIdeal.Value
public import proofs.«01_k».proof.Proof.Gen.ReferenceMqIdeal.Read
public import Idealize.ShloMosaic.Lib.Pipeline.ValueKit
public import Idealize.ShloMosaic.Lib.Claim

@[expose] public section

set_option maxRecDepth 16384

noncomputable section

namespace Cert.KernelMqIdeal.Final

open Idealize.ShloMosaic Idealize.ShloMosaic.TcCoe Idealize.SL.Sem
open Idealize.ShloMosaic.Pipeline (Dat)
open Cert.KernelMqIdeal Cert.KernelMqIdeal.Gen Cert.ReferenceMqIdeal.Read

variable (m : (ℓ : Loc nD τ sig) → Buf (Elt Ideal) ℓ)

/-- The reference's result as a function of the kernel's argument arrays. -/
abbrev REF (c : Dev nD) : FVec Ideal S16384x1024 .bf16 :=
  val_main_v14 (m ((c : Thread nD τ).loc main_arg0)) (m ((c : Thread nD τ).loc main_arg1)) (m ((c : Thread nD τ).loc main_arg2))

/-- The block index of every window at every grid point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- What the body stores at a block index of a grid point is the reference's result at the array index it sits at. -/
theorem point (c : Dev nD) (t : Fin cfg0.N) (y : S512x1024.Idx) :
    k0_pay2 (F := Ideal) (k0_pay1 (iblk m c 0 t) (iblk m c 1 t)) (iblk m c 2 t) y
      = REF m c (((cfg0.win 3).blk t).view.emb y) := by
  pointwise [k0_pay1, k0_pay2, REF, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

/-- The result array after the run is the reference's. -/
theorem final (c : Dev nD) : (dats m 0 c).arrAt 3 (cfgs 0).N = REF m c := by
  refine (dats m 0 c).arrAt_eq_of_covers 3 _ (by decide +kernel) fun t _ y => ?_
  blk_simp
  rw [after0_3, outsAt0]; frame_out
  exact point m c t y

end Cert.KernelMqIdeal.Final

/-- The kernel's result equals the reference's over the extended reals, for all arguments. -/
theorem Cert.Proof.mq : Cert.algebraic_KernelMqIdeal_ReferenceMqIdeal
    (hKernelMqIdeal := Cert.KernelMqIdeal.Gen.facts) (hReferenceMqIdeal := Cert.ReferenceMqIdeal.Gen.facts) := by
  pair_intro
  · run_from Cert.KernelMqIdeal.Gen.run_main m g
  · run_from Cert.ReferenceMqIdeal.Value.run m' g'
    exact (Cert.KernelMqIdeal.Final.final m c).symm

end
-- ==== Proof.Mo.lean ====
/- The output projection of the memory attention: the array the kernel leaves is `x + rmsnorm (o · w_mo) g`, and the claim about it. -/
module

public import proofs.«01_k».proof.Defs
public import proofs.«01_k».proof.Proof.Gen.KernelMoIdeal.Value
public import proofs.«01_k».proof.Proof.Gen.ReferenceMoIdeal.Read
public import Idealize.ShloMosaic.Lib.Pipeline.ValueKit
public import Idealize.ShloMosaic.Lib.Claim

@[expose] public section

set_option maxRecDepth 16384

noncomputable section

namespace Cert.KernelMoIdeal.Final

open Idealize.ShloMosaic Idealize.ShloMosaic.TcCoe Idealize.SL.Sem
open Idealize.ShloMosaic.Pipeline (Dat)
open Cert.KernelMoIdeal Cert.KernelMoIdeal.Gen Cert.ReferenceMoIdeal.Read

variable (m : (ℓ : Loc nD τ sig) → Buf (Elt Ideal) ℓ)

/-- The reference's result as a function of the kernel's argument arrays. -/
abbrev REF (c : Dev nD) : FVec Ideal S16384x1024 .f32 :=
  val_main_v15 (m ((c : Thread nD τ).loc main_arg0)) (m ((c : Thread nD τ).loc main_arg1))
    (m ((c : Thread nD τ).loc main_arg2)) (m ((c : Thread nD τ).loc main_arg3))

/-- The block index of every window at every grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- What the body stores at a block index of a grid point is the reference's result at the array index it sits at. -/
theorem point (c : Dev nD) (t : Fin cfg0.N) (y : S512x1024.Idx) :
    k0_pay1 (F := Ideal) (iblk m c 0 t) (iblk m c 1 t) (iblk m c 3 t) (iblk m c 2 t) y
      = REF m c (((cfg0.win 4).blk t).view.emb y) := by
  pointwise [k0_pay1, REF, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1]
  blk_point [iblk, V, idx t]

/-- The result array after the run is the reference's. -/
theorem final (c : Dev nD) : (dats m 0 c).arrAt 4 (cfgs 0).N = REF m c := by
  refine (dats m 0 c).arrAt_eq_of_covers 4 _ (by decide +kernel) fun t _ y => ?_
  blk_simp
  rw [after0_4]; frame_out
  exact point m c t y

end Cert.KernelMoIdeal.Final

/-- The kernel's result equals the reference's over the extended reals, for all arguments. -/
theorem Cert.Proof.mo : Cert.algebraic_KernelMoIdeal_ReferenceMoIdeal
    (hKernelMoIdeal := Cert.KernelMoIdeal.Gen.facts) (hReferenceMoIdeal := Cert.ReferenceMoIdeal.Gen.facts) := by
  pair_intro
  · run_from Cert.KernelMoIdeal.Gen.run_main m g
  · run_from Cert.ReferenceMoIdeal.Value.run m' g'
    exact (Cert.KernelMoIdeal.Final.final m c).symm

end
-- ==== Proof.XattnHead.lean ====
/- One head of the memory attention: what the kernel stores for it and what the reference computes, row by row. -/
module

public import proofs.«01_k».proof.Proof.Gen.KernelXattnIdeal.Frame
public import proofs.«01_k».proof.Proof.Gen.ReferenceXattnIdeal.Read
public import proofs.«01_k».proof.Proof.Flash
public import Idealize.ShloMosaic.Lib.Pipeline.ValueKit

@[expose] public section

set_option maxRecDepth 16384

noncomputable section

namespace Cert.KernelXattnIdeal.Head

open Idealize.ShloMosaic Idealize.ShloMosaic.TcCoe Idealize.SL.Sem
open Cert.KernelXattnIdeal Cert.KernelXattnIdeal.Gen Cert.ReferenceXattnIdeal.Read

/-- The word 0xFF800000 is −∞. -/
theorem ofBits_neg_inf : Ideal.ofBits .f32 0xFF800000#32 = ⊥ := by simp [Ideal.ofBits, Ideal.ieee]

/-- The four heads' payloads are one function of the head's queries, keys and values. -/
theorem pay5_eq {F : FTy → Type} [FloatOps F] (q : Vec F S1x512x256 .bf16) (k v : Vec F S1x256x256 .f32) : k0_pay5 (k0_pay3 q) (k0_pay4 k) v = k0_pay2 q k v := rfl
theorem pay9_eq {F : FTy → Type} [FloatOps F] (q : Vec F S1x512x256 .bf16) (k v : Vec F S1x256x256 .f32) : k0_pay9 (k0_pay6 v) (k0_pay7 q k) (k0_pay8 q k) = k0_pay2 q k v := rfl
theorem pay1_eq {F : FTy → Type} [FloatOps F] (q : Vec F S1x512x256 .bf16) (k v : Vec F S1x256x256 .f32) : k0_pay1 (k0_pay10 v) (k0_pay11 q k) = k0_pay2 q k v := rfl

/-- The largest of a row of scores. -/
def top (s : Fin 256 → EReal) : EReal := (Finset.univ : Finset (Fin 256)).fold max ⊥ s

/-- A row of scores' softmax against values, each weight divided by the sum. -/
def soft (s v : Fin 256 → EReal) : EReal :=
  ∑ j, v j * Ideal.div (Ideal.exp (s j - top s)) (∑ k, Ideal.exp (s k - top s))

/-- What the kernel stores for a head: each weight times the reciprocal of the sum. -/
theorem pay2_apply (q : Vec Ideal S1x512x256 .bf16) (k v : Vec Ideal S1x256x256 .f32) (i : Fin 512) (d : Fin 256) (s : Fin 256 → EReal)
    (hs : ∀ j, (∑ e : Fin 256, q (ix3 0 i e) * k (ix3 0 j e)) * Ideal.ofBits .f32 0x3D800000#32 = s j) :
    k0_pay2 (F := Ideal) q k v (ix3 0 i d)
      = ∑ j, Ideal.exp (s j - top s) * Ideal.div 1 (∑ k, Ideal.exp (s k - top s)) * v (ix3 0 j d) := by
  pointwise [k0_pay2]
  simp only [hs, ofBits_neg_inf]
  rfl

/-- Over real scores the reciprocal of the sum does what the division does. -/
theorem soft_recip (s v : Fin 256 → EReal) (sr : Fin 256 → ℝ) (h : ∀ j, s j = ((sr j : ℝ) : EReal)) :
    ∑ j, Ideal.exp (s j - top s) * Ideal.div 1 (∑ k, Ideal.exp (s k - top s)) * v j = soft s v := by
  obtain ⟨M, hM⟩ := Flash.fold_max_real s (fun j => by rw [h]; exact EReal.coe_ne_top _) 0 (by rw [h]; exact EReal.coe_ne_bot _)
  have hM : top s = ((M : ℝ) : EReal) := hM
  have hL : (∑ k, Ideal.exp (s k - top s)) ≠ 0 := by
    simp only [h, hM, ← EReal.coe_sub, Ideal.exp_coe, ← Flash.coe_sum]
    rw [EReal.coe_ne_zero]
    exact (Finset.sum_pos (fun j _ => Real.exp_pos _) ⟨0, Finset.mem_univ _⟩).ne'
  refine Finset.sum_congr rfl fun j _ => ?_
  rw [Ideal.mul_one_div hL]
  exact mul_comm _ _

open Cert.ReferenceXattnIdeal in
/-- The reference's row maximum is the largest of the row of scores. -/
theorem reduce_row (x : S8x4x2048x256.Idx → EReal) (init : S_.Idx → EReal) (h' : S8x4x2048x256.ReducesTo [3] S8x4x2048)
    (hi : init (Shape.Idx.first Cert.ReferenceXattnIdeal.Gen.h_S_) = ⊥) (b : Fin 8) (h : Fin 4) (T : Fin 2048) :
    Host.reduce (FloatOps.maximumf (F := Ideal) (φ := .f32)) x init h' Cert.ReferenceXattnIdeal.Gen.h_S_ (ix3 b h T) = top (fun k => x (ix4 b h T k)) := by
  have hr : S8x4x2048x256.Reduces [3] S8x4x2048 := by decide
  have hf : ∀ k : Fin 256, hr.lift (ix3 b h T) k = ix4 b h T k := fun k => by
    funext a; fin_cases a <;> rfl
  refine (Host.reduce_eq_fold_single (FloatOps.maximumf (F := Ideal) (φ := .f32)) x init h' hr Cert.ReferenceXattnIdeal.Gen.h_S_ (ix3 b h T)).trans ?_
  rw [hi]
  exact congrArg (fun f : Fin 256 → EReal => (Finset.univ : Finset (Fin 256)).fold max ⊥ f) (funext fun k => congrArg x (hf k))

section Ref

variable (x0 : FVec Ideal S8x2048x1024 .bf16) (x1 : FVec Ideal S8x256x2x4x256 .f32)

/-- The reference's scores. -/
theorem v6_row (b : Fin 8) (h : Fin 4) (T : Fin 2048) (j : Fin 256) :
    val_main_v6 (F := Ideal) x0 x1 (ix4 b h T j)
      = (∑ e : Fin 256, x0 (ix3 b T ⟨h.val * 256 + e.val, by omega⟩) * x1 (ix5 b j 0 h e)) * Ideal.ofBits .f32 0x3D800000#32 := by
  pointwise [val_main_v6, val_main_v5, val_main_cst, val_main_v4, val_main_v3, val_main_v2, val_main_v1, val_main_v0]

/-- The row maximum, spread over the row. -/
theorem v11_row (b : Fin 8) (h : Fin 4) (T : Fin 2048) (j : Fin 256) :
    val_main_v11 (F := Ideal) x0 x1 (ix4 b h T j) = top (fun k => val_main_v6 (F := Ideal) x0 x1 (ix4 b h T k)) := by
  rw [val_main_v11_apply, val_main_v10_apply, show idx_main_v10 (idx_main_v11 (ix4 b h T j)) = ix3 b h T from by funext a; fin_cases a <;> rfl,
    val_main_v9_apply]
  have e : val_main_v7 (F := Ideal) x0 x1 (ix3 b h T) = top (fun k => val_main_v6 (F := Ideal) x0 x1 (ix4 b h T k)) := reduce_row _ _ _ ofBits_neg_inf b h T
  have e8 : val_main_v8 (F := Ideal) (ix3 b h T) = ⊥ := (val_main_v8_apply _).trans ofBits_neg_inf
  rw [e, e8]
  exact max_eq_right bot_le

/-- The reference's result. -/
theorem v23_row (b : Fin 8) (h : Fin 4) (T : Fin 2048) (d : Fin 256) :
    val_main_v23 (F := Ideal) x0 x1 (ix3 b T ⟨256 * h.val + d.val, by omega⟩)
      = soft (fun k => val_main_v6 (F := Ideal) x0 x1 (ix4 b h T k)) (fun j => x1 (ix5 b j 1 h d)) := by
  have e13 : ∀ j, val_main_v13 (F := Ideal) x0 x1 (ix4 b h T j) = Ideal.exp (val_main_v6 (F := Ideal) x0 x1 (ix4 b h T j)
      - top (fun k => val_main_v6 (F := Ideal) x0 x1 (ix4 b h T k))) := fun j => by
    rw [val_main_v13_apply, val_main_v12_apply, v11_row]; rfl
  have e16 : ∀ j, val_main_v16 (F := Ideal) x0 x1 (ix4 b h T j) = ∑ k : Fin 256, val_main_v13 (F := Ideal) x0 x1 (ix4 b h T k) := fun j => by
    rw [val_main_v16_apply, val_main_v15_apply, show idx_main_v15 (idx_main_v16 (ix4 b h T j)) = ix3 b h T from by funext a; fin_cases a <;> rfl,
      val_main_v14_apply, show val_main_cst_2 (F := Ideal) (Shape.Idx.first Cert.ReferenceXattnIdeal.Gen.h_S_) = 0 from Ideal.ofBits_zero_f32, zero_add]
    refine Finset.sum_congr rfl fun k _ => congrArg _ ?_
    funext a; fin_cases a <;> rfl
  have e20 : val_main_v23 (F := Ideal) x0 x1 (ix3 b T ⟨256 * h.val + d.val, by omega⟩)
      = ∑ j : Fin 256, x1 (ix5 b j 1 h d) * val_main_v17 (F := Ideal) x0 x1 (ix4 b h T j) := by
    pointwise [val_main_v23, val_main_v22, val_main_v21, val_main_v20, val_main_v19, val_main_v18]
  rw [e20]
  refine Finset.sum_congr rfl fun j _ => ?_
  rw [val_main_v17_apply, e13, e16]
  simp only [e13]
  rfl

end Ref

end Cert.KernelXattnIdeal.Head

end
-- ==== Proof.Xattn.lean ====
/- The memory attention: the array the kernel leaves is the reference's, and the claim about it. -/
module

public import proofs.«01_k».proof.Defs
public import proofs.«01_k».proof.Proof.Gen.ReferenceXattnIdeal.Run
public import proofs.«01_k».proof.Proof.Gen.Pre_finite_xattn
public import proofs.«01_k».proof.Proof.XattnHead
public import Idealize.ShloMosaic.Lib.Claim
public import proofs.«01_k».proof.Proof.Finite

@[expose] public section

set_option maxRecDepth 16384

noncomputable section

namespace Cert.KernelXattnIdeal.Final

open Idealize.ShloMosaic Idealize.ShloMosaic.TcCoe Idealize.SL.Sem
open Idealize.ShloMosaic.Pipeline (Dat)
open Cert.KernelXattnIdeal Cert.KernelXattnIdeal.Gen Cert.KernelXattnIdeal.Head Cert.ReferenceXattnIdeal.Read

variable (m : (ℓ : Loc nD τ sig) → Buf (Elt Ideal) ℓ)

/-- The argument arrays: the queries, and the keys with the values. -/
abbrev qA (c : Dev nD) : FVec Ideal S8x2048x1024 .bf16 := m ((c : Thread nD τ).loc main_arg0)
abbrev kvA (c : Dev nD) : FVec Ideal S8x256x2x4x256 .f32 := m ((c : Thread nD τ).loc main_arg1)

/-- The reference's result as a function of the kernel's argument arrays. -/
abbrev REF (c : Dev nD) : FVec Ideal S8x2048x1024 .bf16 := val_main_v23 (F := Ideal) (qA m c) (kvA m c)

/-- A grid point's batch, and the sequence row of a row of its query block. -/
def bat (t : Fin cfg0.N) : Fin 8 := ⟨(grid0.coords t 0).val, (grid0.coords t 0).isLt⟩
def row (t : Fin cfg0.N) (r : Fin 512) : Fin 2048 :=
  ⟨512 * (grid0.coords t 1).val + r.val, by have h : (grid0.coords t 1).val < 4 := (grid0.coords t 1).isLt; omega⟩

/-- The block index of every window at every grid point. -/
theorem idx : ∀ t : Fin cfg0.N, win0_0.index t = ![(grid0.coords t 0).val, (grid0.coords t 1).val, 0] ∧
    win0_1.index t = ![(grid0.coords t 0).val, 0, 0] ∧ win0_2.index t = ![(grid0.coords t 0).val, (grid0.coords t 1).val, 0] :=
  (by decide +kernel : ∀ t : Fin grid0.N, _)

/-- The blocks read off the arrays: lane `L` of the keys and values is half `L / 1024`, head `L / 256 % 4`, coordinate `L % 256`. -/
theorem blk_q (c : Dev nD) (t : Fin cfg0.N) (r : Fin 512) (L : Fin 1024) :
    (iblk m c 0 t : Vec Ideal S1x512x1024 .bf16) (ix3 0 r L) = qA m c (ix3 (bat t) (row t r) L) := by
  blk_point [iblk, V, idx t, bat, row]
theorem blk_kv (c : Dev nD) (t : Fin cfg0.N) (j : Fin 256) (L : Fin 2048) :
    (iblk m c 1 t : Vec Ideal S1x256x2048 .f32) (ix3 0 j L) = kvA m c (ix5 (bat t) j ⟨L.val / 1024, by omega⟩ ⟨L.val / 256 % 4, by omega⟩ ⟨L.val % 256, by omega⟩) := by
  blk_point [iblk, V, idx t, bat, row]

/-- The queries and the keys are real. -/
def Fin2 (c : Dev nD) : Prop :=
  (∃ qr : S8x2048x1024.Idx → ℝ, ∀ i, qA m c i = ((qr i : ℝ) : EReal))
  ∧ (∃ kr : Fin 8 → Fin 256 → Fin 4 → Fin 256 → ℝ, ∀ b j h e, kvA m c (ix5 b j 0 h e) = ((kr b j h e : ℝ) : EReal))

/-- What a grid point writes for head `h` is the reference's result there. -/
theorem point (c : Dev nD) (hf : Fin2 m c) (t : Fin cfg0.N) (h : Fin 4) (q : Vec Ideal S1x512x256 .bf16) (k v : Vec Ideal S1x256x256 .f32)
    (hq : ∀ r (e : Fin 256), q (ix3 0 r e) = (iblk m c 0 t : Vec Ideal S1x512x1024 .bf16) (ix3 0 r ⟨h.val * 256 + e.val, by omega⟩))
    (hk : ∀ j (e : Fin 256), k (ix3 0 j e) = (iblk m c 1 t : Vec Ideal S1x256x2048 .f32) (ix3 0 j ⟨h.val * 256 + e.val, by omega⟩))
    (hv : ∀ j (e : Fin 256), v (ix3 0 j e) = (iblk m c 1 t : Vec Ideal S1x256x2048 .f32) (ix3 0 j ⟨1024 + h.val * 256 + e.val, by omega⟩))
    (r : Fin 512) (d : Fin 256) :
    k0_pay2 (F := Ideal) q k v (ix3 0 r d) = REF m c (ix3 (bat t) (row t r) ⟨256 * h.val + d.val, by omega⟩) := by
  obtain ⟨⟨qr, hqr⟩, ⟨kr, hkr⟩⟩ := hf
  have ek : ∀ j e, k (ix3 0 j e) = kvA m c (ix5 (bat t) j 0 h e) := fun j e => by
    rw [hk, blk_kv]
    congr 1
    have := h.isLt; have := e.isLt
    congr 1 <;> apply Fin.ext <;> simp <;> omega
  have ev : ∀ j e, v (ix3 0 j e) = kvA m c (ix5 (bat t) j 1 h e) := fun j e => by
    rw [hv, blk_kv]
    congr 1
    have := h.isLt; have := e.isLt
    congr 1 <;> apply Fin.ext <;> simp <;> omega
  rw [pay2_apply q k v r d (fun j => val_main_v6 (F := Ideal) (qA m c) (kvA m c) (ix4 (bat t) h (row t r) j)) (fun j => by
    rw [v6_row]
    simp only [hq, ek, blk_q])]
  rw [REF, v23_row]
  have hc : Ideal.ofBits .f32 0x3D800000#32 = ((1 / 16 : ℝ) : EReal) := by
    simp [Ideal.ofBits, Ideal.ieee, -EReal.coe_mul]; norm_num
  refine (soft_recip _ _ (fun j => (∑ e : Fin 256, qr (ix3 (bat t) (row t r) ⟨h.val * 256 + e.val, by omega⟩) * kr (bat t) j h e) * (1 / 16)) (fun j => ?_)).trans ?_
  · rw [v6_row, hc]
    simp only [hqr, hkr, ← EReal.coe_mul, ← Flash.coe_sum]
  · exact congrArg (soft _) (funext fun j => ev j d)

/-- `point` at an index of the output block. -/
theorem core (c : Dev nD) (hf : Fin2 m c) (t : Fin cfg0.N) (h : Fin 4) (q : Vec Ideal S1x512x256 .bf16) (k v : Vec Ideal S1x256x256 .f32)
    (hq : ∀ r (e : Fin 256), q (ix3 0 r e) = (iblk m c 0 t : Vec Ideal S1x512x1024 .bf16) (ix3 0 r ⟨h.val * 256 + e.val, by omega⟩))
    (hk : ∀ j (e : Fin 256), k (ix3 0 j e) = (iblk m c 1 t : Vec Ideal S1x256x2048 .f32) (ix3 0 j ⟨h.val * 256 + e.val, by omega⟩))
    (hv : ∀ j (e : Fin 256), v (ix3 0 j e) = (iblk m c 1 t : Vec Ideal S1x256x2048 .f32) (ix3 0 j ⟨1024 + h.val * 256 + e.val, by omega⟩))
    (y : S1x512x1024.Idx) (x : S1x512x256.Idx) (h1 : (y 1).val = (x 1).val) (h2 : (y 2).val = 256 * h.val + (x 2).val) :
    k0_pay2 (F := Ideal) q k v x = REF m c (((cfg0.win 2).blk t).view.emb y) := by
  have hx : x = ix3 0 (x 1) (x 2) := by
    funext a; fin_cases a
    · exact Fin.ext (Nat.lt_one_iff.mp (x 0).isLt)
    · rfl
    · rfl
  have hx2 : (x 2).val < 256 := (x 2).isLt
  refine (congrArg (k0_pay2 (F := Ideal) q k v) hx).trans ((point m c hf t h q k v hq hk hv (x 1) (x 2)).trans ?_)
  have hx1 : ((cfg0.win 2).blk t).view.emb y = ix3 (bat t) (row t (x 1)) ⟨256 * h.val + (x 2).val, by omega⟩ := by
    blk_ext [idx t, bat, row]
  exact congrArg (REF m c) hx1.symm

/-- The result array after the run is the reference's. -/
theorem final (c : Dev nD) (hf : Fin2 m c) : (dats m 0 c).arrAt 2 (cfgs 0).N = REF m c := by
  refine (dats m 0 c).arrAt_eq_of_covers 2 _ (by decide +kernel) fun t _ y => ?_
  blk_simp
  rw [after0_2, out0_2, pay1_eq, pay9_eq, pay5_eq]
  canon_tiles x h
  · exact core m c hf t 3 _ _ _ (fun r e => by pointwise) (fun r e => by pointwise) (fun r e => by pointwise) y x h1 h2
  · exact core m c hf t 2 _ _ _ (fun r e => by pointwise) (fun r e => by pointwise) (fun r e => by pointwise) y x h1 h2
  · exact core m c hf t 1 _ _ _ (fun r e => by pointwise) (fun r e => by pointwise) (fun r e => by pointwise) y x h1 h2
  · exact core m c hf t 0 _ _ _ (fun r e => by pointwise) (fun r e => by pointwise) (fun r e => by pointwise) y x h1 (by omega)

/-- Under the precondition the queries and the keys are real. -/
theorem real_of_pre (h : Cert.Pre_KernelXattnIdeal_finite_xattn (hPre_finite_xattn := Cert.Pre_finite_xattn.Gen.facts) m) (c : Dev nD) : Fin2 m c := by
  have h := congrFun (h c) (fun a => a.elim0)
  obtain ⟨hq, hk⟩ := Finite.andi_one _ _ h
  haveI : Subsingleton Cert.Pre_finite_xattn.S_.Idx := ⟨fun a b => funext fun i => i.elim0⟩
  refine ⟨⟨_, fun i => (Finite.real_of_lt _ (Host.reduce_andi_all _ _ _ _ _ hq i)).symm⟩, ⟨fun b j h e => (kvA m c (ix5 b j 0 h e)).toReal, fun b j h e => ?_⟩⟩
  refine (Finite.real_of_lt _ (Eq.trans ?_ (Host.reduce_andi_all _ _ _ _ _ hk (ix4 b j h e)))).symm
  pointwise

end Cert.KernelXattnIdeal.Final

/-- The kernel's result equals the reference's over the extended reals, where the queries and the keys are real. -/
theorem Cert.Proof.xattn : Cert.algebraic_KernelXattnIdeal_ReferenceXattnIdeal_pre_finite_xattn
    (hKernelXattnIdeal := Cert.KernelXattnIdeal.Gen.facts) (hReferenceXattnIdeal := Cert.ReferenceXattnIdeal.Gen.facts) (hPre_finite_xattn := Cert.Pre_finite_xattn.Gen.facts) := by
  pair_intro
  · run_from Cert.KernelXattnIdeal.Gen.run_main m g
  · run_from Cert.ReferenceXattnIdeal.Value.run m' g'
    exact (Cert.KernelXattnIdeal.Final.final m c (Cert.KernelXattnIdeal.Final.real_of_pre m hpre c)).symm

end
-- ==== Proof.ProjHead.lean ====
/- The input projection: the blocks a grid point reads, off the argument arrays. -/
module

public import proofs.«01_k».proof.Defs
public import proofs.«01_k».proof.Proof.Gen.KernelProjIdeal.Frame
public import proofs.«01_k».proof.Proof.Gen.ReferenceProjIdeal.Read
public import Idealize.ShloMosaic.Lib.Pipeline.ValueKit
public import Idealize.ShloMosaic.Lib.Routing.OpsSet
public import Idealize.ShloMosaic.Lib.StableHlo.RunRead
public import Idealize.ShloMosaic.Lib.Routing.OpsPair

@[expose] public section

set_option maxRecDepth 16384

noncomputable section

namespace Cert.KernelProjIdeal.Final

open Idealize.ShloMosaic Idealize.ShloMosaic.TcCoe Idealize.SL.Sem
open Idealize.ShloMosaic.Pipeline (Dat)
open Cert.KernelProjIdeal Cert.KernelProjIdeal.Gen Cert.ReferenceProjIdeal.Read

variable (m : (ℓ : Loc nD τ sig) → Buf (Elt Ideal) ℓ)

/-- The kernel's argument arrays. -/
abbrev xA (c : Dev nD) : FVec Ideal S8x2048x1024 .f32 := m ((c : Thread nD τ).loc main_arg0)
abbrev gA (c : Dev nD) : FVec Ideal S1024 .f32 := m ((c : Thread nD τ).loc main_arg1)
abbrev wA (c : Dev nD) : FVec Ideal S1024x2960 .f32 := m ((c : Thread nD τ).loc main_arg2)
abbrev fA (c : Dev nD) : FVec Ideal S4 .f32 := m ((c : Thread nD τ).loc main_arg3)
abbrev cosA (c : Dev nD) : FVec Ideal S2048x8 .f32 := m ((c : Thread nD τ).loc main_arg4)
abbrev sinA (c : Dev nD) : FVec Ideal S2048x8 .f32 := m ((c : Thread nD τ).loc main_arg5)

/-- The block index of every window at every grid point. -/
theorem idx : ∀ t : Fin cfg0.N, win0_0.index t = ![t.val, 0] ∧ win0_1.index t = ![0, 0] ∧ win0_2.index t = ![0, 0]
    ∧ win0_3.index t = ![0, 0] ∧ win0_4.index t = ![0, t.val % 4, 0] ∧ win0_5.index t = ![0, t.val % 4, 0] :=
  (by decide +kernel : ∀ t : Fin grid0.N, _)

/-- The batch and the sequence position of row `r` of a grid point's tile. -/
def bat (t : Fin cfg0.N) : Fin 8 := ⟨t.val / 4, by have : t.val < 32 := t.isLt; omega⟩
def pos (t : Fin cfg0.N) (r : Fin 512) : Fin 2048 := ⟨t.val % 4 * 512 + r.val, by omega⟩

/-- The permuted weights before their cast's column reading: the column of `w_in` that a column below 2960 holds. -/
def wcol (n : ℕ) : ℕ := if n < 640 then n else if n < 2944 then n + 12 else if n < 2956 then n - 2304 else n

/-- The references the host lines write, in order. -/
abbrev refs : List (Ref sig .tc) := [main_cst, main_v0, main_c, main_v1, main_c_0, main_v2, main_v3, main_v4, main_v5, main_v6,
  main_cst_1, main_v7, main_v8, main_v9, main_v10, main_v11, main_v12, main_v13, main_cst_2, main_v14, main_cst_3, main_v15,
  main_cst_4, main_v16, main_cst_5, main_v17, main_cst_6, main_v18, main_v19, main_v20, main_v21, main_v22, main_v23, main_v24,
  main_v25, main_v26, main_cst_7, main_v27, main_cst_8, main_v28, main_cst_9, main_v29, main_cst_10, main_v30, main_cst_11,
  main_v31, main_v32, main_v33, main_v34, main_v35, main_v36, main_v37, main_v38, main_v39]

/-- What the host lines before line `n` leave. -/
abbrev up (c : Dev nD) (n : ℕ) (r : Ref sig .tc) := StableHlo.upto (hostOps0 (F := Ideal)) (fun b => m (c, b)) n (Proc.devRef .tc r)

/-- The permuted weights before their cast, put together from five pieces. -/
theorem v12_eq (c : Dev nD) : (V m c main_v12 : FVec Ideal S1024x3072 .f32) = concatenate S1024x3072 1
    [⟨S1024x640, (V m c main_v8 : FVec Ideal S1024x640 .f32)⟩, ⟨S1024x2304, (V m c main_v9 : FVec Ideal S1024x2304 .f32)⟩,
      ⟨S1024x12, (V m c main_v10 : FVec Ideal S1024x12 .f32)⟩, ⟨S1024x4, (V m c main_v11 : FVec Ideal S1024x4 .f32)⟩,
      ⟨S1024x112, (V m c main_v7 : FVec Ideal S1024x112 .f32)⟩]
    concatenates_S1024x640_S1024x2304_S1024x12_S1024x4_S1024x112_S1024x3072_d1 := by
  have h0 : V m c main_v8 = up m c 16 main_v8 := by unfold V up; after_reads_simp
  have h1 : V m c main_v9 = up m c 16 main_v9 := by unfold V up; after_reads_simp
  have h2 : V m c main_v10 = up m c 16 main_v10 := by unfold V up; after_reads_simp
  have h3 : V m c main_v11 = up m c 16 main_v11 := by unfold V up; after_reads_simp
  have h4 : V m c main_v7 = up m c 16 main_v7 := by unfold V up; after_reads_simp
  rw [h0, h1, h2, h3, h4]
  unfold V
  rw [StableHlo.after_last_write (i := 16) (refs.drop 17) rfl rfl (by decide), StableHlo.nary_result]
  rfl

/-- The pieces of the permuted weights. -/
theorem v8_at (c : Dev nD) (k : Fin 1024) (n : Fin 640) :
    (V m c main_v8 : FVec Ideal S1024x640 .f32) (ix2 k n) = wA m c (ix2 k ⟨n.val, by omega⟩) := by
  unfold V; after_results; pointwise
theorem v9_at (c : Dev nD) (k : Fin 1024) (n : Fin 2304) :
    (V m c main_v9 : FVec Ideal S1024x2304 .f32) (ix2 k n) = wA m c (ix2 k ⟨652 + n.val, by omega⟩) := by
  unfold V; after_results; pointwise
theorem v10_at (c : Dev nD) (k : Fin 1024) (n : Fin 12) :
    (V m c main_v10 : FVec Ideal S1024x12 .f32) (ix2 k n) = wA m c (ix2 k ⟨640 + n.val, by omega⟩) := by
  unfold V; after_results; pointwise
theorem v11_at (c : Dev nD) (k : Fin 1024) (n : Fin 4) :
    (V m c main_v11 : FVec Ideal S1024x4 .f32) (ix2 k n) = wA m c (ix2 k ⟨2956 + n.val, by omega⟩) := by
  unfold V; after_results; pointwise

/-- The permuted weight array off `w_in`. -/
theorem wgt_arr (c : Dev nD) (k : Fin 1024) (n : Fin 3072) (hn : n.val < 2960) :
    (V m c main_v13 : FVec Ideal S1024x3072 .bf16) (ix2 k n) = wA m c (ix2 k ⟨wcol n.val, by unfold wcol; split_ifs <;> omega⟩) := by
  have e : (V m c main_v13 : FVec Ideal S1024x3072 .bf16) = (V m c main_v12 : FVec Ideal S1024x3072 .f32) := by
    unfold V; after_reads_simp; rfl
  rw [e, v12_eq]
  pointwise
  by_cases h1 : n.val < 640
  · rw [dif_pos h1]
    exact (v8_at m c k ⟨n.val, h1⟩).trans (congrArg (fun j => wA m c (ix2 k j)) (Fin.ext (by simp only [wcol]; rw [if_pos h1])))
  rw [dif_neg h1]
  by_cases h2 : n.val - 640 < 2304
  · rw [dif_pos h2]
    exact (v9_at m c k ⟨n.val - 640, h2⟩).trans (congrArg (fun j => wA m c (ix2 k j)) (Fin.ext (by
      simp only [wcol]; rw [if_neg h1, if_pos (by omega)]; omega)))
  rw [dif_neg h2]
  by_cases h3 : n.val - 640 - 2304 < 12
  · rw [dif_pos h3]
    exact (v10_at m c k ⟨n.val - 640 - 2304, h3⟩).trans (congrArg (fun j => wA m c (ix2 k j)) (Fin.ext (by
      simp only [wcol]; rw [if_neg h1, if_neg (by omega), if_pos (by omega)]; omega)))
  rw [dif_neg h3, dif_pos (by omega)]
  exact (v11_at m c k ⟨n.val - 640 - 2304 - 12, by omega⟩).trans (congrArg (fun j => wA m c (ix2 k j)) (Fin.ext (by
      simp only [wcol]; rw [if_neg h1, if_neg (by omega), if_neg (by omega)]; omega)))

/-- The block of the weights is the whole permuted array. -/
theorem wgt_blk (c : Dev nD) (t : Fin cfg0.N) (k : Fin 1024) (n : Fin 3072) :
    (iblk m c 2 t : Vec Ideal S1024x3072 .bf16) (ix2 k n) = (V m c main_v13 : FVec Ideal S1024x3072 .bf16) (ix2 k n) := by
  blk_point [iblk, idx t]

/-- The table block for the full rotation. -/
theorem tab4_blk (c : Dev nD) (t : Fin cfg0.N) (k : Fin 3) (r : Fin 512) (l : Fin 128) :
    (iblk m c 4 t : Vec Ideal S3x512x128 .f32) (ix3 k r l) = (V m c main_v26 : FVec Ideal S3x2048x128 .f32) (ix3 k (pos t r) l) := by
  blk_point [iblk, idx t, pos]

/-- The table block for the half rotation. -/
theorem tab5_blk (c : Dev nD) (t : Fin cfg0.N) (k : Fin 3) (r : Fin 512) (l : Fin 128) :
    (iblk m c 5 t : Vec Ideal S3x512x128 .f32) (ix3 k r l) = (V m c main_v39 : FVec Ideal S3x2048x128 .f32) (ix3 k (pos t r) l) := by
  blk_point [iblk, idx t, pos]

/-- The full table's three rows, put together from their pieces. -/
theorem v20_eq (c : Dev nD) : (V m c main_v20 : FVec Ideal S2048x128 .f32) = concatenate S2048x128 1
    [⟨S2048x8, (cosA m c : FVec Ideal S2048x8 .f32)⟩,
      ⟨S2048x8, (cosA m c : FVec Ideal S2048x8 .f32)⟩,
      ⟨S2048x48, (V m c main_v14 : FVec Ideal S2048x48 .f32)⟩,
      ⟨S2048x8, (cosA m c : FVec Ideal S2048x8 .f32)⟩,
      ⟨S2048x8, (cosA m c : FVec Ideal S2048x8 .f32)⟩,
      ⟨S2048x48, (V m c main_v14 : FVec Ideal S2048x48 .f32)⟩]
    concatenates_S2048x8_S2048x8_S2048x48_S2048x8_S2048x8_S2048x48_S2048x128_d1 := by
  have h0 : cosA m c = up m c 29 main_arg4 := by unfold up; after_reads_simp
  have h1 : V m c main_v14 = up m c 29 main_v14 := by unfold V up; after_reads_simp
  rw [h0, h1]
  unfold V
  rw [StableHlo.after_last_write (i := 29) (refs.drop 30) rfl rfl (by decide), StableHlo.nary_result]
  rfl

/-- The second row of the full table. -/
theorem v21_eq (c : Dev nD) : (V m c main_v21 : FVec Ideal S2048x128 .f32) = concatenate S2048x128 1
    [⟨S2048x8, (V m c main_v16 : FVec Ideal S2048x8 .f32)⟩,
      ⟨S2048x8, (sinA m c : FVec Ideal S2048x8 .f32)⟩,
      ⟨S2048x48, (V m c main_v15 : FVec Ideal S2048x48 .f32)⟩,
      ⟨S2048x8, (V m c main_v16 : FVec Ideal S2048x8 .f32)⟩,
      ⟨S2048x8, (sinA m c : FVec Ideal S2048x8 .f32)⟩,
      ⟨S2048x48, (V m c main_v15 : FVec Ideal S2048x48 .f32)⟩]
    concatenates_S2048x8_S2048x8_S2048x48_S2048x8_S2048x8_S2048x48_S2048x128_d1 := by
  have h0 : V m c main_v16 = up m c 30 main_v16 := by unfold V up; after_reads_simp
  have h1 : sinA m c = up m c 30 main_arg5 := by unfold up; after_reads_simp
  have h2 : V m c main_v15 = up m c 30 main_v15 := by unfold V up; after_reads_simp
  rw [h0, h1, h2]
  unfold V
  rw [StableHlo.after_last_write (i := 30) (refs.drop 31) rfl rfl (by decide), StableHlo.nary_result]
  rfl

/-- The third row of the full table. -/
theorem v22_eq (c : Dev nD) : (V m c main_v22 : FVec Ideal S2048x128 .f32) = concatenate S2048x128 1
    [⟨S2048x8, (V m c main_v19 : FVec Ideal S2048x8 .f32)⟩,
      ⟨S2048x8, (V m c main_v16 : FVec Ideal S2048x8 .f32)⟩,
      ⟨S2048x48, (V m c main_v15 : FVec Ideal S2048x48 .f32)⟩,
      ⟨S2048x8, (V m c main_v19 : FVec Ideal S2048x8 .f32)⟩,
      ⟨S2048x8, (V m c main_v16 : FVec Ideal S2048x8 .f32)⟩,
      ⟨S2048x48, (V m c main_v15 : FVec Ideal S2048x48 .f32)⟩]
    concatenates_S2048x8_S2048x8_S2048x48_S2048x8_S2048x8_S2048x48_S2048x128_d1 := by
  have h0 : V m c main_v19 = up m c 31 main_v19 := by unfold V up; after_reads_simp
  have h1 : V m c main_v16 = up m c 31 main_v16 := by unfold V up; after_reads_simp
  have h2 : V m c main_v15 = up m c 31 main_v15 := by unfold V up; after_reads_simp
  rw [h0, h1, h2]
  unfold V
  rw [StableHlo.after_last_write (i := 31) (refs.drop 32) rfl rfl (by decide), StableHlo.nary_result]
  rfl

/-- The full table, its three rows stacked. -/
theorem v26_eq (c : Dev nD) : (V m c main_v26 : FVec Ideal S3x2048x128 .f32) = concatenate S3x2048x128 0
    [⟨S1x2048x128, (V m c main_v23 : FVec Ideal S1x2048x128 .f32)⟩,
      ⟨S1x2048x128, (V m c main_v24 : FVec Ideal S1x2048x128 .f32)⟩,
      ⟨S1x2048x128, (V m c main_v25 : FVec Ideal S1x2048x128 .f32)⟩]
    concatenates_S1x2048x128_S1x2048x128_S1x2048x128_S3x2048x128_d0 := by
  have h0 : V m c main_v23 = up m c 35 main_v23 := by unfold V up; after_reads_simp
  have h1 : V m c main_v24 = up m c 35 main_v24 := by unfold V up; after_reads_simp
  have h2 : V m c main_v25 = up m c 35 main_v25 := by unfold V up; after_reads_simp
  rw [h0, h1, h2]
  unfold V
  rw [StableHlo.after_last_write (i := 35) (refs.drop 36) rfl rfl (by decide), StableHlo.nary_result]
  rfl

/-- The half table's first row. -/
theorem v33_eq (c : Dev nD) : (V m c main_v33 : FVec Ideal S2048x128 .f32) = concatenate S2048x128 1
    [⟨S2048x8, (cosA m c : FVec Ideal S2048x8 .f32)⟩,
      ⟨S2048x8, (cosA m c : FVec Ideal S2048x8 .f32)⟩,
      ⟨S2048x48, (V m c main_v27 : FVec Ideal S2048x48 .f32)⟩,
      ⟨S2048x64, (V m c main_v31 : FVec Ideal S2048x64 .f32)⟩]
    concatenates_S2048x8_S2048x8_S2048x48_S2048x64_S2048x128_d1 := by
  have h0 : cosA m c = up m c 47 main_arg4 := by unfold up; after_reads_simp
  have h1 : V m c main_v27 = up m c 47 main_v27 := by unfold V up; after_reads_simp
  have h2 : V m c main_v31 = up m c 47 main_v31 := by unfold V up; after_reads_simp
  rw [h0, h1, h2]
  unfold V
  rw [StableHlo.after_last_write (i := 47) (refs.drop 48) rfl rfl (by decide), StableHlo.nary_result]
  rfl

/-- The second row of the half table. -/
theorem v34_eq (c : Dev nD) : (V m c main_v34 : FVec Ideal S2048x128 .f32) = concatenate S2048x128 1
    [⟨S2048x8, (V m c main_v29 : FVec Ideal S2048x8 .f32)⟩,
      ⟨S2048x8, (sinA m c : FVec Ideal S2048x8 .f32)⟩,
      ⟨S2048x48, (V m c main_v28 : FVec Ideal S2048x48 .f32)⟩,
      ⟨S2048x64, (V m c main_v30 : FVec Ideal S2048x64 .f32)⟩]
    concatenates_S2048x8_S2048x8_S2048x48_S2048x64_S2048x128_d1 := by
  have h0 : V m c main_v29 = up m c 48 main_v29 := by unfold V up; after_reads_simp
  have h1 : sinA m c = up m c 48 main_arg5 := by unfold up; after_reads_simp
  have h2 : V m c main_v28 = up m c 48 main_v28 := by unfold V up; after_reads_simp
  have h3 : V m c main_v30 = up m c 48 main_v30 := by unfold V up; after_reads_simp
  rw [h0, h1, h2, h3]
  unfold V
  rw [StableHlo.after_last_write (i := 48) (refs.drop 49) rfl rfl (by decide), StableHlo.nary_result]
  rfl

/-- The third row of the half table. -/
theorem v35_eq (c : Dev nD) : (V m c main_v35 : FVec Ideal S2048x128 .f32) = concatenate S2048x128 1
    [⟨S2048x8, (V m c main_v32 : FVec Ideal S2048x8 .f32)⟩,
      ⟨S2048x8, (V m c main_v29 : FVec Ideal S2048x8 .f32)⟩,
      ⟨S2048x48, (V m c main_v28 : FVec Ideal S2048x48 .f32)⟩,
      ⟨S2048x64, (V m c main_v30 : FVec Ideal S2048x64 .f32)⟩]
    concatenates_S2048x8_S2048x8_S2048x48_S2048x64_S2048x128_d1 := by
  have h0 : V m c main_v32 = up m c 49 main_v32 := by unfold V up; after_reads_simp
  have h1 : V m c main_v29 = up m c 49 main_v29 := by unfold V up; after_reads_simp
  have h2 : V m c main_v28 = up m c 49 main_v28 := by unfold V up; after_reads_simp
  have h3 : V m c main_v30 = up m c 49 main_v30 := by unfold V up; after_reads_simp
  rw [h0, h1, h2, h3]
  unfold V
  rw [StableHlo.after_last_write (i := 49) (refs.drop 50) rfl rfl (by decide), StableHlo.nary_result]
  rfl

/-- The half table, its three rows stacked. -/
theorem v39_eq (c : Dev nD) : (V m c main_v39 : FVec Ideal S3x2048x128 .f32) = concatenate S3x2048x128 0
    [⟨S1x2048x128, (V m c main_v36 : FVec Ideal S1x2048x128 .f32)⟩,
      ⟨S1x2048x128, (V m c main_v37 : FVec Ideal S1x2048x128 .f32)⟩,
      ⟨S1x2048x128, (V m c main_v38 : FVec Ideal S1x2048x128 .f32)⟩]
    concatenates_S1x2048x128_S1x2048x128_S1x2048x128_S3x2048x128_d0 := by
  have h0 : V m c main_v36 = up m c 53 main_v36 := by unfold V up; after_reads_simp
  have h1 : V m c main_v37 = up m c 53 main_v37 := by unfold V up; after_reads_simp
  have h2 : V m c main_v38 = up m c 53 main_v38 := by unfold V up; after_reads_simp
  rw [h0, h1, h2]
  unfold V
  rw [StableHlo.after_last_write (i := 53) (refs.drop 54) rfl rfl (by decide), StableHlo.nary_result]
  rfl

/-- The constant pieces of the tables. -/
theorem v14_at (c : Dev nD) : (V m c main_v14 : FVec Ideal S2048x48 .f32) = fun _ => (1 : EReal) := by
  unfold V; after_results; funext i; pointwise
theorem v15_at (c : Dev nD) : (V m c main_v15 : FVec Ideal S2048x48 .f32) = fun _ => (0 : EReal) := by
  unfold V; after_results; funext i; pointwise
theorem v16_at (c : Dev nD) : (V m c main_v16 : FVec Ideal S2048x8 .f32) = fun _ => (0 : EReal) := by
  unfold V; after_results; funext i; pointwise
theorem v19_at (c : Dev nD) : (V m c main_v19 : FVec Ideal S2048x8 .f32) = fun i => - sinA m c i := by
  unfold V; after_results; funext i; pointwise

/-- The three rows of a table whose first `H` lanes are rotated: cosines, sines and negated sines. -/
def row0 (c : Dev nD) (H : ℕ) (T : Fin 2048) (l : Fin 128) : EReal :=
  if l.val < H ∧ l.val % 64 < 16 then cosA m c (ix2 T ⟨l.val % 8, by omega⟩) else 1
def row1 (c : Dev nD) (H : ℕ) (T : Fin 2048) (l : Fin 128) : EReal :=
  if l.val < H ∧ 8 ≤ l.val % 64 ∧ l.val % 64 < 16 then sinA m c (ix2 T ⟨l.val % 8, by omega⟩) else 0
def row2 (c : Dev nD) (H : ℕ) (T : Fin 2048) (l : Fin 128) : EReal :=
  if l.val < H ∧ l.val % 64 < 8 then - sinA m c (ix2 T ⟨l.val % 8, by omega⟩) else 0

/-- An array read at two equal lanes. -/
theorem lane (A : FVec Ideal S2048x8 .f32) (T : Fin 2048) {a b : ℕ} (ha : a < 8) (hb : b < 8) (h : a = b) :
    A (ix2 T ⟨a, ha⟩) = A (ix2 T ⟨b, hb⟩) := by
  subst h; rfl

set_option maxHeartbeats 2000000 in
/-- The full table, row by row. -/
theorem tab4_arr (c : Dev nD) (T : Fin 2048) (l : Fin 128) :
    (V m c main_v26 : FVec Ideal S3x2048x128 .f32) (ix3 0 T l) = row0 m c 128 T l
      ∧ (V m c main_v26 : FVec Ideal S3x2048x128 .f32) (ix3 1 T l) = row1 m c 128 T l
      ∧ (V m c main_v26 : FVec Ideal S3x2048x128 .f32) (ix3 2 T l) = row2 m c 128 T l := by
  have e0 : V m c main_v23 = broadcastInDim S1x2048x128 ![1, 2] bcast_S2048x128_S1x2048x128_1_2 (V m c main_v20 : FVec Ideal S2048x128 .f32) := by
    unfold V; after_reads_simp
  have e1 : V m c main_v24 = broadcastInDim S1x2048x128 ![1, 2] bcast_S2048x128_S1x2048x128_1_2 (V m c main_v21 : FVec Ideal S2048x128 .f32) := by
    unfold V; after_reads_simp
  have e2 : V m c main_v25 = broadcastInDim S1x2048x128 ![1, 2] bcast_S2048x128_S1x2048x128_1_2 (V m c main_v22 : FVec Ideal S2048x128 .f32) := by
    unfold V; after_reads_simp
  rw [v26_eq, e0, e1, e2, v20_eq, v21_eq, v22_eq, v14_at, v15_at, v16_at, v19_at]
  refine ⟨?_, ?_, ?_⟩
  all_goals
    pointwise
    simp only [row0, row1, row2]
    split_ifs
  all_goals first
    | (exfalso; omega)
    | rfl
    | exact (if_neg (by omega)).symm
    | (refine (lane (cosA m c) T ?_ ?_ ?_).trans (if_pos ?_).symm <;> omega)
    | (refine (lane (sinA m c) T ?_ ?_ ?_).trans (if_pos ?_).symm <;> omega)
    | (refine (congrArg (fun e : EReal => -e) (lane (sinA m c) T ?_ ?_ ?_)).trans (if_pos ?_).symm <;> omega)

/-- The constant pieces of the half table. -/
theorem v27_at (c : Dev nD) : (V m c main_v27 : FVec Ideal S2048x48 .f32) = fun _ => (1 : EReal) := by
  unfold V; after_results; funext i; pointwise
theorem v28_at (c : Dev nD) : (V m c main_v28 : FVec Ideal S2048x48 .f32) = fun _ => (0 : EReal) := by
  unfold V; after_results; funext i; pointwise
theorem v29_at (c : Dev nD) : (V m c main_v29 : FVec Ideal S2048x8 .f32) = fun _ => (0 : EReal) := by
  unfold V; after_results; funext i; pointwise
theorem v30_at (c : Dev nD) : (V m c main_v30 : FVec Ideal S2048x64 .f32) = fun _ => (0 : EReal) := by
  unfold V; after_results; funext i; pointwise
theorem v31_at (c : Dev nD) : (V m c main_v31 : FVec Ideal S2048x64 .f32) = fun _ => (1 : EReal) := by
  unfold V; after_results; funext i; pointwise
theorem v32_at (c : Dev nD) : (V m c main_v32 : FVec Ideal S2048x8 .f32) = fun i => - sinA m c i := by
  unfold V; after_results; funext i; pointwise

set_option maxHeartbeats 2000000 in
/-- The half table, row by row. -/
theorem tab5_arr (c : Dev nD) (T : Fin 2048) (l : Fin 128) :
    (V m c main_v39 : FVec Ideal S3x2048x128 .f32) (ix3 0 T l) = row0 m c 64 T l
      ∧ (V m c main_v39 : FVec Ideal S3x2048x128 .f32) (ix3 1 T l) = row1 m c 64 T l
      ∧ (V m c main_v39 : FVec Ideal S3x2048x128 .f32) (ix3 2 T l) = row2 m c 64 T l := by
  have e0 : V m c main_v36 = broadcastInDim S1x2048x128 ![1, 2] bcast_S2048x128_S1x2048x128_1_2 (V m c main_v33 : FVec Ideal S2048x128 .f32) := by
    unfold V; after_reads_simp
  have e1 : V m c main_v37 = broadcastInDim S1x2048x128 ![1, 2] bcast_S2048x128_S1x2048x128_1_2 (V m c main_v34 : FVec Ideal S2048x128 .f32) := by
    unfold V; after_reads_simp
  have e2 : V m c main_v38 = broadcastInDim S1x2048x128 ![1, 2] bcast_S2048x128_S1x2048x128_1_2 (V m c main_v35 : FVec Ideal S2048x128 .f32) := by
    unfold V; after_reads_simp
  rw [v39_eq, e0, e1, e2, v33_eq, v34_eq, v35_eq, v27_at, v28_at, v29_at, v30_at, v31_at, v32_at]
  refine ⟨?_, ?_, ?_⟩
  all_goals
    pointwise
    simp only [row0, row1, row2]
    split_ifs
  all_goals first
    | (exfalso; omega)
    | rfl
    | exact (if_neg (by omega)).symm
    | (refine (lane (cosA m c) T ?_ ?_ ?_).trans (if_pos ?_).symm <;> omega)
    | (refine (lane (sinA m c) T ?_ ?_ ?_).trans (if_pos ?_).symm <;> omega)
    | (refine (congrArg (fun e : EReal => -e) (lane (sinA m c) T ?_ ?_ ?_)).trans (if_pos ?_).symm <;> omega)

/-- The bias row: the forget gate's bias at lanes 12 to 15, zero elsewhere. -/
theorem bias_arr (c : Dev nD) (l : Fin 128) :
    (V m c main_v4 : FVec Ideal S1x128 .f32) (ix2 0 l)
      = if h : 12 ≤ l.val ∧ l.val < 16 then fA m c (ix1 ⟨l.val - 12, by omega⟩) else (0 : EReal) := by
  unfold V
  after_results
  have land4 : ∀ k : Fin 4, (scatter_S1x128_S2_S4_0_0_01_0).resultIdx? (ix1 k)
      (concatenate S2 0 [⟨S1, broadcastInDim S1 ![] bcast_S_S1 (constantI S_ 32 0#32)⟩, ⟨S1, broadcastInDim S1 ![] bcast_S_S1 (constantI S_ 32 12#32)⟩]
        concatenates_S1_S1_S2_d0) = some (ix2 0 ⟨12 + k.val, by omega⟩ : S1x128.Idx) := by
    decide +kernel
  have ek : ∀ k : S4.Idx, k = ix1 (k 0) := fun k => funext fun a => by fin_cases a; rfl
  have hlt : ∀ k : S4.Idx, (k 0).val < 4 := fun k => (k 0).isLt
  have land : ∀ (k : S4.Idx) (hk : (scatter_S1x128_S2_S4_0_0_01_0).resultIdx? k
      (concatenate S2 0 [⟨S1, broadcastInDim S1 ![] bcast_S_S1 (constantI S_ 32 0#32)⟩, ⟨S1, broadcastInDim S1 ![] bcast_S_S1 (constantI S_ 32 12#32)⟩]
        concatenates_S1_S1_S2_d0) = some (ix2 0 l : S1x128.Idx)), 12 + (k 0).val = l.val := fun k hk =>
    congrArg Fin.val (congrFun (Option.some.inj (((congrArg (fun k => (scatter_S1x128_S2_S4_0_0_01_0).resultIdx? k _) (ek k)).trans (land4 (k 0))).symm.trans hk)) 1)
  by_cases h : 12 ≤ l.val ∧ l.val < 16
  · rw [dif_pos h]
    have el : (ix2 0 l : S1x128.Idx) = ix2 0 ⟨12 + (l.val - 12), by omega⟩ := congrArg (ix2 0) (Fin.ext (by dsimp only; omega))
    refine Idealize.ShloMosaic.Routing.scatter_set_hit _ _ _ _ _ _ (fun k hk => ?_) (ix1 ⟨l.val - 12, by omega⟩) ((land4 _).trans (congrArg some el.symm))
    have := land k hk
    exact (congrArg (fA m c) (ek k)).trans (congrArg (fun j => fA m c (ix1 j)) (Fin.ext (by dsimp only; omega)))
  · rw [dif_neg h]
    refine (Idealize.ShloMosaic.Routing.scatter_set_miss _ _ _ _ _ (fun k hk => ?_)).trans ?_
    · have := land k hk
      have := hlt k
      omega
    · pointwise

end Cert.KernelProjIdeal.Final

end
-- ==== Proof.ProjRows.lean ====
/- The input projection: the product's columns, the lanes rotated by position, and the gates, off the argument arrays. -/
module

public import proofs.«01_k».proof.Defs
public import proofs.«01_k».proof.Proof.ProjHead

@[expose] public section

set_option maxRecDepth 16384

noncomputable section

namespace Cert.KernelProjIdeal.Final

open Idealize.ShloMosaic Idealize.ShloMosaic.TcCoe Idealize.SL.Sem
open Idealize.ShloMosaic.Pipeline (Dat)
open Cert.KernelProjIdeal Cert.KernelProjIdeal.Gen Cert.ReferenceProjIdeal.Read

variable (m : (ℓ : Loc nD τ sig) → Buf (Elt Ideal) ℓ)

/-- The reference's projected rows. -/
def Y (c : Dev nD) : FVec Ideal Cert.ReferenceProjIdeal.S8x2048x2960 .f32 := val_main_v13 (F := Ideal) (xA m c) (gA m c) (wA m c)

/-- The reference's normalised rows. -/
def Xn (c : Dev nD) : FVec Ideal Cert.ReferenceProjIdeal.S8x2048x1024 .f32 := val_main_v12 (F := Ideal) (xA m c) (gA m c)

/-- The blocks of the input and of the norm's weight. -/
theorem x_arr (c : Dev nD) (R : Fin 16384) (k : Fin 1024) :
    (V m c main_v5 : FVec Ideal S16384x1024 .f32) (ix2 R k) = xA m c (ix3 ⟨R.val / 2048, by omega⟩ ⟨R.val % 2048, by omega⟩ k) := by
  unfold V; after_results; pointwise
theorem x_blk (c : Dev nD) (t : Fin cfg0.N) (r : Fin 512) (k : Fin 1024) :
    (iblk m c 0 t : Vec Ideal S512x1024 .f32) (ix2 r k) = xA m c (ix3 (bat t) (pos t r) k) := by
  have ht : t.val < 32 := t.isLt
  have e : (iblk m c 0 t : Vec Ideal S512x1024 .f32) (ix2 r k) = (V m c main_v5 : FVec Ideal S16384x1024 .f32) (ix2 ⟨t.val * 512 + r.val, by omega⟩ k) := by
    blk_point [iblk, idx t]
  rw [e, x_arr]
  exact congrArg₂ (fun a b => xA m c (ix3 a b k)) (Fin.ext (by simp only [bat]; omega)) (Fin.ext (by simp only [pos]; omega))
theorem g_blk (c : Dev nD) (t : Fin cfg0.N) (k : Fin 1024) : (iblk m c 1 t : Vec Ideal S1x1024 .f32) (ix2 0 k) = gA m c (ix1 k) := by
  have e : (iblk m c 1 t : Vec Ideal S1x1024 .f32) (ix2 0 k) = (V m c main_v6 : FVec Ideal S1x1024 .f32) (ix2 0 k) := by
    blk_point [iblk, idx t]
  rw [e]
  unfold V; after_results; pointwise

/-- The rows the body normalises are the reference's. -/
theorem xn (c : Dev nD) (t : Fin cfg0.N) (r : Fin 512) (k : Fin 1024) :
    k0_pay2 (F := Ideal) (iblk m c 0 t) (iblk m c 1 t) (ix2 r k) = Xn m c (ix3 (bat t) (pos t r) k) := by
  pointwise [k0_pay2, Xn, val_main_v12, val_main_v11, val_main_v10, val_main_v9, val_main_v8, val_main_v7, val_main_v6, val_main_v5,
    val_main_v4, val_main_v3, val_main_v2, val_main_v1, val_main_v0, val_main_cst, val_main_cst_0, val_main_cst_1]
  simp only [x_blk, g_blk]

/-- A column of the projected rows as a sum. -/
theorem Y_at (c : Dev nD) (b : Fin 8) (T : Fin 2048) (n : Fin 2960) :
    Y m c (ix3 b T n) = ∑ k : Fin 1024, Xn m c (ix3 b T k) * wA m c (ix2 k n) := by
  pointwise [Y, Xn, val_main_v13]

/-- A product of the normalised rows with 128 columns of weights, read at a column. -/
theorem slab128 (c : Dev nD) (t : Fin cfg0.N) (W : Vec Ideal S1024x128 .bf16) (r : Fin 512) (l : Fin 128) (n : Fin 2960)
    (hW : ∀ k, W (ix2 k l) = wA m c (ix2 k n)) :
    k0_pay10 (F := Ideal) (k0_pay2 (iblk m c 0 t) (iblk m c 1 t)) W (ix2 r l) = Y m c (ix3 (bat t) (pos t r) n) := by
  rw [Y_at]
  generalize hX : k0_pay2 (F := Ideal) (iblk m c 0 t) (iblk m c 1 t) = X
  have hx : ∀ k, X (ix2 r k) = Xn m c (ix3 (bat t) (pos t r) k) := fun k => hX ▸ xn m c t r k
  pointwise [k0_pay10]
  simp only [hx, hW]

theorem slab256 (c : Dev nD) (t : Fin cfg0.N) (W : Vec Ideal S1024x256 .bf16) (r : Fin 512) (l : Fin 256) (n : Fin 2960)
    (hW : ∀ k, W (ix2 k l) = wA m c (ix2 k n)) :
    k0_pay3 (F := Ideal) (iblk m c 0 t) (iblk m c 1 t) W (ix2 r l) = Y m c (ix3 (bat t) (pos t r) n) := by
  rw [Y_at]
  have hx : ∀ k, k0_pay2 (F := Ideal) (iblk m c 0 t) (iblk m c 1 t) (ix2 r k) = Xn m c (ix3 (bat t) (pos t r) k) := fun k => xn m c t r k
  unfold k0_pay3
  generalize k0_pay2 (F := Ideal) (iblk m c 0 t) (iblk m c 1 t) = X at hx
  pointwise
  simp only [hx, hW]

theorem slab512 (c : Dev nD) (t : Fin cfg0.N) (W : Vec Ideal S1024x512 .bf16) (r : Fin 512) (l : Fin 512) (n : Fin 2960)
    (hW : ∀ k, W (ix2 k l) = wA m c (ix2 k n)) :
    k0_pay16 (F := Ideal) (k0_pay2 (iblk m c 0 t) (iblk m c 1 t)) W (ix2 r l) = Y m c (ix3 (bat t) (pos t r) n) := by
  rw [Y_at]
  generalize hX : k0_pay2 (F := Ideal) (iblk m c 0 t) (iblk m c 1 t) = X
  have hx : ∀ k, X (ix2 r k) = Xn m c (ix3 (bat t) (pos t r) k) := fun k => hX ▸ xn m c t r k
  pointwise [k0_pay16]
  simp only [hx, hW]

/-- The slab of weights that starts at column `o`, its column `l` being column `n` of `w_in`. -/
theorem wslab (c : Dev nD) (t : Fin cfg0.N) (k : Fin 1024) (a : ℕ) (ha : a < 3072) (h : a < 2960) (n : Fin 2960) (hn : n.val = wcol a) :
    (iblk m c 2 t : Vec Ideal S1024x3072 .bf16) (ix2 k ⟨a, ha⟩) = wA m c (ix2 k n) := by
  rw [wgt_blk, wgt_arr m c k ⟨a, ha⟩ h]
  exact congrArg (fun j => wA m c (ix2 k j)) (Fin.ext hn.symm)

/-- The projected rows, the cosines and the sines at a natural number, zero outside the array. -/
def yv (c : Dev nD) (b : Fin 8) (T : Fin 2048) (n : ℕ) : EReal := if h : n < 2960 then Y m c (ix3 b T ⟨n, h⟩) else 0
def cv (c : Dev nD) (T : Fin 2048) (n : ℕ) : EReal := if h : n < 8 then cosA m c (ix2 T ⟨n, h⟩) else 0
def sv (c : Dev nD) (T : Fin 2048) (n : ℕ) : EReal := if h : n < 8 then sinA m c (ix2 T ⟨n, h⟩) else 0
theorem Y_eq (c : Dev nD) (b : Fin 8) (T : Fin 2048) (n : ℕ) (h : n < 2960) : Y m c (ix3 b T ⟨n, h⟩) = yv m c b T n := by
  unfold yv; rw [dif_pos h]
theorem yv_eq (c : Dev nD) (b : Fin 8) (T : Fin 2048) (n : ℕ) (h : n < 2960) :
    val_main_v13 (F := Ideal) (xA m c) (gA m c) (wA m c) (ix3 b T ⟨n, h⟩) = yv m c b T n := Y_eq m c b T n h
theorem cv_eq (c : Dev nD) (T : Fin 2048) (n : ℕ) (h : n < 8) : cosA m c (ix2 T ⟨n, h⟩) = cv m c T n := by
  unfold cv; rw [dif_pos h]
theorem sv_eq (c : Dev nD) (T : Fin 2048) (n : ℕ) (h : n < 8) : sinA m c (ix2 T ⟨n, h⟩) = sv m c T n := by
  unfold sv; rw [dif_pos h]

/-- A lane rotated by position: with the lanes of a head numbered 0 to 63, lanes 0 to 7 and 8 to 15 turn together by the
position's angles and the others stay; only lanes below `H` turn. -/
def rot (c : Dev nD) (H : ℕ) (T : Fin 2048) (f : ℕ → EReal) (l : ℕ) : EReal :=
  if l < H ∧ l % 64 < 8 then f l * cv m c T (l % 8) - f (l + 8) * sv m c T (l % 8)
  else if l < H ∧ l % 64 < 16 then f l * cv m c T (l % 8) + f (l - 8) * sv m c T (l % 8)
  else f l

/-- On 128 lanes from a multiple of 128 on, the three products of a table with the lanes, the lanes eight before and the lanes
eight after are the rotated lanes. -/
theorem rot_eq (c : Dev nD) (H G : ℕ) (T : Fin 2048) (f : ℕ → EReal) (o : ℕ) (ho : o % 128 = 0) (l : ℕ) (hl : l < 128)
    (hH : l < H ↔ o + l < G) :
    f (o + l) * row0 m c H T ⟨l, hl⟩ + f (o + (l + 128 - 8) % 128) * row1 m c H T ⟨l, hl⟩
      + f (o + (l + 128 - 120) % 128) * row2 m c H T ⟨l, hl⟩ = rot m c G T f (o + l) := by
  unfold row0 row1 row2 rot
  rw [show (o + l) % 64 = l % 64 by omega, show (o + l) % 8 = l % 8 by omega]
  by_cases h1 : l < H ∧ l % 64 < 8
  · rw [if_pos (show l < H ∧ l % 64 < 16 by omega), if_neg (show ¬(l < H ∧ 8 ≤ l % 64 ∧ l % 64 < 16) by omega), if_pos h1,
      if_pos (show o + l < G ∧ l % 64 < 8 by omega), mul_zero, add_zero, mul_neg, ← sub_eq_add_neg,
      show o + (l + 128 - 120) % 128 = o + l + 8 by omega, cv_eq, sv_eq]
  · rw [if_neg h1, if_neg (show ¬(o + l < G ∧ l % 64 < 8) by omega), mul_zero, add_zero]
    by_cases h2 : l < H ∧ l % 64 < 16
    · rw [if_pos h2, if_pos (show l < H ∧ 8 ≤ l % 64 ∧ l % 64 < 16 by omega), if_pos (show o + l < G ∧ l % 64 < 16 by omega),
        show o + (l + 128 - 8) % 128 = o + l - 8 by omega, cv_eq, sv_eq]
    · rw [if_neg h2, if_neg (show ¬(l < H ∧ 8 ≤ l % 64 ∧ l % 64 < 16) by omega), if_neg (show ¬(o + l < G ∧ l % 64 < 16) by omega),
        mul_one, mul_zero, add_zero]

/-- The rotation of the first eight lanes of a head. -/
theorem rot_lo (c : Dev nD) (H : ℕ) (T : Fin 2048) (f : ℕ → EReal) (l : ℕ) (hl : l < H) (h1 : l % 64 < 8) :
    f l * cosA m c (ix2 T ⟨l % 64, h1⟩) - f (l / 64 * 64 + (8 + l % 64)) * sinA m c (ix2 T ⟨l % 64, h1⟩) = rot m c H T f l := by
  unfold rot
  rw [if_pos ⟨hl, h1⟩, show l / 64 * 64 + (8 + l % 64) = l + 8 by omega, show l % 8 = l % 64 by omega, cv_eq, sv_eq]

/-- The rotation of the next eight. -/
theorem rot_mid (c : Dev nD) (H : ℕ) (T : Fin 2048) (f : ℕ → EReal) (l : ℕ) (hl : l < H) (h1 : ¬l % 64 < 8) (h2 : l % 64 - 8 < 8) :
    f (l / 64 * 64 + (8 + (l % 64 - 8))) * cosA m c (ix2 T ⟨l % 64 - 8, h2⟩)
      + f (l / 64 * 64 + (l % 64 - 8)) * sinA m c (ix2 T ⟨l % 64 - 8, h2⟩) = rot m c H T f l := by
  unfold rot
  rw [if_neg (show ¬(l < H ∧ l % 64 < 8) by omega), if_pos (show l < H ∧ l % 64 < 16 by omega),
    show l / 64 * 64 + (8 + (l % 64 - 8)) = l by omega, show l / 64 * 64 + (l % 64 - 8) = l - 8 by omega,
    show l % 8 = l % 64 - 8 by omega, cv_eq, sv_eq]

/-- The lanes after them. -/
theorem rot_hi (c : Dev nD) (H : ℕ) (T : Fin 2048) (f : ℕ → EReal) (l : ℕ) (h1 : ¬l % 64 < 8) (h2 : ¬l % 64 - 8 < 8) :
    f (l / 64 * 64 + (16 + (l % 64 - 8 - 8))) = rot m c H T f l := by
  unfold rot
  rw [if_neg (show ¬(l < H ∧ l % 64 < 8) by omega), if_neg (show ¬(l < H ∧ l % 64 < 16) by omega),
    show l / 64 * 64 + (16 + (l % 64 - 8 - 8)) = l by omega]

/-- The second head where only the first is rotated. -/
theorem rot_off (c : Dev nD) (T : Fin 2048) (f : ℕ → EReal) (l : ℕ) (h0 : ¬l / 64 < 1) :
    f ((1 + (l / 64 - 1)) * 64 + l % 64) = rot m c 64 T f l := by
  unfold rot
  rw [if_neg (show ¬(l < 64 ∧ l % 64 < 8) by omega), if_neg (show ¬(l < 64 ∧ l % 64 < 16) by omega),
    show (1 + (l / 64 - 1)) * 64 + l % 64 = l by omega]

/-- 128 lanes from a multiple of 128 on, through the full table. -/
theorem piece (c : Dev nD) (T : Fin 2048) (f : ℕ → EReal) (o : ℕ) (ho : o % 128 = 0) (l : ℕ) (hl : l < 128) (n : ℕ) (hn : o + l = n)
    (h5 : n < 512) :
    f (o + l) * (V m c main_v26 : FVec Ideal S3x2048x128 .f32) (ix3 0 T ⟨l, hl⟩)
      + f (o + (l + 128 - 8) % 128) * (V m c main_v26 : FVec Ideal S3x2048x128 .f32) (ix3 1 T ⟨l, hl⟩)
      + f (o + (l + 128 - 120) % 128) * (V m c main_v26 : FVec Ideal S3x2048x128 .f32) (ix3 2 T ⟨l, hl⟩) = rot m c 512 T f n := by
  rw [(tab4_arr m c T ⟨l, hl⟩).1, (tab4_arr m c T ⟨l, hl⟩).2.1, (tab4_arr m c T ⟨l, hl⟩).2.2,
    rot_eq m c 128 512 T f o ho l hl (by omega), hn]

/-- The first 128 lanes, through the full table. -/
theorem piece0 (c : Dev nD) (T : Fin 2048) (f : ℕ → EReal) (l : ℕ) (hl : l < 128) :
    f l * (V m c main_v26 : FVec Ideal S3x2048x128 .f32) (ix3 0 T ⟨l, hl⟩)
      + f ((l + 128 - 8) % 128) * (V m c main_v26 : FVec Ideal S3x2048x128 .f32) (ix3 1 T ⟨l, hl⟩)
      + f ((l + 128 - 120) % 128) * (V m c main_v26 : FVec Ideal S3x2048x128 .f32) (ix3 2 T ⟨l, hl⟩) = rot m c 512 T f l := by
  have h := piece m c T f 0 rfl l hl l (Nat.zero_add l) (by omega)
  simpa only [Nat.zero_add] using h

/-- 128 lanes through the half table. -/
theorem half0 (c : Dev nD) (T : Fin 2048) (f : ℕ → EReal) (l : ℕ) (hl : l < 128) :
    f l * (V m c main_v39 : FVec Ideal S3x2048x128 .f32) (ix3 0 T ⟨l, hl⟩)
      + f ((l + 128 - 8) % 128) * (V m c main_v39 : FVec Ideal S3x2048x128 .f32) (ix3 1 T ⟨l, hl⟩)
      + f ((l + 128 - 120) % 128) * (V m c main_v39 : FVec Ideal S3x2048x128 .f32) (ix3 2 T ⟨l, hl⟩) = rot m c 64 T f l := by
  have h := rot_eq m c 64 64 T f 0 rfl l hl (by omega)
  rw [(tab5_arr m c T ⟨l, hl⟩).1, (tab5_arr m c T ⟨l, hl⟩).2.1, (tab5_arr m c T ⟨l, hl⟩).2.2]
  simpa only [Nat.zero_add] using h

/-- What the body adds up on 128 lanes: the lanes times a table's first row, the lanes turned by eight times its second, the
lanes turned by 120 times its third. -/
theorem rope_apply (v : FVec Ideal S512x128 .f32) (t0 t1 t2 : Vec Ideal S1x512x128 .f32) (r : Fin 512) (l : Fin 128) :
    k0_pay12 (F := Ideal) v (mulf v (shapeCast S512x128 t0 shapeCasts_S1x512x128_S512x128)) t1 t2 (ix2 r l)
      = v (ix2 r l) * t0 (ix3 0 r l) + v (ix2 r ⟨(l.val + 128 - 8) % 128, by omega⟩) * t1 (ix3 0 r l)
        + v (ix2 r ⟨(l.val + 128 - 120) % 128, by omega⟩) * t2 (ix3 0 r l) := by
  pointwise [k0_pay12]

/-- A row of a grid point's tile in the array of all rows, and an array row's batch and position. -/
def Rw (t : Fin cfg0.N) (r : Fin 512) : Fin 16384 := ⟨t.val * 512 + r.val, by have : t.val < 32 := t.isLt; omega⟩
def rb (R : Fin 16384) : Fin 8 := ⟨R.val / 2048, by omega⟩
def rt (R : Fin 16384) : Fin 2048 := ⟨R.val % 2048, by omega⟩
theorem rb_Rw (t : Fin cfg0.N) (r : Fin 512) : rb (Rw t r) = bat t := Fin.ext (by simp only [rb, Rw, bat]; omega)
theorem rt_Rw (t : Fin cfg0.N) (r : Fin 512) : rt (Rw t r) = pos t r := Fin.ext (by simp only [rt, Rw, pos]; omega)

/-- A block and an array that hold one function of batch, position and lane agree where the block's index sits in the array. -/
theorem close {n : ℕ} (t : Fin cfg0.N) {K : (⟨2, ![512, n]⟩ : Shape).Idx → EReal} {A : (⟨2, ![16384, n]⟩ : Shape).Idx → EReal}
    {G : Fin 8 → Fin 2048 → Fin n → EReal} (hk : ∀ r l, K (ix2 r l) = G (bat t) (pos t r) l) (hA : ∀ R l, A (ix2 R l) = G (rb R) (rt R) l)
    (y : (⟨2, ![512, n]⟩ : Shape).Idx) (i : (⟨2, ![16384, n]⟩ : Shape).Idx) (h0 : (i 0).val = t.val * 512 + (y 0).val)
    (h1 : (i 1).val = (y 1).val) : K y = A i := by
  have hy : y = ix2 (y 0) (y 1) := by funext a; fin_cases a <;> rfl
  have hi : i = ix2 (Rw t (y 0)) (y 1) := by
    funext a; fin_cases a
    · exact Fin.ext h0
    · exact Fin.ext h1
  rw [hy, hi]
  exact (hk _ _).trans ((hA _ _).trans (congrArg₂ (fun b T => G b T (y 1)) (rb_Rw t (y 0)) (rt_Rw t (y 0)))).symm

/-- The five kinds of results: columns of the projected rows from `o` on, plain, scaled, rotated, and rotated and scaled. -/
def Gp (c : Dev nD) (o n : ℕ) (b : Fin 8) (T : Fin 2048) (l : Fin n) : EReal := yv m c b T (o + l.val)
def Gs (c : Dev nD) (o n : ℕ) (b : Fin 8) (T : Fin 2048) (l : Fin n) : EReal := yv m c b T (o + l.val) * Ideal.ofBits .f32 0x3E000000#32
def Gr (c : Dev nD) (o H n : ℕ) (b : Fin 8) (T : Fin 2048) (l : Fin n) : EReal := rot m c H T (fun k => yv m c b T (o + k)) l.val
def Grs (c : Dev nD) (o H n : ℕ) (b : Fin 8) (T : Fin 2048) (l : Fin n) : EReal :=
  rot m c H T (fun k => yv m c b T (o + k)) l.val * Ideal.ofBits .f32 0x3E000000#32

/-- The block index of every output window at every grid point. -/
theorem idxo : ∀ t : Fin cfg0.N, (win0_6.index t = ![t.val, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0]
    ∧ win0_13.index t = ![t.val, 0]) ∧ (win0_14.index t = ![t.val, 0] ∧ win0_15.index t = ![t.val, 0] ∧ win0_16.index t = ![t.val, 0]
    ∧ win0_17.index t = ![t.val, 0] ∧ win0_18.index t = ![t.val, 0] ∧ win0_19.index t = ![t.val, 0] ∧ win0_20.index t = ![t.val, 0]
    ∧ win0_21.index t = ![t.val, 0]) :=
  (by decide +kernel : ∀ t : Fin grid0.N, _)

end Cert.KernelProjIdeal.Final

end
-- ==== Proof.ProjRef.lean ====
/- The input projection: the reference's results read at a row and a lane. -/
module

public import proofs.«01_k».proof.Defs
public import proofs.«01_k».proof.Proof.ProjRows

@[expose] public section

set_option maxRecDepth 16384

noncomputable section

namespace Cert.KernelProjIdeal.Final

open Idealize.ShloMosaic Idealize.ShloMosaic.TcCoe Idealize.SL.Sem
open Idealize.ShloMosaic.Pipeline (Dat)
open Cert.KernelProjIdeal Cert.KernelProjIdeal.Gen Cert.ReferenceProjIdeal.Read

variable (m : (ℓ : Loc nD τ sig) → Buf (Elt Ideal) ℓ)

/-- The scaled queries of the first branch, not rotated. -/
theorem ref6 (c : Dev nD) (R : Fin 16384) (l : Fin 256) :
    val_main_v112 (F := Ideal) (xA m c) (gA m c) (wA m c) (ix2 R l) = Gs m c 0 256 (rb R) (rt R) l := by
  unfold Gs rb rt
  pointwise [val_main_v112, val_main_v111, val_main_v110, val_main_v109, val_main_cst_5, val_main_v14]
  simp only [yv_eq]

set_option maxHeartbeats 400000 in
/-- The scaled queries of the first branch, rotated. -/
theorem ref7 (c : Dev nD) (R : Fin 16384) (l : Fin 256) :
    val_main_v137 (F := Ideal) (xA m c) (gA m c) (wA m c) (cosA m c) (sinA m c) (ix2 R l) = Grs m c 0 512 256 (rb R) (rt R) l := by
  unfold Grs rb rt
  pointwise [val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_cst_6, val_main_v14]
  simp only [yv_eq]
  refine congrArg (fun e : EReal => e * Ideal.ofBits .f32 0x3E000000#32) ?_
  by_cases h1 : l.val % 64 < 8
  · simp only [h1, ↓reduceDIte]
    exact rot_lo m c 512 _ (fun k => yv m c ⟨R.val / 2048, by omega⟩ ⟨R.val % 2048, by omega⟩ k) l.val (by omega) h1
  by_cases h2 : l.val % 64 - 8 < 8
  · simp only [h1, h2, ↓reduceDIte]
    exact rot_mid m c 512 _ (fun k => yv m c ⟨R.val / 2048, by omega⟩ ⟨R.val % 2048, by omega⟩ k) l.val (by omega) h1 h2
  · simp only [h1, h2, ↓reduceDIte]
    exact rot_hi m c 512 _ (fun k => yv m c ⟨R.val / 2048, by omega⟩ ⟨R.val % 2048, by omega⟩ k) l.val h1 h2

/-- The keys and values the first branch compresses. -/
theorem ref8 (c : Dev nD) (R : Fin 16384) (l : Fin 128) :
    val_main_v138 (F := Ideal) (xA m c) (gA m c) (wA m c) (ix2 R l) = Gp m c 256 128 (rb R) (rt R) l := by
  unfold Gp rb rt
  pointwise [val_main_v138, val_main_v15]
  simp only [yv_eq]

set_option maxHeartbeats 400000 in
/-- The keys and values of the selected blocks, the keys rotated. -/
theorem ref9 (c : Dev nD) (R : Fin 16384) (l : Fin 128) :
    val_main_v49 (F := Ideal) (xA m c) (gA m c) (wA m c) (cosA m c) (sinA m c) (ix2 R l) = Gr m c 384 64 128 (rb R) (rt R) l := by
  unfold Gr rb rt
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v16]
  simp only [yv_eq]
  by_cases h0 : l.val / 64 < 1
  · simp only [h0, ↓reduceDIte]
    by_cases h1 : l.val % 64 < 8
    · simp only [h1, ↓reduceDIte]
      exact rot_lo m c 64 _ (fun k => yv m c ⟨R.val / 2048, by omega⟩ ⟨R.val % 2048, by omega⟩ (384 + k)) l.val (by omega) h1
    by_cases h2 : l.val % 64 - 8 < 8
    · simp only [h1, h2, ↓reduceDIte]
      exact rot_mid m c 64 _ (fun k => yv m c ⟨R.val / 2048, by omega⟩ ⟨R.val % 2048, by omega⟩ (384 + k)) l.val (by omega) h1 h2
    · simp only [h1, h2, ↓reduceDIte]
      exact rot_hi m c 64 _ (fun k => yv m c ⟨R.val / 2048, by omega⟩ ⟨R.val % 2048, by omega⟩ (384 + k)) l.val h1 h2
  · simp only [h0, ↓reduceDIte]
    exact rot_off m c _ (fun k => yv m c ⟨R.val / 2048, by omega⟩ ⟨R.val % 2048, by omega⟩ (384 + k)) l.val h0

/-- Their cast. -/
theorem ref10 (c : Dev nD) (R : Fin 16384) (l : Fin 128) :
    val_main_v139 (F := Ideal) (xA m c) (gA m c) (wA m c) (cosA m c) (sinA m c) (ix2 R l) = Gr m c 384 64 128 (rb R) (rt R) l :=
  ref9 m c R l
set_option maxHeartbeats 400000 in
/-- The keys and values of the window, the keys rotated. -/
theorem ref11 (c : Dev nD) (R : Fin 16384) (l : Fin 128) :
    val_main_v74 (F := Ideal) (xA m c) (gA m c) (wA m c) (cosA m c) (sinA m c) (ix2 R l) = Gr m c 512 64 128 (rb R) (rt R) l := by
  unfold Gr rb rt
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v17]
  simp only [yv_eq]
  by_cases h0 : l.val / 64 < 1
  · simp only [h0, ↓reduceDIte]
    by_cases h1 : l.val % 64 < 8
    · simp only [h1, ↓reduceDIte]
      exact rot_lo m c 64 _ (fun k => yv m c ⟨R.val / 2048, by omega⟩ ⟨R.val % 2048, by omega⟩ (512 + k)) l.val (by omega) h1
    by_cases h2 : l.val % 64 - 8 < 8
    · simp only [h1, h2, ↓reduceDIte]
      exact rot_mid m c 64 _ (fun k => yv m c ⟨R.val / 2048, by omega⟩ ⟨R.val % 2048, by omega⟩ (512 + k)) l.val (by omega) h1 h2
    · simp only [h1, h2, ↓reduceDIte]
      exact rot_hi m c 64 _ (fun k => yv m c ⟨R.val / 2048, by omega⟩ ⟨R.val % 2048, by omega⟩ (512 + k)) l.val h1 h2
  · simp only [h0, ↓reduceDIte]
    exact rot_off m c _ (fun k => yv m c ⟨R.val / 2048, by omega⟩ ⟨R.val % 2048, by omega⟩ (512 + k)) l.val h0

/-- Their cast. -/
theorem ref12 (c : Dev nD) (R : Fin 16384) (l : Fin 128) :
    val_main_v140 (F := Ideal) (xA m c) (gA m c) (wA m c) (cosA m c) (sinA m c) (ix2 R l) = Gr m c 512 64 128 (rb R) (rt R) l :=
  ref11 m c R l
set_option maxHeartbeats 400000 in
/-- The scaled queries of the second branch, rotated. -/
theorem ref13 (c : Dev nD) (R : Fin 16384) (l : Fin 512) :
    val_main_v165 (F := Ideal) (xA m c) (gA m c) (wA m c) (cosA m c) (sinA m c) (ix2 R l) = Grs m c 652 512 512 (rb R) (rt R) l := by
  unfold Grs rb rt
  pointwise [val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_cst_7, val_main_v19]
  simp only [yv_eq]
  refine congrArg (fun e : EReal => e * Ideal.ofBits .f32 0x3E000000#32) ?_
  by_cases h1 : l.val % 64 < 8
  · simp only [h1, ↓reduceDIte]
    exact rot_lo m c 512 _ (fun k => yv m c ⟨R.val / 2048, by omega⟩ ⟨R.val % 2048, by omega⟩ (652 + k)) l.val (by omega) h1
  by_cases h2 : l.val % 64 - 8 < 8
  · simp only [h1, h2, ↓reduceDIte]
    exact rot_mid m c 512 _ (fun k => yv m c ⟨R.val / 2048, by omega⟩ ⟨R.val % 2048, by omega⟩ (652 + k)) l.val (by omega) h1 h2
  · simp only [h1, h2, ↓reduceDIte]
    exact rot_hi m c 512 _ (fun k => yv m c ⟨R.val / 2048, by omega⟩ ⟨R.val % 2048, by omega⟩ (652 + k)) l.val h1 h2

set_option maxHeartbeats 400000 in
/-- The keys of the second branch, rotated. -/
theorem ref14 (c : Dev nD) (R : Fin 16384) (l : Fin 512) :
    val_main_v96 (F := Ideal) (xA m c) (gA m c) (wA m c) (cosA m c) (sinA m c) (ix2 R l) = Gr m c 1164 512 512 (rb R) (rt R) l := by
  unfold Gr rb rt
  pointwise [val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v20]
  simp only [yv_eq]
  by_cases h1 : l.val % 64 < 8
  · simp only [h1, ↓reduceDIte]
    exact rot_lo m c 512 _ (fun k => yv m c ⟨R.val / 2048, by omega⟩ ⟨R.val % 2048, by omega⟩ (1164 + k)) l.val (by omega) h1
  by_cases h2 : l.val % 64 - 8 < 8
  · simp only [h1, h2, ↓reduceDIte]
    exact rot_mid m c 512 _ (fun k => yv m c ⟨R.val / 2048, by omega⟩ ⟨R.val % 2048, by omega⟩ (1164 + k)) l.val (by omega) h1 h2
  · simp only [h1, h2, ↓reduceDIte]
    exact rot_hi m c 512 _ (fun k => yv m c ⟨R.val / 2048, by omega⟩ ⟨R.val % 2048, by omega⟩ (1164 + k)) l.val h1 h2

/-- Their cast. -/
theorem ref15 (c : Dev nD) (R : Fin 16384) (l : Fin 512) :
    val_main_v166 (F := Ideal) (xA m c) (gA m c) (wA m c) (cosA m c) (sinA m c) (ix2 R l) = Gr m c 1164 512 512 (rb R) (rt R) l :=
  ref14 m c R l
/-- The values of the second branch. -/
theorem ref16 (c : Dev nD) (R : Fin 16384) (l : Fin 512) :
    val_main_v167 (F := Ideal) (xA m c) (gA m c) (wA m c) (ix2 R l) = Gp m c 1676 512 (rb R) (rt R) l := by
  unfold Gp rb rt
  pointwise [val_main_v167, val_main_v21]
  simp only [yv_eq]

/-- Their cast. -/
theorem ref17 (c : Dev nD) (R : Fin 16384) (l : Fin 512) :
    val_main_v169 (F := Ideal) (xA m c) (gA m c) (wA m c) (ix2 R l) = Gp m c 1676 512 (rb R) (rt R) l := by
  unfold Gp rb rt
  pointwise [val_main_v169, val_main_v168, val_main_v21]
  simp only [yv_eq]

/-- The scaled queries of the third branch. -/
theorem ref18 (c : Dev nD) (R : Fin 16384) (l : Fin 256) :
    val_main_v173 (F := Ideal) (xA m c) (gA m c) (wA m c) (ix2 R l) = Gs m c 2188 256 (rb R) (rt R) l := by
  unfold Gs rb rt
  pointwise [val_main_v173, val_main_v172, val_main_v171, val_main_v170, val_main_cst_8, val_main_v22]
  simp only [yv_eq]

/-- The keys and values of the third branch. -/
theorem ref19 (c : Dev nD) (R : Fin 16384) (l : Fin 512) :
    val_main_v174 (F := Ideal) (xA m c) (gA m c) (wA m c) (ix2 R l) = Gp m c 2444 512 (rb R) (rt R) l := by
  unfold Gp rb rt
  pointwise [val_main_v174, val_main_v23]
  simp only [yv_eq]

/-- Their cast. -/
theorem ref20 (c : Dev nD) (R : Fin 16384) (l : Fin 512) :
    val_main_v176 (F := Ideal) (xA m c) (gA m c) (wA m c) (ix2 R l) = Gp m c 2444 512 (rb R) (rt R) l := by
  unfold Gp rb rt
  pointwise [val_main_v176, val_main_v175, val_main_v23]
  simp only [yv_eq]

end Cert.KernelProjIdeal.Final

end
-- ==== Proof.ProjKer.lean ====
/- The input projection: the blocks the kernel's body writes, read at a row and a lane. -/
module

public import proofs.«01_k».proof.Defs
public import proofs.«01_k».proof.Proof.ProjRows

@[expose] public section

set_option maxRecDepth 16384

noncomputable section

namespace Cert.KernelProjIdeal.Final

open Idealize.ShloMosaic Idealize.ShloMosaic.TcCoe Idealize.SL.Sem
open Idealize.ShloMosaic.Pipeline (Dat)
open Cert.KernelProjIdeal Cert.KernelProjIdeal.Gen Cert.ReferenceProjIdeal.Read

variable (m : (ℓ : Loc nD τ sig) → Buf (Elt Ideal) ℓ)

/-- The normalised rows are formed from the whole blocks. -/
theorem pay37_eq (c : Dev nD) (t : Fin cfg0.N) : k0_pay37 (F := Ideal) (iblk m c 0 t) (iblk m c 1 t) (iblk m c 2 t) (iblk m c 3 t)
    (iblk m c 4 t) (iblk m c 5 t) = k0_pay2 (F := Ideal) (iblk m c 0 t) (iblk m c 1 t) := by
  unfold k0_pay37
  frame_out

/-- Row 0 of the full table's block. -/
theorem ld4_0 (c : Dev nD) (t : Fin cfg0.N) (r : Fin 512) (l : Fin 128) :
    View.ld (iblk m c 4 t : Vec Ideal S3x512x128 .f32) r0_4 (ix3 0 r l) = (V m c main_v26 : FVec Ideal S3x2048x128 .f32) (ix3 0 (pos t r) l) := by
  pointwise
  exact tab4_blk m c t 0 r l

/-- Row 1 of the full table's block. -/
theorem ld4_1 (c : Dev nD) (t : Fin cfg0.N) (r : Fin 512) (l : Fin 128) :
    View.ld (iblk m c 4 t : Vec Ideal S3x512x128 .f32) r0_5 (ix3 0 r l) = (V m c main_v26 : FVec Ideal S3x2048x128 .f32) (ix3 1 (pos t r) l) := by
  pointwise
  exact tab4_blk m c t 1 r l

/-- Row 2 of the full table's block. -/
theorem ld4_2 (c : Dev nD) (t : Fin cfg0.N) (r : Fin 512) (l : Fin 128) :
    View.ld (iblk m c 4 t : Vec Ideal S3x512x128 .f32) r0_6 (ix3 0 r l) = (V m c main_v26 : FVec Ideal S3x2048x128 .f32) (ix3 2 (pos t r) l) := by
  pointwise
  exact tab4_blk m c t 2 r l

/-- Row 0 of the half table's block. -/
theorem ld5_0 (c : Dev nD) (t : Fin cfg0.N) (r : Fin 512) (l : Fin 128) :
    View.ld (iblk m c 5 t : Vec Ideal S3x512x128 .f32) r0_4 (ix3 0 r l) = (V m c main_v39 : FVec Ideal S3x2048x128 .f32) (ix3 0 (pos t r) l) := by
  pointwise
  exact tab5_blk m c t 0 r l

/-- Row 1 of the half table's block. -/
theorem ld5_1 (c : Dev nD) (t : Fin cfg0.N) (r : Fin 512) (l : Fin 128) :
    View.ld (iblk m c 5 t : Vec Ideal S3x512x128 .f32) r0_5 (ix3 0 r l) = (V m c main_v39 : FVec Ideal S3x2048x128 .f32) (ix3 1 (pos t r) l) := by
  pointwise
  exact tab5_blk m c t 1 r l

/-- Row 2 of the half table's block. -/
theorem ld5_2 (c : Dev nD) (t : Fin cfg0.N) (r : Fin 512) (l : Fin 128) :
    View.ld (iblk m c 5 t : Vec Ideal S3x512x128 .f32) r0_6 (ix3 0 r l) = (V m c main_v39 : FVec Ideal S3x2048x128 .f32) (ix3 2 (pos t r) l) := by
  pointwise
  exact tab5_blk m c t 2 r l

/-- The slab of weights from column 256 of the permuted weights on. -/
theorem ldw7 (c : Dev nD) (t : Fin cfg0.N) (k : Fin 1024) (l : Fin 128) :
    View.ld (iblk m c 2 t : Vec Ideal S1024x3072 .bf16) r0_7 (ix2 k l) = wA m c (ix2 k ⟨256 + l.val, by omega⟩) := by
  pointwise
  exact wslab m c t k (256 + l.val) (by omega) (by omega) _ (by simp only [wcol]; split_ifs <;> omega)

/-- The slab of weights from column 384 of the permuted weights on. -/
theorem ldw9 (c : Dev nD) (t : Fin cfg0.N) (k : Fin 1024) (l : Fin 128) :
    View.ld (iblk m c 2 t : Vec Ideal S1024x3072 .bf16) r0_9 (ix2 k l) = wA m c (ix2 k ⟨384 + l.val, by omega⟩) := by
  pointwise
  exact wslab m c t k (384 + l.val) (by omega) (by omega) _ (by simp only [wcol]; split_ifs <;> omega)

/-- The slab of weights from column 512 of the permuted weights on. -/
theorem ldw10 (c : Dev nD) (t : Fin cfg0.N) (k : Fin 1024) (l : Fin 128) :
    View.ld (iblk m c 2 t : Vec Ideal S1024x3072 .bf16) r0_10 (ix2 k l) = wA m c (ix2 k ⟨512 + l.val, by omega⟩) := by
  pointwise
  exact wslab m c t k (512 + l.val) (by omega) (by omega) _ (by simp only [wcol]; split_ifs <;> omega)

/-- The slab of weights from column 0 of the permuted weights on. -/
theorem ldw2 (c : Dev nD) (t : Fin cfg0.N) (k : Fin 1024) (l : Fin 256) :
    View.ld (iblk m c 2 t : Vec Ideal S1024x3072 .bf16) r0_2 (ix2 k l) = wA m c (ix2 k ⟨0 + l.val, by omega⟩) := by
  pointwise
  exact wslab m c t k l.val (by omega) (by omega) _ (by simp only [wcol]; split_ifs <;> omega)

/-- The slab of weights from column 2176 of the permuted weights on. -/
theorem ldw15 (c : Dev nD) (t : Fin cfg0.N) (k : Fin 1024) (l : Fin 256) :
    View.ld (iblk m c 2 t : Vec Ideal S1024x3072 .bf16) r0_15 (ix2 k l) = wA m c (ix2 k ⟨2188 + l.val, by omega⟩) := by
  pointwise
  exact wslab m c t k (2176 + l.val) (by omega) (by omega) _ (by simp only [wcol]; split_ifs <;> omega)

/-- The slab of weights from column 640 of the permuted weights on. -/
theorem ldw11 (c : Dev nD) (t : Fin cfg0.N) (k : Fin 1024) (l : Fin 512) :
    View.ld (iblk m c 2 t : Vec Ideal S1024x3072 .bf16) r0_11 (ix2 k l) = wA m c (ix2 k ⟨652 + l.val, by omega⟩) := by
  pointwise
  exact wslab m c t k (640 + l.val) (by omega) (by omega) _ (by simp only [wcol]; split_ifs <;> omega)

/-- The slab of weights from column 1152 of the permuted weights on. -/
theorem ldw13 (c : Dev nD) (t : Fin cfg0.N) (k : Fin 1024) (l : Fin 512) :
    View.ld (iblk m c 2 t : Vec Ideal S1024x3072 .bf16) r0_13 (ix2 k l) = wA m c (ix2 k ⟨1164 + l.val, by omega⟩) := by
  pointwise
  exact wslab m c t k (1152 + l.val) (by omega) (by omega) _ (by simp only [wcol]; split_ifs <;> omega)

/-- The slab of weights from column 1664 of the permuted weights on. -/
theorem ldw14 (c : Dev nD) (t : Fin cfg0.N) (k : Fin 1024) (l : Fin 512) :
    View.ld (iblk m c 2 t : Vec Ideal S1024x3072 .bf16) r0_14 (ix2 k l) = wA m c (ix2 k ⟨1676 + l.val, by omega⟩) := by
  pointwise
  exact wslab m c t k (1664 + l.val) (by omega) (by omega) _ (by simp only [wcol]; split_ifs <;> omega)

/-- The slab of weights from column 2432 of the permuted weights on. -/
theorem ldw16 (c : Dev nD) (t : Fin cfg0.N) (k : Fin 1024) (l : Fin 512) :
    View.ld (iblk m c 2 t : Vec Ideal S1024x3072 .bf16) r0_16 (ix2 k l) = wA m c (ix2 k ⟨2444 + l.val, by omega⟩) := by
  pointwise
  exact wslab m c t k (2432 + l.val) (by omega) (by omega) _ (by simp only [wcol]; split_ifs <;> omega)

/-- A product with a slab of 128 columns. -/
theorem p128 (c : Dev nD) (t : Fin cfg0.N) (W : Vec Ideal S1024x128 .bf16) (o : ℕ) (ho : o + 128 ≤ 2960) (r : Fin 512)
    (hW : ∀ k (l : Fin 128), W (ix2 k l) = wA m c (ix2 k ⟨o + l.val, by omega⟩)) (l : Fin 128) :
    k0_pay10 (F := Ideal) (k0_pay2 (iblk m c 0 t) (iblk m c 1 t)) W (ix2 r l) = yv m c (bat t) (pos t r) (o + l.val) :=
  (slab128 m c t W r l _ fun k => hW k l).trans (Y_eq m c _ _ _ _)

/-- A product with a slab of 256 columns. -/
theorem p256 (c : Dev nD) (t : Fin cfg0.N) (W : Vec Ideal S1024x256 .bf16) (o : ℕ) (ho : o + 256 ≤ 2960) (r : Fin 512)
    (hW : ∀ k (l : Fin 256), W (ix2 k l) = wA m c (ix2 k ⟨o + l.val, by omega⟩)) (l : Fin 256) :
    k0_pay3 (F := Ideal) (iblk m c 0 t) (iblk m c 1 t) W (ix2 r l) = yv m c (bat t) (pos t r) (o + l.val) :=
  (slab256 m c t W r l _ fun k => hW k l).trans (Y_eq m c _ _ _ _)

/-- A product with a slab of 512 columns. -/
theorem p512 (c : Dev nD) (t : Fin cfg0.N) (W : Vec Ideal S1024x512 .bf16) (o : ℕ) (ho : o + 512 ≤ 2960) (r : Fin 512)
    (hW : ∀ k (l : Fin 512), W (ix2 k l) = wA m c (ix2 k ⟨o + l.val, by omega⟩)) (l : Fin 512) :
    k0_pay16 (F := Ideal) (k0_pay2 (iblk m c 0 t) (iblk m c 1 t)) W (ix2 r l) = yv m c (bat t) (pos t r) (o + l.val) :=
  (slab512 m c t W r l _ fun k => hW k l).trans (Y_eq m c _ _ _ _)

/-- A scaled product. -/
theorem scaled4 (a : Vec Ideal S512x1024 .f32) (b : Vec Ideal S1x1024 .f32) (W : Vec Ideal S1024x256 .bf16) (r : Fin 512) (l : Fin 256) :
    k0_pay4 (F := Ideal) a b W (ix2 r l) = k0_pay3 (F := Ideal) a b W (ix2 r l) * Ideal.ofBits .f32 0x3E000000#32 := by
  unfold k0_pay4
  generalize k0_pay3 (F := Ideal) a b W = P
  pointwise

/-- A rotated half of 128 lanes. -/
theorem rot12 (c : Dev nD) (X : FVec Ideal S512x1024 .bf16) (W : Vec Ideal S1024x128 .bf16) (t0 t1 t2 : Vec Ideal S1x512x128 .f32)
    (T : Fin 2048) (f : ℕ → EReal) (r : Fin 512) (hP : ∀ l : Fin 128, k0_pay10 (F := Ideal) X W (ix2 r l) = f l.val)
    (h0 : ∀ l, t0 (ix3 0 r l) = (V m c main_v39 : FVec Ideal S3x2048x128 .f32) (ix3 0 T l))
    (h1 : ∀ l, t1 (ix3 0 r l) = (V m c main_v39 : FVec Ideal S3x2048x128 .f32) (ix3 1 T l))
    (h2 : ∀ l, t2 (ix3 0 r l) = (V m c main_v39 : FVec Ideal S3x2048x128 .f32) (ix3 2 T l)) (l : Fin 128) :
    k0_pay12 (F := Ideal) (k0_pay10 X W) (k0_pay11 X W t0) t1 t2 (ix2 r l) = rot m c 64 T f l.val := by
  unfold k0_pay11
  rw [rope_apply, hP, hP, hP, h0, h1, h2]
  exact half0 m c T f l.val l.isLt

/-- A rotated and scaled slab of 256 lanes. -/
theorem rot8 (c : Dev nD) (a : Vec Ideal S512x1024 .f32) (b : Vec Ideal S1x1024 .f32) (W : Vec Ideal S1024x256 .bf16)
    (t0 t1 t2 : Vec Ideal S1x512x128 .f32)
    (T : Fin 2048) (f : ℕ → EReal) (r : Fin 512) (hP : ∀ l : Fin 256, k0_pay3 (F := Ideal) a b W (ix2 r l) = f l.val)
    (h0 : ∀ l, t0 (ix3 0 r l) = (V m c main_v26 : FVec Ideal S3x2048x128 .f32) (ix3 0 T l))
    (h1 : ∀ l, t1 (ix3 0 r l) = (V m c main_v26 : FVec Ideal S3x2048x128 .f32) (ix3 1 T l))
    (h2 : ∀ l, t2 (ix3 0 r l) = (V m c main_v26 : FVec Ideal S3x2048x128 .f32) (ix3 2 T l)) (l : Fin 256) :
    k0_pay8 (F := Ideal) (k0_pay3 a b W) (k0_pay6 a b W t0 t1) (k0_pay7 a b W) t2 t0 t1 t2 (ix2 r l)
      = rot m c 512 T f l.val * Ideal.ofBits .f32 0x3E000000#32 := by
  unfold k0_pay8 k0_pay6 k0_pay7 k0_pay5
  generalize k0_pay3 (F := Ideal) a b W = P at hP
  pointwise
  simp only [hP, h0, h1, h2]
  refine congrArg (fun e : EReal => e * Ideal.ofBits .f32 0x3E000000#32) ?_
  by_cases g1 : l.val < 128
  · simp only [g1, ↓reduceDIte]
    exact piece0 m c T f l.val g1
  · simp only [g1, ↓reduceDIte]
    exact piece m c T f 128 rfl (l.val - 128) (by omega) l.val (by omega) (by omega)

/-- A rotated slab of 512 lanes. -/
theorem rot27 (c : Dev nD) (X : FVec Ideal S512x1024 .bf16) (W : Vec Ideal S1024x512 .bf16) (t0 t1 t2 : Vec Ideal S1x512x128 .f32)
    (T : Fin 2048) (f : ℕ → EReal) (r : Fin 512) (hP : ∀ l : Fin 512, k0_pay16 (F := Ideal) X W (ix2 r l) = f l.val)
    (h0 : ∀ l, t0 (ix3 0 r l) = (V m c main_v26 : FVec Ideal S3x2048x128 .f32) (ix3 0 T l))
    (h1 : ∀ l, t1 (ix3 0 r l) = (V m c main_v26 : FVec Ideal S3x2048x128 .f32) (ix3 1 T l))
    (h2 : ∀ l, t2 (ix3 0 r l) = (V m c main_v26 : FVec Ideal S3x2048x128 .f32) (ix3 2 T l)) (l : Fin 512) :
    k0_pay27 (F := Ideal) (k0_pay23 X W) (k0_pay24 X W t0 t1 t2) (k0_pay25 X W t0 t1 t2) (k0_pay26 X W) t0 t1 t2 t0 t1 t2 (ix2 r l)
      = rot m c 512 T f l.val := by
  replace hP : ∀ l : Fin 512, k0_pay23 (F := Ideal) X W (ix2 r l) = f l.val := hP
  unfold k0_pay27 k0_pay24 k0_pay25 k0_pay26
  generalize k0_pay23 (F := Ideal) X W = P at hP
  pointwise
  simp only [hP, h0, h1, h2]
  by_cases g1 : l.val < 128
  · simp only [g1, ↓reduceDIte]
    exact piece0 m c T f l.val g1
  by_cases g2 : l.val - 128 < 128
  · simp only [g1, g2, ↓reduceDIte]
    exact piece m c T f 128 rfl (l.val - 128) (by omega) l.val (by omega) (by omega)
  by_cases g3 : l.val - 128 - 128 < 128
  · simp only [g1, g2, g3, ↓reduceDIte]
    exact piece m c T f 256 rfl (l.val - 128 - 128) (by omega) l.val (by omega) (by omega)
  · simp only [g1, g2, g3, ↓reduceDIte]
    exact piece m c T f 384 rfl (l.val - 128 - 128 - 128) (by omega) l.val (by omega) (by omega)

/-- A rotated and scaled slab of 512 lanes is the rotated slab, scaled. -/
theorem rot22 (X : FVec Ideal S512x1024 .bf16) (W : Vec Ideal S1024x512 .bf16) (t0 t1 t2 : Vec Ideal S1x512x128 .f32) (r l : Fin 512) :
    k0_pay22 (F := Ideal) (k0_pay16 X W) (k0_pay17 X W t0 t1 t2) (k0_pay19 X W t0 t1) (k0_pay20 X W) (k0_pay21 t2) t0 t1 t2 t0 t1 t2 (ix2 r l)
      = k0_pay27 (F := Ideal) (k0_pay23 X W) (k0_pay24 X W t0 t1 t2) (k0_pay25 X W t0 t1 t2) (k0_pay26 X W) t0 t1 t2 t0 t1 t2 (ix2 r l)
        * Ideal.ofBits .f32 0x3E000000#32 := rfl

end Cert.KernelProjIdeal.Final

end
-- ==== Proof.ProjGates.lean ====
/- The input projection: the gates and the logarithms of the forget gates. -/
module

public import proofs.«01_k».proof.Defs
public import proofs.«01_k».proof.Proof.ProjKer

@[expose] public section

set_option maxRecDepth 16384

noncomputable section

namespace Cert.KernelProjIdeal.Final

open Idealize.ShloMosaic Idealize.ShloMosaic.TcCoe Idealize.SL.Sem
open Idealize.ShloMosaic.Pipeline (Dat)
open Cert.KernelProjIdeal Cert.KernelProjIdeal.Gen Cert.ReferenceProjIdeal.Read

variable (m : (ℓ : Loc nD τ sig) → Buf (Elt Ideal) ℓ)

/-- `log (1 + eˣ)` is never minus infinity. -/
theorem log1p_exp_ne (w : EReal) : Ideal.log1p (Ideal.exp w) ≠ ⊥ := by
  have key : ∀ a : ℝ, 0 ≤ a → Ideal.log (1 + (a : EReal)) ≠ ⊥ := by
    intro a ha
    rw [← EReal.coe_one, ← EReal.coe_add]
    show (if (1 + a : ℝ) ≤ 0 then (⊥ : EReal) else (Real.log (1 + a) : EReal)) ≠ ⊥
    rw [if_neg (by linarith)]
    exact EReal.coe_ne_bot _
  induction w with
  | bot => exact key 0 le_rfl
  | top =>
    show Ideal.log ((1 : EReal) + ⊤) ≠ ⊥
    rw [show (1 : EReal) + ⊤ = ⊤ from rfl]
    exact (bot_ne_top (α := EReal)).symm
  | coe r => exact key _ (Real.exp_pos r).le

/-- The reference's logarithm of the sigmoid is the kernel's. -/
theorem logsig (z : EReal) : -(max (-z) 0 + Ideal.log1p (Ideal.exp (-(max (-z) (- -z)))))
    = min z 0 - Ideal.log1p (Ideal.exp (0 - max z (-z))) := by
  have e : max (-z) (- -z) = max z (-z) := by rw [neg_neg, max_comm]
  have e0 : (0 : EReal) - max z (-z) = -max z (-z) := by rw [sub_eq_add_neg, zero_add]
  rw [e, e0]
  have hL := log1p_exp_ne (-max z (-z))
  generalize Ideal.log1p (Ideal.exp (-max z (-z))) = L at hL
  have hm : max (-z) 0 ≠ ⊥ := fun h => by
    have h1 : (0 : EReal) ≤ max (-z) 0 := le_max_right _ _
    rw [h] at h1
    exact absurd h1 (by simp)
  have hn : -max (-z) 0 = min z 0 := by
    rcases le_total z 0 with h | h
    · rw [min_eq_left h, max_eq_left (EReal.le_neg_of_le_neg (by simpa using h)), neg_neg]
    · rw [min_eq_right h, max_eq_right (EReal.neg_le_of_neg_le (by simpa using h)), neg_zero]
  rw [EReal.neg_add (Or.inl hm) (Or.inr hL), hn]

/-- The bias of the forget gates at a natural number. -/
def fv (c : Dev nD) (n : ℕ) : EReal := if h : n < 4 then fA m c (ix1 ⟨n, h⟩) else 0

/-- It is the bias inside the array. -/
theorem fv_eq (c : Dev nD) (n : ℕ) (h : n < 4) : fA m c (ix1 ⟨n, h⟩) = fv m c n := by
  unfold fv
  rw [dif_pos h]

/-- The gates in lanes 0 to 11, the logarithms of the forget gates in lanes 12 to 15, zeros after them. -/
def Gm (c : Dev nD) (b : Fin 8) (T : Fin 2048) (l : Fin 128) : EReal :=
  if l.val < 12 then Ideal.div 1 (1 + Ideal.exp (-yv m c b T (640 + l.val)))
  else if l.val < 16 then min (yv m c b T (2956 + (l.val - 12)) + fv m c (l.val - 12)) 0
    - Ideal.log1p (Ideal.exp (0 - max (yv m c b T (2956 + (l.val - 12)) + fv m c (l.val - 12)) (-(yv m c b T (2956 + (l.val - 12)) + fv m c (l.val - 12)))))
  else 0

/-- The reference's gates. -/
theorem ref21 (c : Dev nD) (R : Fin 16384) (l : Fin 128) :
    val_main_v177 (F := Ideal) (xA m c) (gA m c) (wA m c) (fA m c) (ix2 R l) = Gm m c (rb R) (rt R) l := by
  unfold rb rt
  pointwise [val_main_v177, val_main_v108, val_main_v107, val_main_cst_4, val_main_v106, val_main_call0_v1, val_main_call0_call0_v11,
    val_main_call0_call0_v10, val_main_call0_call0_v9, val_main_call0_call0_v8, val_main_call0_call0_v7, val_main_call0_call0_v6,
    val_main_call0_call0_v5, val_main_call0_call0_v4, val_main_call0_call0_v3, val_main_call0_call0_v2, val_main_call0_call0_v1,
    val_main_call0_call0_v0, val_main_call0_call0_cst, val_main_call0_v0, val_main_v105, val_main_v104, val_main_v103, val_main_v102,
    val_main_v101, val_main_v100, val_main_v99, val_main_v98, val_main_v97, val_main_cst_2, val_main_cst_3, val_main_v18, val_main_v24]
  simp only [yv_eq]
  unfold Gm
  by_cases h1 : l.val < 12
  · simp only [h1, ↓reduceDIte, ↓reduceIte]
  by_cases h2 : l.val - 12 < 4
  · have h3 : l.val < 16 := by omega
    simp only [h1, h2, h3, ↓reduceDIte, ↓reduceIte, ne_eq, not_true_eq_false, fv]
    exact logsig _
  · have h3 : ¬l.val < 16 := by omega
    simp only [h1, h2, h3, ↓reduceDIte, ↓reduceIte]

/-- The comparison of a lane's number with 12 and with 16. -/
theorem lanes : ∀ l : Fin 128, IntOp.cmpi .slt (BitVec.ofNat 32 l.val) 12#32 = (if l.val < 12 then 1#1 else 0#1)
    ∧ IntOp.cmpi .slt (BitVec.ofNat 32 l.val) 16#32 = (if l.val < 16 then 1#1 else 0#1) := by
  decide +kernel

/-- The body's gates from its biased products. -/
theorem sel21 (Z : FVec Ideal S512x128 .f32) (r : Fin 512) (l : Fin 128) :
    k0_pay1 (F := Ideal) Z (iota .tc S512x128 32 [1] iota_S512x128_d1_w32) (exp (subf (broadcast S512x128 (Scalar.ofBits .f32 0x00000000#32)) Z)) (k0_pay36 (F := Ideal)) (ix2 r l)
      = if l.val < 12 then Ideal.div 1 (1 + Ideal.exp (-Z (ix2 r l)))
        else if l.val < 16 then min (Z (ix2 r l)) 0 - Ideal.log1p (Ideal.exp (0 - max (Z (ix2 r l)) (-Z (ix2 r l)))) else 0 := by
  unfold k0_pay1 k0_pay36
  pointwise
  rw [(lanes l).1, (lanes l).2, sub_eq_add_neg (0 : EReal) (Z (ix2 r l)), zero_add]
  by_cases h1 : l.val < 12
  · rw [if_pos h1, if_pos h1]
    rfl
  by_cases h2 : l.val < 16
  · rw [if_neg h1, if_neg h1, if_pos h2, if_pos h2]
    rfl
  · rw [if_neg h1, if_neg h1, if_neg h2, if_neg h2]
    rfl

/-- A biased product. -/
theorem z34 (X : FVec Ideal S512x1024 .bf16) (W : Vec Ideal S1024x128 .bf16) (b : Vec Ideal S1x128 .f32) (r : Fin 512) (l : Fin 128) :
    k0_pay34 (F := Ideal) X W b (ix2 r l) = k0_pay10 (F := Ideal) X W (ix2 r l) + b (ix2 0 l) := by
  unfold k0_pay34 k0_pay10
  pointwise

/-- The exponential of its negative. -/
theorem e35 (X : FVec Ideal S512x1024 .bf16) (W : Vec Ideal S1024x128 .bf16) (b : Vec Ideal S1x128 .f32) :
    k0_pay35 (F := Ideal) X W b = exp (subf (broadcast S512x128 (Scalar.ofBits .f32 0x00000000#32)) (k0_pay34 (F := Ideal) X W b)) := rfl

/-- The last slab of weights: the gates' twelve columns, the forget gates' four. -/
theorem ldw17 (c : Dev nD) (t : Fin cfg0.N) (k : Fin 1024) (l : Fin 128) (hl : l.val < 16) (n : Fin 2960) (hn : n.val = wcol (2944 + l.val)) :
    View.ld (iblk m c 2 t : Vec Ideal S1024x3072 .bf16) r0_17 (ix2 k l) = wA m c (ix2 k n) := by
  pointwise
  exact wslab m c t k (2944 + l.val) (by omega) (by omega) n hn

/-- The bias row's block in the array. -/
theorem bias_blk (c : Dev nD) (t : Fin cfg0.N) (l : Fin 128) :
    (iblk m c 3 t : Vec Ideal S1x128 .f32) (ix2 0 l) = (V m c main_v4 : FVec Ideal S1x128 .f32) (ix2 0 l) := by
  blk_point [iblk, idx t]

/-- The bias row's block: the forget gate's bias at lanes 12 to 15, zero elsewhere. -/
theorem ldb (c : Dev nD) (t : Fin cfg0.N) (l : Fin 128) :
    (iblk m c 3 t : Vec Ideal S1x128 .f32) (ix2 0 l)
      = if h : 12 ≤ l.val ∧ l.val < 16 then fA m c (ix1 ⟨l.val - 12, by omega⟩) else (0 : EReal) := by
  exact (bias_blk m c t l).trans (bias_arr m c l)

/-- The body's gates. -/
theorem ker21 (c : Dev nD) (t : Fin cfg0.N) (r : Fin 512) (l : Fin 128) (W : Vec Ideal S1024x128 .bf16) (b : Vec Ideal S1x128 .f32)
    (hW : ∀ k (l : Fin 128) (_ : l.val < 16) (n : Fin 2960) (_ : n.val = wcol (2944 + l.val)), W (ix2 k l) = wA m c (ix2 k n))
    (hb : ∀ l : Fin 128, b (ix2 0 l) = if h : 12 ≤ l.val ∧ l.val < 16 then fA m c (ix1 ⟨l.val - 12, by omega⟩) else (0 : EReal)) :
    k0_pay1 (F := Ideal) (k0_pay34 (k0_pay2 (iblk m c 0 t) (iblk m c 1 t)) W b) (iota .tc S512x128 32 [1] iota_S512x128_d1_w32)
      (k0_pay35 (k0_pay2 (iblk m c 0 t) (iblk m c 1 t)) W b) (k0_pay36 (F := Ideal)) (ix2 r l) = Gm m c (bat t) (pos t r) l := by
  rw [e35, sel21, z34, hb]
  unfold Gm
  by_cases h1 : l.val < 12
  · rw [if_pos h1, if_pos h1, dif_neg (show ¬(12 ≤ l.val ∧ l.val < 16) by omega), add_zero,
      slab128 m c t W r l ⟨640 + l.val, by omega⟩ fun k => hW k l (by omega) _ (by simp only [wcol]; split_ifs <;> omega), Y_eq]
  by_cases h2 : l.val < 16
  · rw [if_neg h1, if_neg h1, if_pos h2, if_pos h2, dif_pos (show 12 ≤ l.val ∧ l.val < 16 by omega),
      slab128 m c t W r l ⟨2956 + (l.val - 12), by omega⟩ fun k => hW k l h2 _ (by simp only [wcol]; split_ifs <;> omega), Y_eq,
      fv_eq]
  · rw [if_neg h1, if_neg h1, if_neg h2, if_neg h2]

end Cert.KernelProjIdeal.Final

end
-- ==== Proof.ProjFin.lean ====
/- The input projection: every result array of the kernel is the reference's. -/
module

public import proofs.«01_k».proof.Defs
public import proofs.«01_k».proof.Proof.ProjRef
public import proofs.«01_k».proof.Proof.ProjKer
public import proofs.«01_k».proof.Proof.ProjGates

@[expose] public section

set_option maxRecDepth 16384

noncomputable section

namespace Cert.KernelProjIdeal.Final

open Idealize.ShloMosaic Idealize.ShloMosaic.TcCoe Idealize.SL.Sem
open Idealize.ShloMosaic.Pipeline (Dat)
open Cert.KernelProjIdeal Cert.KernelProjIdeal.Gen Cert.ReferenceProjIdeal.Read

variable (m : (ℓ : Loc nD τ sig) → Buf (Elt Ideal) ℓ)

/-- The first branch's queries, not rotated. -/
theorem final6 (c : Dev nD) : (dats m 0 c).arrAt 6 (cfgs 0).N = val_main_v112 (F := Ideal) (xA m c) (gA m c) (wA m c) := by
  refine (dats m 0 c).arrAt_eq_of_covers 6 _ (by decide +kernel) fun t _ y => ?_
  blk_simp
  rw [after0_6, out0_6]
  frame_out
  refine close t (G := Gs m c 0 256) (fun r l => ?_) (ref6 m c) y _ ?_ ?_
  · exact (scaled4 _ _ _ r l).trans (congrArg (fun e : EReal => e * Ideal.ofBits .f32 0x3E000000#32) (p256 m c t _ 0 (by omega) r (ldw2 m c t) l))
  · blk_ext [idxo t]
  · blk_ext [idxo t]

/-- The first branch's queries, rotated. -/
theorem final7 (c : Dev nD) : (dats m 0 c).arrAt 7 (cfgs 0).N = val_main_v137 (F := Ideal) (xA m c) (gA m c) (wA m c) (cosA m c) (sinA m c) := by
  refine (dats m 0 c).arrAt_eq_of_covers 7 _ (by decide +kernel) fun t _ y => ?_
  blk_simp
  rw [after0_7, out0_7]
  frame_out
  refine close t (G := Grs m c 0 512 256) (fun r l => ?_) (ref7 m c) y _ ?_ ?_
  · exact rot8 m c _ _ _ _ _ _ (pos t r) (fun k => yv m c (bat t) (pos t r) (0 + k)) r (p256 m c t _ 0 (by omega) r (ldw2 m c t)) (ld4_0 m c t r) (ld4_1 m c t r) (ld4_2 m c t r) l
  · blk_ext [idxo t]
  · blk_ext [idxo t]

/-- What the first branch compresses. -/
theorem final8 (c : Dev nD) : (dats m 0 c).arrAt 8 (cfgs 0).N = val_main_v138 (F := Ideal) (xA m c) (gA m c) (wA m c) := by
  refine (dats m 0 c).arrAt_eq_of_covers 8 _ (by decide +kernel) fun t _ y => ?_
  blk_simp
  rw [after0_8, out0_8]
  frame_out
  refine close t (G := Gp m c 256 128) (fun r l => ?_) (ref8 m c) y _ ?_ ?_
  · rw [pay37_eq]
    exact p128 m c t _ 256 (by omega) r (ldw7 m c t) l
  · blk_ext [idxo t]
  · blk_ext [idxo t]

/-- The selected blocks' keys and values. -/
theorem final9 (c : Dev nD) : (dats m 0 c).arrAt 9 (cfgs 0).N = val_main_v49 (F := Ideal) (xA m c) (gA m c) (wA m c) (cosA m c) (sinA m c) := by
  refine (dats m 0 c).arrAt_eq_of_covers 9 _ (by decide +kernel) fun t _ y => ?_
  blk_simp
  rw [after0_9, out0_9]
  frame_out
  refine close t (G := Gr m c 384 64 128) (fun r l => ?_) (ref9 m c) y _ ?_ ?_
  · unfold k0_pay38 k0_pay39
    rw [pay37_eq]
    exact rot12 m c _ _ _ _ _ (pos t r) (fun k => yv m c (bat t) (pos t r) (384 + k)) r (p128 m c t _ 384 (by omega) r (ldw9 m c t)) (ld5_0 m c t r) (ld5_1 m c t r) (ld5_2 m c t r) l
  · blk_ext [idxo t]
  · blk_ext [idxo t]

/-- Their cast. -/
theorem final10 (c : Dev nD) : (dats m 0 c).arrAt 10 (cfgs 0).N = val_main_v139 (F := Ideal) (xA m c) (gA m c) (wA m c) (cosA m c) (sinA m c) := by
  refine (dats m 0 c).arrAt_eq_of_covers 10 _ (by decide +kernel) fun t _ y => ?_
  blk_simp
  rw [after0_10, out0_10]
  frame_out
  refine close t (G := Gr m c 384 64 128) (fun r l => ?_) (ref10 m c) y _ ?_ ?_
  · unfold k0_pay38 k0_pay39 k0_pay13
    rw [pay37_eq]
    exact rot12 m c _ _ _ _ _ (pos t r) (fun k => yv m c (bat t) (pos t r) (384 + k)) r (p128 m c t _ 384 (by omega) r (ldw9 m c t)) (ld5_0 m c t r) (ld5_1 m c t r) (ld5_2 m c t r) l
  · blk_ext [idxo t]
  · blk_ext [idxo t]

/-- The window's keys and values. -/
theorem final11 (c : Dev nD) : (dats m 0 c).arrAt 11 (cfgs 0).N = val_main_v74 (F := Ideal) (xA m c) (gA m c) (wA m c) (cosA m c) (sinA m c) := by
  refine (dats m 0 c).arrAt_eq_of_covers 11 _ (by decide +kernel) fun t _ y => ?_
  blk_simp
  rw [after0_11, out0_11]
  frame_out
  refine close t (G := Gr m c 512 64 128) (fun r l => ?_) (ref11 m c) y _ ?_ ?_
  · unfold k0_pay40
    rw [pay37_eq]
    exact rot12 m c _ _ _ _ _ (pos t r) (fun k => yv m c (bat t) (pos t r) (512 + k)) r (p128 m c t _ 512 (by omega) r (ldw10 m c t)) (ld5_0 m c t r) (ld5_1 m c t r) (ld5_2 m c t r) l
  · blk_ext [idxo t]
  · blk_ext [idxo t]

/-- Their cast. -/
theorem final12 (c : Dev nD) : (dats m 0 c).arrAt 12 (cfgs 0).N = val_main_v140 (F := Ideal) (xA m c) (gA m c) (wA m c) (cosA m c) (sinA m c) := by
  refine (dats m 0 c).arrAt_eq_of_covers 12 _ (by decide +kernel) fun t _ y => ?_
  blk_simp
  rw [after0_12, out0_12]
  frame_out
  refine close t (G := Gr m c 512 64 128) (fun r l => ?_) (ref12 m c) y _ ?_ ?_
  · unfold k0_pay40 k0_pay15
    rw [pay37_eq]
    exact rot12 m c _ _ _ _ _ (pos t r) (fun k => yv m c (bat t) (pos t r) (512 + k)) r (p128 m c t _ 512 (by omega) r (ldw10 m c t)) (ld5_0 m c t r) (ld5_1 m c t r) (ld5_2 m c t r) l
  · blk_ext [idxo t]
  · blk_ext [idxo t]

/-- The second branch's queries, rotated. -/
theorem final13 (c : Dev nD) : (dats m 0 c).arrAt 13 (cfgs 0).N = val_main_v165 (F := Ideal) (xA m c) (gA m c) (wA m c) (cosA m c) (sinA m c) := by
  refine (dats m 0 c).arrAt_eq_of_covers 13 _ (by decide +kernel) fun t _ y => ?_
  blk_simp
  rw [after0_13, out0_13]
  frame_out
  refine close t (G := Grs m c 652 512 512) (fun r l => ?_) (ref13 m c) y _ ?_ ?_
  · rw [pay37_eq]
    exact (rot22 _ _ _ _ _ r l).trans (congrArg (fun e : EReal => e * Ideal.ofBits .f32 0x3E000000#32) (rot27 m c _ _ _ _ _ (pos t r) (fun k => yv m c (bat t) (pos t r) (652 + k)) r (p512 m c t _ 652 (by omega) r (ldw11 m c t)) (ld4_0 m c t r) (ld4_1 m c t r) (ld4_2 m c t r) l))
  · blk_ext [idxo t]
  · blk_ext [idxo t]

/-- The second branch's keys, rotated. -/
theorem final14 (c : Dev nD) : (dats m 0 c).arrAt 14 (cfgs 0).N = val_main_v96 (F := Ideal) (xA m c) (gA m c) (wA m c) (cosA m c) (sinA m c) := by
  refine (dats m 0 c).arrAt_eq_of_covers 14 _ (by decide +kernel) fun t _ y => ?_
  blk_simp
  rw [after0_14, out0_14]
  frame_out
  refine close t (G := Gr m c 1164 512 512) (fun r l => ?_) (ref14 m c) y _ ?_ ?_
  · unfold k0_pay41 k0_pay42 k0_pay43 k0_pay44
    rw [pay37_eq]
    exact rot27 m c _ _ _ _ _ (pos t r) (fun k => yv m c (bat t) (pos t r) (1164 + k)) r (p512 m c t _ 1164 (by omega) r (ldw13 m c t)) (ld4_0 m c t r) (ld4_1 m c t r) (ld4_2 m c t r) l
  · blk_ext [idxo t]
  · blk_ext [idxo t]

/-- Their cast. -/
theorem final15 (c : Dev nD) : (dats m 0 c).arrAt 15 (cfgs 0).N = val_main_v166 (F := Ideal) (xA m c) (gA m c) (wA m c) (cosA m c) (sinA m c) := by
  refine (dats m 0 c).arrAt_eq_of_covers 15 _ (by decide +kernel) fun t _ y => ?_
  blk_simp
  rw [after0_15, out0_15]
  frame_out
  refine close t (G := Gr m c 1164 512 512) (fun r l => ?_) (ref15 m c) y _ ?_ ?_
  · unfold k0_pay41 k0_pay42 k0_pay43 k0_pay44 k0_pay28
    rw [pay37_eq]
    exact rot27 m c _ _ _ _ _ (pos t r) (fun k => yv m c (bat t) (pos t r) (1164 + k)) r (p512 m c t _ 1164 (by omega) r (ldw13 m c t)) (ld4_0 m c t r) (ld4_1 m c t r) (ld4_2 m c t r) l
  · blk_ext [idxo t]
  · blk_ext [idxo t]

/-- The second branch's values. -/
theorem final16 (c : Dev nD) : (dats m 0 c).arrAt 16 (cfgs 0).N = val_main_v167 (F := Ideal) (xA m c) (gA m c) (wA m c) := by
  refine (dats m 0 c).arrAt_eq_of_covers 16 _ (by decide +kernel) fun t _ y => ?_
  blk_simp
  rw [after0_16, out0_16]
  frame_out
  refine close t (G := Gp m c 1676 512) (fun r l => ?_) (ref16 m c) y _ ?_ ?_
  · rw [pay37_eq]
    exact p512 m c t _ 1676 (by omega) r (ldw14 m c t) l
  · blk_ext [idxo t]
  · blk_ext [idxo t]

/-- Their cast. -/
theorem final17 (c : Dev nD) : (dats m 0 c).arrAt 17 (cfgs 0).N = val_main_v169 (F := Ideal) (xA m c) (gA m c) (wA m c) := by
  refine (dats m 0 c).arrAt_eq_of_covers 17 _ (by decide +kernel) fun t _ y => ?_
  blk_simp
  rw [after0_17, out0_17]
  frame_out
  refine close t (G := Gp m c 1676 512) (fun r l => ?_) (ref17 m c) y _ ?_ ?_
  · rw [pay37_eq]
    exact p512 m c t _ 1676 (by omega) r (ldw14 m c t) l
  · blk_ext [idxo t]
  · blk_ext [idxo t]

/-- The third branch's queries. -/
theorem final18 (c : Dev nD) : (dats m 0 c).arrAt 18 (cfgs 0).N = val_main_v173 (F := Ideal) (xA m c) (gA m c) (wA m c) := by
  refine (dats m 0 c).arrAt_eq_of_covers 18 _ (by decide +kernel) fun t _ y => ?_
  blk_simp
  rw [after0_18, out0_18]
  frame_out
  refine close t (G := Gs m c 2188 256) (fun r l => ?_) (ref18 m c) y _ ?_ ?_
  · rw [pay37_eq]
    exact (scaled4 _ _ _ r l).trans (congrArg (fun e : EReal => e * Ideal.ofBits .f32 0x3E000000#32) (p256 m c t _ 2188 (by omega) r (ldw15 m c t) l))
  · blk_ext [idxo t]
  · blk_ext [idxo t]

/-- The third branch's keys and values. -/
theorem final19 (c : Dev nD) : (dats m 0 c).arrAt 19 (cfgs 0).N = val_main_v174 (F := Ideal) (xA m c) (gA m c) (wA m c) := by
  refine (dats m 0 c).arrAt_eq_of_covers 19 _ (by decide +kernel) fun t _ y => ?_
  blk_simp
  rw [after0_19, out0_19]
  frame_out
  refine close t (G := Gp m c 2444 512) (fun r l => ?_) (ref19 m c) y _ ?_ ?_
  · rw [pay37_eq]
    exact p512 m c t _ 2444 (by omega) r (ldw16 m c t) l
  · blk_ext [idxo t]
  · blk_ext [idxo t]

/-- Their cast. -/
theorem final20 (c : Dev nD) : (dats m 0 c).arrAt 20 (cfgs 0).N = val_main_v176 (F := Ideal) (xA m c) (gA m c) (wA m c) := by
  refine (dats m 0 c).arrAt_eq_of_covers 20 _ (by decide +kernel) fun t _ y => ?_
  blk_simp
  rw [after0_20, out0_20]
  frame_out
  refine close t (G := Gp m c 2444 512) (fun r l => ?_) (ref20 m c) y _ ?_ ?_
  · rw [pay37_eq]
    exact p512 m c t _ 2444 (by omega) r (ldw16 m c t) l
  · blk_ext [idxo t]
  · blk_ext [idxo t]

/-- The gates and the logarithms of the forget gates. -/
theorem final21 (c : Dev nD) : (dats m 0 c).arrAt 21 (cfgs 0).N = val_main_v177 (F := Ideal) (xA m c) (gA m c) (wA m c) (fA m c) := by
  refine (dats m 0 c).arrAt_eq_of_covers 21 _ (by decide +kernel) fun t _ y => ?_
  blk_simp
  rw [after0_21, out0_21]
  frame_out
  refine close t (G := Gm m c) (fun r l => ?_) (ref21 m c) y _ ?_ ?_
  · rw [pay37_eq]
    exact ker21 m c t r l _ _ (ldw17 m c t) (ldb m c t)
  · blk_ext [idxo t]
  · blk_ext [idxo t]

end Cert.KernelProjIdeal.Final

end
-- ==== Proof.Proj.lean ====
/- The input projection: the kernel's sixteen results are the reference's. -/
module

public import proofs.«01_k».proof.Defs
public import proofs.«01_k».proof.Proof.ProjFin

@[expose] public section

set_option maxRecDepth 16384

noncomputable section

open Idealize.ShloMosaic Idealize.ShloMosaic.TcCoe Idealize.SL.Sem

namespace Cert.ReferenceProjIdeal.Final

open Cert.ReferenceProjIdeal Cert.ReferenceProjIdeal.Read

/-- The reference's run: its results are the stages' values, its arguments are unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v112) = val_main_v112 (F := Ideal) (m ((c.tc : Thread nD τ).loc main_arg0)) (m ((c.tc : Thread nD τ).loc main_arg1)) (m ((c.tc : Thread nD τ).loc main_arg2))
      ∧ r.2.mem ((c.tc : Thread nD τ).loc main_v137) = val_main_v137 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v138) = val_main_v138 (F := Ideal) (m ((c.tc : Thread nD τ).loc main_arg0)) (m ((c.tc : Thread nD τ).loc main_arg1)) (m ((c.tc : Thread nD τ).loc main_arg2))
      ∧ r.2.mem ((c.tc : Thread nD τ).loc main_v49) = val_main_v49 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v139) = val_main_v139 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v74) = val_main_v74 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v140) = val_main_v140 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v165) = val_main_v165 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v96) = val_main_v96 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v166) = val_main_v166 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v167) = val_main_v167 (F := Ideal) (m ((c.tc : Thread nD τ).loc main_arg0)) (m ((c.tc : Thread nD τ).loc main_arg1)) (m ((c.tc : Thread nD τ).loc main_arg2))
      ∧ r.2.mem ((c.tc : Thread nD τ).loc main_v169) = val_main_v169 (F := Ideal) (m ((c.tc : Thread nD τ).loc main_arg0)) (m ((c.tc : Thread nD τ).loc main_arg1)) (m ((c.tc : Thread nD τ).loc main_arg2))
      ∧ r.2.mem ((c.tc : Thread nD τ).loc main_v173) = val_main_v173 (F := Ideal) (m ((c.tc : Thread nD τ).loc main_arg0)) (m ((c.tc : Thread nD τ).loc main_arg1)) (m ((c.tc : Thread nD τ).loc main_arg2))
      ∧ r.2.mem ((c.tc : Thread nD τ).loc main_v174) = val_main_v174 (F := Ideal) (m ((c.tc : Thread nD τ).loc main_arg0)) (m ((c.tc : Thread nD τ).loc main_arg1)) (m ((c.tc : Thread nD τ).loc main_arg2))
      ∧ r.2.mem ((c.tc : Thread nD τ).loc main_v176) = val_main_v176 (F := Ideal) (m ((c.tc : Thread nD τ).loc main_arg0)) (m ((c.tc : Thread nD τ).loc main_arg1)) (m ((c.tc : Thread nD τ).loc main_arg2))
      ∧ r.2.mem ((c.tc : Thread nD τ).loc main_v177) = val_main_v177 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Idealize.ShloMosaic.θ_run_mono (Cert.ReferenceProjIdeal.Value.run m g) ?_
  intro r h c
  obtain ⟨h0, h1, h2, h3, h4, h5, h6, h7, h8, h9, h10, h11, h12, h13, h14, h15, ha⟩ := h c
  exact ⟨h0.trans (val_main_v112_eq _), h1.trans (val_main_v137_eq _), h2.trans (val_main_v138_eq _), h3.trans (val_main_v49_eq _), h4.trans (val_main_v139_eq _), h5.trans (val_main_v74_eq _), h6.trans (val_main_v140_eq _), h7.trans (val_main_v165_eq _), h8.trans (val_main_v96_eq _), h9.trans (val_main_v166_eq _), h10.trans (val_main_v167_eq _), h11.trans (val_main_v169_eq _), h12.trans (val_main_v173_eq _), h13.trans (val_main_v174_eq _), h14.trans (val_main_v176_eq _), h15.trans (val_main_v177_eq _), ha⟩

end Cert.ReferenceProjIdeal.Final

namespace Cert.KernelProjIdeal.Final

open Cert.KernelProjIdeal Cert.KernelProjIdeal.Gen Cert.ReferenceProjIdeal.Read

set_option maxHeartbeats 3000000 in
/-- The kernel's run: its result arrays are the reference's values of its own arguments, which are unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v40_0) = val_main_v112 (F := Ideal) (xA m c) (gA m c) (wA m c)
      ∧ r.2.mem ((c.tc : Thread nD τ).loc main_v40_1) = val_main_v137 (F := Ideal) (xA m c) (gA m c) (wA m c) (cosA m c) (sinA m c)
      ∧ r.2.mem ((c.tc : Thread nD τ).loc main_v40_2) = val_main_v138 (F := Ideal) (xA m c) (gA m c) (wA m c)
      ∧ r.2.mem ((c.tc : Thread nD τ).loc main_v40_3) = val_main_v49 (F := Ideal) (xA m c) (gA m c) (wA m c) (cosA m c) (sinA m c)
      ∧ r.2.mem ((c.tc : Thread nD τ).loc main_v40_4) = val_main_v139 (F := Ideal) (xA m c) (gA m c) (wA m c) (cosA m c) (sinA m c)
      ∧ r.2.mem ((c.tc : Thread nD τ).loc main_v40_5) = val_main_v74 (F := Ideal) (xA m c) (gA m c) (wA m c) (cosA m c) (sinA m c)
      ∧ r.2.mem ((c.tc : Thread nD τ).loc main_v40_6) = val_main_v140 (F := Ideal) (xA m c) (gA m c) (wA m c) (cosA m c) (sinA m c)
      ∧ r.2.mem ((c.tc : Thread nD τ).loc main_v40_7) = val_main_v165 (F := Ideal) (xA m c) (gA m c) (wA m c) (cosA m c) (sinA m c)
      ∧ r.2.mem ((c.tc : Thread nD τ).loc main_v40_8) = val_main_v96 (F := Ideal) (xA m c) (gA m c) (wA m c) (cosA m c) (sinA m c)
      ∧ r.2.mem ((c.tc : Thread nD τ).loc main_v40_9) = val_main_v166 (F := Ideal) (xA m c) (gA m c) (wA m c) (cosA m c) (sinA m c)
      ∧ r.2.mem ((c.tc : Thread nD τ).loc main_v40_10) = val_main_v167 (F := Ideal) (xA m c) (gA m c) (wA m c)
      ∧ r.2.mem ((c.tc : Thread nD τ).loc main_v40_11) = val_main_v169 (F := Ideal) (xA m c) (gA m c) (wA m c)
      ∧ r.2.mem ((c.tc : Thread nD τ).loc main_v40_12) = val_main_v173 (F := Ideal) (xA m c) (gA m c) (wA m c)
      ∧ r.2.mem ((c.tc : Thread nD τ).loc main_v40_13) = val_main_v174 (F := Ideal) (xA m c) (gA m c) (wA m c)
      ∧ r.2.mem ((c.tc : Thread nD τ).loc main_v40_14) = val_main_v176 (F := Ideal) (xA m c) (gA m c) (wA m c)
      ∧ r.2.mem ((c.tc : Thread nD τ).loc main_v40_15) = val_main_v177 (F := Ideal) (xA m c) (gA m c) (wA m c) (fA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Idealize.ShloMosaic.θ_run_mono (Idealize.ShloMosaic.θ_run_and (run_main m g) (unchanged m g)) ?_
  intro r h c
  have hw := (h.1 c).1
  exact ⟨(hw 6).trans (final6 m c), (hw 7).trans (final7 m c), (hw 8).trans (final8 m c), (hw 9).trans (final9 m c), (hw 10).trans (final10 m c), (hw 11).trans (final11 m c), (hw 12).trans (final12 m c), (hw 13).trans (final13 m c), (hw 14).trans (final14 m c), (hw 15).trans (final15 m c), (hw 16).trans (final16 m c), (hw 17).trans (final17 m c), (hw 18).trans (final18 m c), (hw 19).trans (final19 m c), (hw 20).trans (final20 m c), (hw 21).trans (final21 m c), h.2 c⟩

end Cert.KernelProjIdeal.Final

/-- The kernel's sixteen results equal the reference's over the extended reals, for all arguments. -/
theorem Cert.Proof.proj : Cert.algebraic_KernelProjIdeal_ReferenceProjIdeal
    (hKernelProjIdeal := Cert.KernelProjIdeal.Gen.facts) (hReferenceProjIdeal := Cert.ReferenceProjIdeal.Gen.facts) := by
  intro m g m' g' hpre hagree
  refine ⟨fun c => Cert.ReferenceProjIdeal.Read.val_main_v112 (F := Ideal) (Cert.KernelProjIdeal.Final.xA m c) (Cert.KernelProjIdeal.Final.gA m c) (Cert.KernelProjIdeal.Final.wA m c), fun c => Cert.ReferenceProjIdeal.Read.val_main_v137 (F := Ideal) (Cert.KernelProjIdeal.Final.xA m c) (Cert.KernelProjIdeal.Final.gA m c) (Cert.KernelProjIdeal.Final.wA m c) (Cert.KernelProjIdeal.Final.cosA m c) (Cert.KernelProjIdeal.Final.sinA m c), fun c => Cert.ReferenceProjIdeal.Read.val_main_v138 (F := Ideal) (Cert.KernelProjIdeal.Final.xA m c) (Cert.KernelProjIdeal.Final.gA m c) (Cert.KernelProjIdeal.Final.wA m c), fun c => Cert.ReferenceProjIdeal.Read.val_main_v49 (F := Ideal) (Cert.KernelProjIdeal.Final.xA m c) (Cert.KernelProjIdeal.Final.gA m c) (Cert.KernelProjIdeal.Final.wA m c) (Cert.KernelProjIdeal.Final.cosA m c) (Cert.KernelProjIdeal.Final.sinA m c), fun c => Cert.ReferenceProjIdeal.Read.val_main_v139 (F := Ideal) (Cert.KernelProjIdeal.Final.xA m c) (Cert.KernelProjIdeal.Final.gA m c) (Cert.KernelProjIdeal.Final.wA m c) (Cert.KernelProjIdeal.Final.cosA m c) (Cert.KernelProjIdeal.Final.sinA m c), fun c => Cert.ReferenceProjIdeal.Read.val_main_v74 (F := Ideal) (Cert.KernelProjIdeal.Final.xA m c) (Cert.KernelProjIdeal.Final.gA m c) (Cert.KernelProjIdeal.Final.wA m c) (Cert.KernelProjIdeal.Final.cosA m c) (Cert.KernelProjIdeal.Final.sinA m c), fun c => Cert.ReferenceProjIdeal.Read.val_main_v140 (F := Ideal) (Cert.KernelProjIdeal.Final.xA m c) (Cert.KernelProjIdeal.Final.gA m c) (Cert.KernelProjIdeal.Final.wA m c) (Cert.KernelProjIdeal.Final.cosA m c) (Cert.KernelProjIdeal.Final.sinA m c), fun c => Cert.ReferenceProjIdeal.Read.val_main_v165 (F := Ideal) (Cert.KernelProjIdeal.Final.xA m c) (Cert.KernelProjIdeal.Final.gA m c) (Cert.KernelProjIdeal.Final.wA m c) (Cert.KernelProjIdeal.Final.cosA m c) (Cert.KernelProjIdeal.Final.sinA m c), fun c => Cert.ReferenceProjIdeal.Read.val_main_v96 (F := Ideal) (Cert.KernelProjIdeal.Final.xA m c) (Cert.KernelProjIdeal.Final.gA m c) (Cert.KernelProjIdeal.Final.wA m c) (Cert.KernelProjIdeal.Final.cosA m c) (Cert.KernelProjIdeal.Final.sinA m c), fun c => Cert.ReferenceProjIdeal.Read.val_main_v166 (F := Ideal) (Cert.KernelProjIdeal.Final.xA m c) (Cert.KernelProjIdeal.Final.gA m c) (Cert.KernelProjIdeal.Final.wA m c) (Cert.KernelProjIdeal.Final.cosA m c) (Cert.KernelProjIdeal.Final.sinA m c), fun c => Cert.ReferenceProjIdeal.Read.val_main_v167 (F := Ideal) (Cert.KernelProjIdeal.Final.xA m c) (Cert.KernelProjIdeal.Final.gA m c) (Cert.KernelProjIdeal.Final.wA m c), fun c => Cert.ReferenceProjIdeal.Read.val_main_v169 (F := Ideal) (Cert.KernelProjIdeal.Final.xA m c) (Cert.KernelProjIdeal.Final.gA m c) (Cert.KernelProjIdeal.Final.wA m c), fun c => Cert.ReferenceProjIdeal.Read.val_main_v173 (F := Ideal) (Cert.KernelProjIdeal.Final.xA m c) (Cert.KernelProjIdeal.Final.gA m c) (Cert.KernelProjIdeal.Final.wA m c), fun c => Cert.ReferenceProjIdeal.Read.val_main_v174 (F := Ideal) (Cert.KernelProjIdeal.Final.xA m c) (Cert.KernelProjIdeal.Final.gA m c) (Cert.KernelProjIdeal.Final.wA m c), fun c => Cert.ReferenceProjIdeal.Read.val_main_v176 (F := Ideal) (Cert.KernelProjIdeal.Final.xA m c) (Cert.KernelProjIdeal.Final.gA m c) (Cert.KernelProjIdeal.Final.wA m c), fun c => Cert.ReferenceProjIdeal.Read.val_main_v177 (F := Ideal) (Cert.KernelProjIdeal.Final.xA m c) (Cert.KernelProjIdeal.Final.gA m c) (Cert.KernelProjIdeal.Final.wA m c) (Cert.KernelProjIdeal.Final.fA m c), Cert.KernelProjIdeal.Final.run m g, ?_⟩
  refine Idealize.ShloMosaic.θ_run_mono (Cert.ReferenceProjIdeal.Final.run m' g') ?_
  intro r h c
  obtain ⟨e0, e1, e2, e3, e4, e5⟩ := hagree c
  obtain ⟨h0, h1, h2, h3, h4, h5, h6, h7, h8, h9, h10, h11, h12, h13, h14, h15, ha⟩ := h c
  rw [e0, e1, e2] at h0
  rw [e0, e1, e2, e4, e5] at h1
  rw [e0, e1, e2] at h2
  rw [e0, e1, e2, e4, e5] at h3
  rw [e0, e1, e2, e4, e5] at h4
  rw [e0, e1, e2, e4, e5] at h5
  rw [e0, e1, e2, e4, e5] at h6
  rw [e0, e1, e2, e4, e5] at h7
  rw [e0, e1, e2, e4, e5] at h8
  rw [e0, e1, e2, e4, e5] at h9
  rw [e0, e1, e2] at h10
  rw [e0, e1, e2] at h11
  rw [e0, e1, e2] at h12
  rw [e0, e1, e2] at h13
  rw [e0, e1, e2] at h14
  rw [e0, e1, e2, e3] at h15
  exact ⟨h0, h1, h2, h3, h4, h5, h6, h7, h8, h9, h10, h11, h12, h13, h14, h15, ha⟩

end
-- ==== Proof.lean ====
/- The whole certificate: every program's frame, that no program was rewritten between its two readings, and each kernel's
   value against its reference (the theorems of the modules beside this one). -/
module

public import proofs.«01_k».proof.Defs
public import proofs.«01_k».proof.Proof.Gen.Kernel.Frame
public import proofs.«01_k».proof.Proof.Gen.KernelIdeal.Frame
public import proofs.«01_k».proof.Proof.Gen.KernelUp.Frame
public import proofs.«01_k».proof.Proof.Gen.KernelUpIdeal.Frame
public import proofs.«01_k».proof.Proof.Gen.KernelDown.Frame
public import proofs.«01_k».proof.Proof.Gen.KernelDownIdeal.Frame
public import proofs.«01_k».proof.Proof.Gen.KernelMkv.Frame
public import proofs.«01_k».proof.Proof.Gen.KernelMkvIdeal.Frame
public import proofs.«01_k».proof.Proof.Gen.KernelOut.Frame
public import proofs.«01_k».proof.Proof.Gen.KernelOutIdeal.Frame
public import proofs.«01_k».proof.Proof.Gen.KernelMq.Frame
public import proofs.«01_k».proof.Proof.Gen.KernelMqIdeal.Frame
public import proofs.«01_k».proof.Proof.Gen.KernelMo.Frame
public import proofs.«01_k».proof.Proof.Gen.KernelMoIdeal.Frame
public import proofs.«01_k».proof.Proof.Gen.KernelXattn.Frame
public import proofs.«01_k».proof.Proof.Gen.KernelXattnIdeal.Frame
public import proofs.«01_k».proof.Proof.Gen.KernelProj.Frame
public import proofs.«01_k».proof.Proof.Gen.KernelProjIdeal.Frame
public import proofs.«01_k».proof.Proof.Gen.ReferenceIdeal.Run
public import proofs.«01_k».proof.Proof.Gen.ReferenceUpIdeal.Run
public import proofs.«01_k».proof.Proof.Gen.ReferenceDownIdeal.Run
public import proofs.«01_k».proof.Proof.Gen.ReferenceMkvIdeal.Run
public import proofs.«01_k».proof.Proof.Gen.ReferenceOutIdeal.Run
public import proofs.«01_k».proof.Proof.Gen.ReferenceMqIdeal.Run
public import proofs.«01_k».proof.Proof.Gen.ReferenceMoIdeal.Run
public import proofs.«01_k».proof.Proof.Gen.ReferenceXattnIdeal.Run
public import proofs.«01_k».proof.Proof.Gen.ReferenceProjIdeal.Run
public import proofs.«01_k».proof.Proof.Diff
public import proofs.«01_k».proof.Proof.Up
public import proofs.«01_k».proof.Proof.Down
public import proofs.«01_k».proof.Proof.Mkv
public import proofs.«01_k».proof.Proof.Out
public import proofs.«01_k».proof.Proof.Mq
public import proofs.«01_k».proof.Proof.Mo
public import proofs.«01_k».proof.Proof.Xattn
public import proofs.«01_k».proof.Proof.Proj
public import proofs.«01_k».proof.Proof.Gen.Pre_finite_args
public import proofs.«01_k».proof.Proof.Gen.Pre_finite_xattn
public import Idealize.ShloMosaic.Adequacy
public import Idealize.ShloMosaic.Init

@[expose] public section

noncomputable section

namespace Cert.Proof

open Idealize.ShloMosaic Idealize.SL.Sem

/-- Everything that is claimed. A reference declares no semaphore, so its counters end at zero. -/
theorem claim : Cert.Claim :=
  ⟨Cert.Kernel.Gen.facts, Cert.KernelIdeal.Gen.facts, Cert.ReferenceIdeal.Gen.facts, Cert.KernelUp.Gen.facts, Cert.KernelUpIdeal.Gen.facts, Cert.ReferenceUpIdeal.Gen.facts, Cert.KernelDown.Gen.facts, Cert.KernelDownIdeal.Gen.facts, Cert.ReferenceDownIdeal.Gen.facts, Cert.KernelMkv.Gen.facts, Cert.KernelMkvIdeal.Gen.facts, Cert.ReferenceMkvIdeal.Gen.facts, Cert.KernelOut.Gen.facts, Cert.KernelOutIdeal.Gen.facts, Cert.ReferenceOutIdeal.Gen.facts, Cert.KernelMq.Gen.facts, Cert.KernelMqIdeal.Gen.facts, Cert.ReferenceMqIdeal.Gen.facts, Cert.KernelMo.Gen.facts, Cert.KernelMoIdeal.Gen.facts, Cert.ReferenceMoIdeal.Gen.facts, Cert.KernelXattn.Gen.facts, Cert.KernelXattnIdeal.Gen.facts, Cert.ReferenceXattnIdeal.Gen.facts, Cert.KernelProj.Gen.facts, Cert.KernelProjIdeal.Gen.facts, Cert.ReferenceProjIdeal.Gen.facts, Cert.Pre_finite_args.Gen.facts, Cert.Pre_finite_xattn.Gen.facts,
   fun m ρ _ => Cert.Kernel.Gen.frame m ρ,
   fun m ρ _ => Cert.KernelIdeal.Gen.frame m ρ,
   fun m ρ _ => Cert.KernelIdeal.Gen.frame m ρ,
   fun m ρ _ => (θ_run Cert.ReferenceIdeal.defs _ _).mono
     (fun r h => ⟨fun c => (h c).2, sem_eq_zero_of_no_sems (by decide) r.2⟩) (Cert.ReferenceIdeal.Value.run m ρ),
   fun m ρ _ => (θ_run Cert.ReferenceIdeal.defs _ _).mono
     (fun r h => ⟨fun c => (h c).2, sem_eq_zero_of_no_sems (by decide) r.2⟩) (Cert.ReferenceIdeal.Value.run m ρ),
   fun m ρ _ => Cert.KernelUp.Gen.frame m ρ,
   fun m ρ _ => Cert.KernelUpIdeal.Gen.frame m ρ,
   fun m ρ _ => (θ_run Cert.ReferenceUpIdeal.defs _ _).mono
     (fun r h => ⟨fun c => (h c).2, sem_eq_zero_of_no_sems (by decide) r.2⟩) (Cert.ReferenceUpIdeal.Value.run m ρ),
   fun m ρ _ => Cert.KernelDown.Gen.frame m ρ,
   fun m ρ _ => Cert.KernelDownIdeal.Gen.frame m ρ,
   fun m ρ _ => (θ_run Cert.ReferenceDownIdeal.defs _ _).mono
     (fun r h => ⟨fun c => (h c).2, sem_eq_zero_of_no_sems (by decide) r.2⟩) (Cert.ReferenceDownIdeal.Value.run m ρ),
   fun m ρ _ => Cert.KernelMkv.Gen.frame m ρ,
   fun m ρ _ => Cert.KernelMkvIdeal.Gen.frame m ρ,
   fun m ρ _ => (θ_run Cert.ReferenceMkvIdeal.defs _ _).mono
     (fun r h => ⟨fun c => (h c).2, sem_eq_zero_of_no_sems (by decide) r.2⟩) (Cert.ReferenceMkvIdeal.Value.run m ρ),
   fun m ρ _ => Cert.KernelOut.Gen.frame m ρ,
   fun m ρ _ => Cert.KernelOutIdeal.Gen.frame m ρ,
   fun m ρ _ => (θ_run Cert.ReferenceOutIdeal.defs _ _).mono
     (fun r h => ⟨fun c => (h c).2, sem_eq_zero_of_no_sems (by decide) r.2⟩) (Cert.ReferenceOutIdeal.Value.run m ρ),
   fun m ρ _ => Cert.KernelMq.Gen.frame m ρ,
   fun m ρ _ => Cert.KernelMqIdeal.Gen.frame m ρ,
   fun m ρ _ => (θ_run Cert.ReferenceMqIdeal.defs _ _).mono
     (fun r h => ⟨fun c => (h c).2, sem_eq_zero_of_no_sems (by decide) r.2⟩) (Cert.ReferenceMqIdeal.Value.run m ρ),
   fun m ρ _ => Cert.KernelMo.Gen.frame m ρ,
   fun m ρ _ => Cert.KernelMoIdeal.Gen.frame m ρ,
   fun m ρ _ => (θ_run Cert.ReferenceMoIdeal.defs _ _).mono
     (fun r h => ⟨fun c => (h c).2, sem_eq_zero_of_no_sems (by decide) r.2⟩) (Cert.ReferenceMoIdeal.Value.run m ρ),
   fun m ρ _ => Cert.KernelXattn.Gen.frame m ρ,
   fun m ρ _ => Cert.KernelXattnIdeal.Gen.frame m ρ,
   fun m ρ _ => Cert.KernelXattnIdeal.Gen.frame m ρ,
   fun m ρ _ => (θ_run Cert.ReferenceXattnIdeal.defs _ _).mono
     (fun r h => ⟨fun c => (h c).2, sem_eq_zero_of_no_sems (by decide) r.2⟩) (Cert.ReferenceXattnIdeal.Value.run m ρ),
   fun m ρ _ => (θ_run Cert.ReferenceXattnIdeal.defs _ _).mono
     (fun r h => ⟨fun c => (h c).2, sem_eq_zero_of_no_sems (by decide) r.2⟩) (Cert.ReferenceXattnIdeal.Value.run m ρ),
   fun m ρ _ => Cert.KernelProj.Gen.frame m ρ,
   fun m ρ _ => Cert.KernelProjIdeal.Gen.frame m ρ,
   fun m ρ _ => (θ_run Cert.ReferenceProjIdeal.defs _ _).mono
     (fun r h => ⟨fun c => (h c).2.2.2.2.2.2.2.2.2.2.2.2.2.2.2.2, sem_eq_zero_of_no_sems (by decide) r.2⟩) (Cert.ReferenceProjIdeal.Value.run m ρ),
   trivial,
   diff,
   trivial,
   up,
   trivial,
   down,
   trivial,
   mkv,
   trivial,
   out,
   trivial,
   mq,
   trivial,
   mo,
   trivial,
   xattn,
   trivial,
   proj⟩

end Cert.Proof

end
